-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_prompt [hPre_finite_prompt : Cert.Pre_finite_prompt.Facts] (m : (ℓ : Loc Cert.KernelIdeal.nD Cert.KernelIdeal.τ Cert.KernelIdeal.sig) → Buf (Elt Ideal) ℓ) : Prop :=
  ∀ c : Dev Cert.KernelIdeal.nD,
    (Cert.Pre_finite_prompt.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_prompt.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_prompt.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_prompt [hPre_finite_prompt : Cert.Pre_finite_prompt.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_prompt.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_prompt.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_prompt.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_sample [hPre_finite_sample : Cert.Pre_finite_sample.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_sample.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).1 = (fun _ => 1#1)
    ∧ (Cert.Pre_finite_sample.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.1 = (fun _ => 1#1)
    ∧ (Cert.Pre_finite_sample.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.1 = (fun _ => 1#1)
    ∧ (Cert.Pre_finite_sample.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_sample [hPre_finite_sample : Cert.Pre_finite_sample.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_sample.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).1 = (fun _ => 1#1)
    ∧ (Cert.Pre_finite_sample.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.1 = (fun _ => 1#1)
    ∧ (Cert.Pre_finite_sample.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.1 = (fun _ => 1#1)
    ∧ (Cert.Pre_finite_sample.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_prompt [hKernelIdeal : Cert.KernelIdeal.Facts] [hPre_finite_prompt : Cert.Pre_finite_prompt.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_prompt m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_prompt [hReferenceIdeal : Cert.ReferenceIdeal.Facts] [hPre_finite_prompt : Cert.Pre_finite_prompt.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_prompt m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite_sample [hKernel6Ideal : Cert.Kernel6Ideal.Facts] [hPre_finite_sample : Cert.Pre_finite_sample.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_sample m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite_sample [hReference6Ideal : Cert.Reference6Ideal.Facts] [hPre_finite_sample : Cert.Pre_finite_sample.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_sample m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_prompt [hKernelIdeal : Cert.KernelIdeal.Facts] [hReferenceIdeal : Cert.ReferenceIdeal.Facts] [hPre_finite_prompt : Cert.Pre_finite_prompt.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_prompt m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)) (v3 : (c : Dev Cert.Kernel3Ideal.nD) → Buf (Elt Ideal) ((c.tc : Thread Cert.Kernel3Ideal.nD Cert.Kernel3Ideal.τ).loc Cert.Kernel3Ideal.main_v1_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_v1_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_v32) = v1 c
          ∧ r.2.mem ((c.tc : Thread Cert.Reference3Ideal.nD Cert.Reference3Ideal.τ).loc Cert.Reference3Ideal.main_v33) = v2 c
          ∧ r.2.mem ((c.tc : Thread Cert.Reference3Ideal.nD Cert.Reference3Ideal.τ).loc Cert.Reference3Ideal.main_v6) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  IdealRules.named_const.Statement Cert.Kernel6Ideal.κ "mask" .f32 0xF149F2CA#32 ⊥

def algebraic_Kernel6Ideal_Reference6Ideal_pre_finite_sample [hKernel6Ideal : Cert.Kernel6Ideal.Facts] [hReference6Ideal : Cert.Reference6Ideal.Facts] [hPre_finite_sample : Cert.Pre_finite_sample.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_sample m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v91)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v91) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v82) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v40)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v40) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v89) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_v27) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v13) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite_prompt : Cert.Pre_finite_prompt.Facts) (hPre_finite_sample : Cert.Pre_finite_sample.Facts),
    quiescent_Kernel (hKernel := hKernel)
    ∧ quiescent_KernelIdeal (hKernelIdeal := hKernelIdeal)
    ∧ quiescent_KernelIdeal_pre_finite_prompt (hKernelIdeal := hKernelIdeal) (hPre_finite_prompt := hPre_finite_prompt)
    ∧ quiescent_ReferenceIdeal (hReferenceIdeal := hReferenceIdeal)
    ∧ quiescent_ReferenceIdeal_pre_finite_prompt (hReferenceIdeal := hReferenceIdeal) (hPre_finite_prompt := hPre_finite_prompt)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_sample (hKernel6Ideal := hKernel6Ideal) (hPre_finite_sample := hPre_finite_sample)
    ∧ quiescent_Reference6Ideal (hReference6Ideal := hReference6Ideal)
    ∧ quiescent_Reference6Ideal_pre_finite_sample (hReference6Ideal := hReference6Ideal) (hPre_finite_sample := hPre_finite_sample)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite_prompt (hKernelIdeal := hKernelIdeal) (hReferenceIdeal := hReferenceIdeal) (hPre_finite_prompt := hPre_finite_prompt)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_sample (hKernel6Ideal := hKernel6Ideal) (hReference6Ideal := hReference6Ideal) (hPre_finite_sample := hPre_finite_sample)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite_prompt.lean ====
abbrev S8320x5120 : Shape := ⟨2, ![8320, 5120]⟩
abbrev S64 : Shape := ⟨1, ![64]⟩
abbrev S32x64 : Shape := ⟨2, ![32, 64]⟩
abbrev S8192x4608 : Shape := ⟨2, ![8192, 4608]⟩
abbrev S_ : Shape := ⟨0, ![]⟩

class Facts : Prop where
  slices_S8320x5120_S8192x4608_0_0 : S8320x5120.Slices ![0, 0] S8192x4608
  bcast_S_S8192x4608 : S_.BroadcastsInDim S8192x4608 (![] : Fin 0 → Fin S8192x4608.rank)
  bcast_S_S64 : S_.BroadcastsInDim S64 (![] : Fin 0 → Fin S64.rank)
  bcast_S_S32x64 : S_.BroadcastsInDim S32x64 (![] : Fin 0 → Fin S32x64.rank)

variable [Facts]

def fn {F : FTy → Type} [FloatOps F] (main_arg0 : FVec F S8320x5120 .f32) (main_arg1 : FVec F S64 .f32) (main_arg2 : FVec F S32x64 .f32) : IVec S8192x4608 1 × IVec S64 1 × IVec S32x64 1 :=
  let main_v0 : FVec F S8192x4608 .f32 := (extractStridedSlice S8192x4608 ![0, 0] · slices_S8320x5120_S8192x4608_0_0) main_arg0
  let main_cst : FVec F S_ .f32 := constant S_ .f32 0xFF800000#32
  let main_v1 : FVec F S8192x4608 .f32 := broadcastInDim S8192x4608 ![] bcast_S_S8192x4608 main_cst
  let main_v2 : IVec S8192x4608 1 := cmpf .ogt main_v0 main_v1
  let main_cst_0 : FVec F S_ .f32 := constant S_ .f32 0x7F800000#32
  let main_v3 : FVec F S8192x4608 .f32 := broadcastInDim S8192x4608 ![] bcast_S_S8192x4608 main_cst_0
  let main_v4 : IVec S8192x4608 1 := cmpf .olt main_v0 main_v3
  let main_v5 : IVec S8192x4608 1 := andi main_v2 main_v4
  let main_cst_1 : FVec F S_ .f32 := constant S_ .f32 0xFF800000#32
  let main_v6 : FVec F S64 .f32 := broadcastInDim S64 ![] bcast_S_S64 main_cst_1
  let main_v7 : IVec S64 1 := cmpf .ogt main_arg1 main_v6
  let main_cst_2 : FVec F S_ .f32 := constant S_ .f32 0x7F800000#32
  let main_v8 : FVec F S64 .f32 := broadcastInDim S64 ![] bcast_S_S64 main_cst_2
  let main_v9 : IVec S64 1 := cmpf .olt main_arg1 main_v8
  let main_v10 : IVec S64 1 := andi main_v7 main_v9
  let main_cst_3 : FVec F S_ .f32 := constant S_ .f32 0xFF800000#32
  let main_v11 : FVec F S32x64 .f32 := broadcastInDim S32x64 ![] bcast_S_S32x64 main_cst_3
  let main_v12 : IVec S32x64 1 := cmpf .ogt main_arg2 main_v11
  let main_cst_4 : FVec F S_ .f32 := constant S_ .f32 0x7F800000#32
  let main_v13 : FVec F S32x64 .f32 := broadcastInDim S32x64 ![] bcast_S_S32x64 main_cst_4
  let main_v14 : IVec S32x64 1 := cmpf .olt main_arg2 main_v13
  let main_v15 : IVec S32x64 1 := andi main_v12 main_v14
  (main_v5, main_v10, main_v15)
-- ==== Pre_finite_sample.lean ====
abbrev S8320x5120 : Shape := ⟨2, ![8320, 5120]⟩
abbrev S32x128x8x64 : Shape := ⟨4, ![32, 128, 8, 64]⟩
abbrev S64 : Shape := ⟨1, ![64]⟩
abbrev S32x64 : Shape := ⟨2, ![32, 64]⟩
abbrev S128x4608 : Shape := ⟨2, ![128, 4608]⟩
abbrev S_ : Shape := ⟨0, ![]⟩

class Facts : Prop where
  slices_S8320x5120_S128x4608_8192_0 : S8320x5120.Slices ![8192, 0] S128x4608
  bcast_S_S128x4608 : S_.BroadcastsInDim S128x4608 (![] : Fin 0 → Fin S128x4608.rank)
  bcast_S_S32x128x8x64 : S_.BroadcastsInDim S32x128x8x64 (![] : Fin 0 → Fin S32x128x8x64.rank)
  bcast_S_S64 : S_.BroadcastsInDim S64 (![] : Fin 0 → Fin S64.rank)
  bcast_S_S32x64 : S_.BroadcastsInDim S32x64 (![] : Fin 0 → Fin S32x64.rank)

variable [Facts]

def fn_part1 {F : FTy → Type} [FloatOps F] (main_arg4 : FVec F S32x64 .f32) (main_v5 : IVec S128x4608 1) (main_v10 : IVec S32x128x8x64 1) (main_v15 : IVec S64 1) (main_v16 : FVec F S32x64 .f32) : IVec S128x4608 1 × IVec S32x128x8x64 1 × IVec S64 1 × IVec S32x64 1 :=
  let main_v17 : IVec S32x64 1 := cmpf .ogt main_arg4 main_v16
  let main_cst_6 : FVec F S_ .f32 := constant S_ .f32 0x7F800000#32
  let main_v18 : FVec F S32x64 .f32 := broadcastInDim S32x64 ![] bcast_S_S32x64 main_cst_6
  let main_v19 : IVec S32x64 1 := cmpf .olt main_arg4 main_v18
  let main_v20 : IVec S32x64 1 := andi main_v17 main_v19
  (main_v5, main_v10, main_v15, main_v20)

def fn {F : FTy → Type} [FloatOps F] (main_arg0 : FVec F S8320x5120 .f32) (main_arg1 : FVec F S32x128x8x64 .f32) (main_arg2 : FVec F S32x128x8x64 .f32) (main_arg3 : FVec F S64 .f32) (main_arg4 : FVec F S32x64 .f32) : IVec S128x4608 1 × IVec S32x128x8x64 1 × IVec S64 1 × IVec S32x64 1 :=
  let main_v0 : FVec F S128x4608 .f32 := (extractStridedSlice S128x4608 ![8192, 0] · slices_S8320x5120_S128x4608_8192_0) main_arg0
  let main_cst : FVec F S_ .f32 := constant S_ .f32 0xFF800000#32
  let main_v1 : FVec F S128x4608 .f32 := broadcastInDim S128x4608 ![] bcast_S_S128x4608 main_cst
  let main_v2 : IVec S128x4608 1 := cmpf .ogt main_v0 main_v1
  let main_cst_0 : FVec F S_ .f32 := constant S_ .f32 0x7F800000#32
  let main_v3 : FVec F S128x4608 .f32 := broadcastInDim S128x4608 ![] bcast_S_S128x4608 main_cst_0
  let main_v4 : IVec S128x4608 1 := cmpf .olt main_v0 main_v3
  let main_v5 : IVec S128x4608 1 := andi main_v2 main_v4
  let main_cst_1 : FVec F S_ .f32 := constant S_ .f32 0xFF800000#32
  let main_v6 : FVec F S32x128x8x64 .f32 := broadcastInDim S32x128x8x64 ![] bcast_S_S32x128x8x64 main_cst_1
  let main_v7 : IVec S32x128x8x64 1 := cmpf .ogt main_arg1 main_v6
  let main_cst_2 : FVec F S_ .f32 := constant S_ .f32 0x7F800000#32
  let main_v8 : FVec F S32x128x8x64 .f32 := broadcastInDim S32x128x8x64 ![] bcast_S_S32x128x8x64 main_cst_2
  let main_v9 : IVec S32x128x8x64 1 := cmpf .olt main_arg1 main_v8
  let main_v10 : IVec S32x128x8x64 1 := andi main_v7 main_v9
  let main_cst_3 : FVec F S_ .f32 := constant S_ .f32 0xFF800000#32
  let main_v11 : FVec F S64 .f32 := broadcastInDim S64 ![] bcast_S_S64 main_cst_3
  let main_v12 : IVec S64 1 := cmpf .ogt main_arg3 main_v11
  let main_cst_4 : FVec F S_ .f32 := constant S_ .f32 0x7F800000#32
  let main_v13 : FVec F S64 .f32 := broadcastInDim S64 ![] bcast_S_S64 main_cst_4
  let main_v14 : IVec S64 1 := cmpf .olt main_arg3 main_v13
  let main_v15 : IVec S64 1 := andi main_v12 main_v14
  let main_cst_5 : FVec F S_ .f32 := constant S_ .f32 0xFF800000#32
  let main_v16 : FVec F S32x64 .f32 := broadcastInDim S32x64 ![] bcast_S_S32x64 main_cst_5
  fn_part1 (F := F) main_arg4 main_v5 main_v10 main_v15 main_v16
-- ==== Kernel.lean ====
abbrev S8320x5120 : Shape := ⟨2, ![8320, 5120]⟩
abbrev S64 : Shape := ⟨1, ![64]⟩
abbrev S32x64 : Shape := ⟨2, ![32, 64]⟩
abbrev S128 : Shape := ⟨1, ![128]⟩
abbrev S_ : Shape := ⟨0, ![]⟩
abbrev S128x1 : Shape := ⟨2, ![128, 1]⟩
abbrev S128x64 : Shape := ⟨2, ![128, 64]⟩
abbrev S64x128 : Shape := ⟨2, ![64, 128]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S64x128x256 : Shape := ⟨3, ![64, 128, 256]⟩
abbrev S4 : Shape := ⟨1, ![4]⟩
abbrev S4x1 : Shape := ⟨2, ![4, 1]⟩
abbrev S1x128 : Shape := ⟨2, ![1, 128]⟩
abbrev S4x128 : Shape := ⟨2, ![4, 128]⟩
abbrev S16 : Shape := ⟨1, ![16]⟩
abbrev S1x16 : Shape := ⟨2, ![1, 16]⟩
abbrev S4x16 : Shape := ⟨2, ![4, 16]⟩
abbrev S4x128x1 : Shape := ⟨3, ![4, 128, 1]⟩
abbrev S64x4x128 : Shape := ⟨3, ![64, 4, 128]⟩
abbrev S8x32x128 : Shape := ⟨3, ![8, 32, 128]⟩
abbrev S4x16x1 : Shape := ⟨3, ![4, 16, 1]⟩
abbrev S64x4x16 : Shape := ⟨3, ![64, 4, 16]⟩
abbrev S8x32x16 : Shape := ⟨3, ![8, 32, 16]⟩
abbrev S8192x4096 : Shape := ⟨2, ![8192, 4096]⟩
abbrev S128x4096 : Shape := ⟨2, ![128, 4096]⟩
abbrev S128x512 : Shape := ⟨2, ![128, 512]⟩
abbrev S256x512 : Shape := ⟨2, ![256, 512]⟩
abbrev S256x64 : Shape := ⟨2, ![256, 64]⟩
abbrev S1x128x256 : Shape := ⟨3, ![1, 128, 256]⟩
abbrev S1 : Shape := ⟨1, ![1]⟩

abbrev nBuf : Space → Nat
  | .hbm => 118
  | .vmem => 13
  | .smem => 1
  | _ => 0

abbrev bufTy : (tb : Table) → Fin (tcTables nBuf tb) → BufTy
  | .hbm, ⟨0, _⟩ => ⟨S8320x5120, .f32⟩
  | .hbm, ⟨1, _⟩ => ⟨S64, .f32⟩
  | .hbm, ⟨2, _⟩ => ⟨S32x64, .f32⟩
  | .hbm, ⟨3, _⟩ => ⟨S128, .i32⟩
  | .hbm, ⟨4, _⟩ => ⟨S_, .i32⟩
  | .hbm, ⟨5, _⟩ => ⟨S128, .i32⟩
  | .hbm, ⟨6, _⟩ => ⟨S128, .i32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S128, .i32⟩
  | .hbm, ⟨19, _⟩ => ⟨S_, .i32⟩
  | .hbm, ⟨20, _⟩ => ⟨S128, .i32⟩
  | .hbm, ⟨21, _⟩ => ⟨S128, .i32⟩
  | .hbm, ⟨22, _⟩ => ⟨S_, .i32⟩
  | .hbm, ⟨23, _⟩ => ⟨S128, .i32⟩
  | .hbm, ⟨24, _⟩ => ⟨S128, .i1⟩
  | .hbm, ⟨25, _⟩ => ⟨S_, .i32⟩
  | .hbm, ⟨26, _⟩ => ⟨S128, .i32⟩
  | .hbm, ⟨27, _⟩ => ⟨S128, .i32⟩
  | .hbm, ⟨28, _⟩ => ⟨S128, .i32⟩
  | .hbm, ⟨29, _⟩ => ⟨S_, .i32⟩
  | .hbm, ⟨30, _⟩ => ⟨S128, .i32⟩
  | .hbm, ⟨31, _⟩ => ⟨S128, .i1⟩
  | .hbm, ⟨32, _⟩ => ⟨S_, .i32⟩
  | .hbm, ⟨33, _⟩ => ⟨S128, .i32⟩
  | .hbm, ⟨34, _⟩ => ⟨S128, .i32⟩
  | .hbm, ⟨35, _⟩ => ⟨S128, .i32⟩
  | .hbm, ⟨36, _⟩ => ⟨S128x1, .i32⟩
  | .hbm, ⟨37, _⟩ => ⟨S128x64, .f32⟩
  | .hbm, ⟨38, _⟩ => ⟨S64x128, .f32⟩
  | .hbm, ⟨39, _⟩ => ⟨S128, .i32⟩
  | .hbm, ⟨40, _⟩ => ⟨S128x1, .i32⟩
  | .hbm, ⟨41, _⟩ => ⟨S_, .i32⟩
  | .hbm, ⟨42, _⟩ => ⟨S128x1, .i32⟩
  | .hbm, ⟨43, _⟩ => ⟨S128x1, .i32⟩
  | .hbm, ⟨44, _⟩ => ⟨S256, .i32⟩
  | .hbm, ⟨45, _⟩ => ⟨S1x256, .i32⟩
  | .hbm, ⟨46, _⟩ => ⟨S128x256, .i32⟩
  | .hbm, ⟨47, _⟩ => ⟨S128x256, .i32⟩
  | .hbm, ⟨48, _⟩ => ⟨S128x256, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S128x256, .i32⟩
  | .hbm, ⟨53, _⟩ => ⟨S128x256, .i32⟩
  | .hbm, ⟨54, _⟩ => ⟨S_, .i32⟩
  | .hbm, ⟨55, _⟩ => ⟨S128x256, .i32⟩
  | .hbm, ⟨56, _⟩ => ⟨S128x256, .i32⟩
  | .hbm, ⟨57, _⟩ => ⟨S_, .i32⟩
  | .hbm, ⟨58, _⟩ => ⟨S128x256, .i32⟩
  | .hbm, ⟨59, _⟩ => ⟨S128x256, .i1⟩
  | .hbm, ⟨60, _⟩ => ⟨S_, .i32⟩
  | .hbm, ⟨61, _⟩ => ⟨S128x256, .i32⟩
  | .hbm, ⟨62, _⟩ => ⟨S128x256, .i32⟩
  | .hbm, ⟨63, _⟩ => ⟨S128x256, .i32⟩
  | .hbm, ⟨64, _⟩ => ⟨S128x256x1, .i32⟩
  | .hbm, ⟨65, _⟩ => ⟨S64x128x256, .f32⟩
  | .hbm, ⟨66, _⟩ => ⟨S4, .i32⟩
  | .hbm, ⟨67, _⟩ => ⟨S4x1, .i32⟩
  | .hbm, ⟨68, _⟩ => ⟨S_, .i32⟩
  | .hbm, ⟨69, _⟩ => ⟨S4x1, .i32⟩
  | .hbm, ⟨70, _⟩ => ⟨S4x1, .i32⟩
  | .hbm, ⟨71, _⟩ => ⟨S128, .i32⟩
  | .hbm, ⟨72, _⟩ => ⟨S1x128, .i32⟩
  | .hbm, ⟨73, _⟩ => ⟨S4x128, .i32⟩
  | .hbm, ⟨74, _⟩ => ⟨S4x128, .i32⟩
  | .hbm, ⟨75, _⟩ => ⟨S4x128, .i32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S4x128, .i32⟩
  | .hbm, ⟨80, _⟩ => ⟨S4x128, .i32⟩
  | .hbm, ⟨81, _⟩ => ⟨S_, .i32⟩
  | .hbm, ⟨82, _⟩ => ⟨S4x128, .i32⟩
  | .hbm, ⟨83, _⟩ => ⟨S4x128, .i32⟩
  | .hbm, ⟨84, _⟩ => ⟨S16, .i32⟩
  | .hbm, ⟨85, _⟩ => ⟨S1x16, .i32⟩
  | .hbm, ⟨86, _⟩ => ⟨S4x16, .i32⟩
  | .hbm, ⟨87, _⟩ => ⟨S4x16, .i32⟩
  | .hbm, ⟨88, _⟩ => ⟨S4x16, .i32⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S4x16, .i32⟩
  | .hbm, ⟨93, _⟩ => ⟨S4x16, .i32⟩
  | .hbm, ⟨94, _⟩ => ⟨S_, .i32⟩
  | .hbm, ⟨95, _⟩ => ⟨S4x16, .i32⟩
  | .hbm, ⟨96, _⟩ => ⟨S4x16, .i32⟩
  | .hbm, ⟨97, _⟩ => ⟨S_, .i32⟩
  | .hbm, ⟨98, _⟩ => ⟨S4x128, .i32⟩
  | .hbm, ⟨99, _⟩ => ⟨S4x128, .i1⟩
  | .hbm, ⟨100, _⟩ => ⟨S_, .i32⟩
  | .hbm, ⟨101, _⟩ => ⟨S4x128, .i32⟩
  | .hbm, ⟨102, _⟩ => ⟨S4x128, .i32⟩
  | .hbm, ⟨103, _⟩ => ⟨S4x128, .i32⟩
  | .hbm, ⟨104, _⟩ => ⟨S4x128x1, .i32⟩
  | .hbm, ⟨105, _⟩ => ⟨S64x4x128, .f32⟩
  | .hbm, ⟨106, _⟩ => ⟨S8x32x128, .f32⟩
  | .hbm, ⟨107, _⟩ => ⟨S_, .i32⟩
  | .hbm, ⟨108, _⟩ => ⟨S4x16, .i32⟩
  | .hbm, ⟨109, _⟩ => ⟨S4x16, .i1⟩
  | .hbm, ⟨110, _⟩ => ⟨S_, .i32⟩
  | .hbm, ⟨111, _⟩ => ⟨S4x16, .i32⟩
  | .hbm, ⟨112, _⟩ => ⟨S4x16, .i32⟩
  | .hbm, ⟨113, _⟩ => ⟨S4x16, .i32⟩
  | .hbm, ⟨114, _⟩ => ⟨S4x16x1, .i32⟩
  | .hbm, ⟨115, _⟩ => ⟨S64x4x16, .f32⟩
  | .hbm, ⟨116, _⟩ => ⟨S8x32x16, .f32⟩
  | .hbm, ⟨117, _⟩ => ⟨S8192x4096, .bf16⟩
  | .local _ .vmem, ⟨0, _⟩ => ⟨S128x4096, .f32⟩
  | .local _ .vmem, ⟨1, _⟩ => ⟨S128x4096, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S64x128x256, .f32⟩
  | .local _ .vmem, ⟨11, _⟩ => ⟨S128x4096, .bf16⟩
  | .local _ .vmem, ⟨12, _⟩ => ⟨S128x4096, .bf16⟩
  | .local _ .smem, ⟨0, _⟩ => ⟨S64, .f32⟩
  | _, _ => ⟨S8320x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_5 : Ref sig .tc := ⟨.hbm, 29, rfl⟩
abbrev main_v19 : Ref sig .tc := ⟨.hbm, 30, rfl⟩
abbrev main_v20 : Ref sig .tc := ⟨.hbm, 31, rfl⟩
abbrev main_c_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_8 : Ref sig .tc := ⟨.hbm, 49, rfl⟩
abbrev main_c_9 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v36 : Ref sig .tc := ⟨.hbm, 56, rfl⟩
abbrev main_c_10 : Ref sig .tc := ⟨.hbm, 57, rfl⟩
abbrev main_v37 : Ref sig .tc := ⟨.hbm, 58, rfl⟩
abbrev main_v38 : Ref sig .tc := ⟨.hbm, 59, rfl⟩
abbrev main_c_11 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_12 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_13 : Ref sig .tc := ⟨.hbm, 76, rfl⟩
abbrev main_c_14 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_c_15 : Ref sig .tc := ⟨.hbm, 89, rfl⟩
abbrev main_c_16 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_v59 : Ref sig .tc := ⟨.hbm, 96, rfl⟩
abbrev main_c_17 : Ref sig .tc := ⟨.hbm, 97, rfl⟩
abbrev main_v60 : Ref sig .tc := ⟨.hbm, 98, rfl⟩
abbrev main_v61 : Ref sig .tc := ⟨.hbm, 99, rfl⟩
abbrev main_c_18 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_c_19 : Ref sig .tc := ⟨.hbm, 107, rfl⟩
abbrev main_v68 : Ref sig .tc := ⟨.hbm, 108, rfl⟩
abbrev main_v69 : Ref sig .tc := ⟨.hbm, 109, rfl⟩
abbrev main_c_20 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  ![v1.toNat, c8_i32.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c9_i32 : BitVec 32 := 9#32
  let c0_i32_0 : BitVec 32 := 0#32
  ![v1.toNat, c9_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S8320x5120 : Shape := ⟨2, ![8320, 5120]⟩
abbrev S64 : Shape := ⟨1, ![64]⟩
abbrev S32x64 : Shape := ⟨2, ![32, 64]⟩
abbrev S8192x5120 : Shape := ⟨2, ![8192, 5120]⟩
abbrev S8192x4096 : Shape := ⟨2, ![8192, 4096]⟩
abbrev S8192x512 : Shape := ⟨2, ![8192, 512]⟩
abbrev S64x128x64x64 : Shape := ⟨4, ![64, 128, 64, 64]⟩
abbrev S128 : Shape := ⟨1, ![128]⟩
abbrev S128x1 : Shape := ⟨2, ![128, 1]⟩
abbrev S_ : Shape := ⟨0, ![]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1 : Shape := ⟨2, ![16, 1]⟩
abbrev S16x256 : Shape := ⟨2, ![16, 256]⟩
abbrev S16x1x256 : Shape := ⟨3, ![16, 1, 256]⟩
abbrev S1x128x256 : Shape := ⟨3, ![1, 128, 256]⟩
abbrev S16x128x256 : Shape := ⟨3, ![16, 128, 256]⟩
abbrev S1x16x128x256 : Shape := ⟨4, ![1, 16, 128, 256]⟩
abbrev S4x16x128x256 : Shape := ⟨4, ![4, 16, 128, 256]⟩
abbrev S64x1x128x256 : Shape := ⟨4, ![64, 1, 128, 256]⟩
abbrev S4x16x128x512 : Shape := ⟨4, ![4, 16, 128, 512]⟩
abbrev S4x1x128x512 : Shape := ⟨4, ![4, 1, 128, 512]⟩
abbrev S4x15x128x512 : Shape := ⟨4, ![4, 15, 128, 512]⟩
abbrev S4x16x256x512 : Shape := ⟨4, ![4, 16, 256, 512]⟩
abbrev S64x256x8x64 : Shape := ⟨4, ![64, 256, 8, 64]⟩
abbrev S128x256x1 : Shape := ⟨3, ![128, 256, 1]⟩
abbrev S128x256x64 : Shape := ⟨3, ![128, 256, 64]⟩
abbrev S64x128x256 : Shape := ⟨3, ![64, 128, 256]⟩
abbrev S64x256x8x8x64 : Shape := ⟨5, ![64, 256, 8, 8, 64]⟩
abbrev S64x256x64x64 : Shape := ⟨4, ![64, 256, 64, 64]⟩
abbrev S64x64x128x256 : Shape := ⟨4, ![64, 64, 128, 256]⟩
abbrev S1x64x128x256 : Shape := ⟨4, ![1, 64, 128, 256]⟩
abbrev S64x1x1 : Shape := ⟨3, ![64, 1, 1]⟩
abbrev S64x64x128 : Shape := ⟨3, ![64, 64, 128]⟩
abbrev S64x64x128x1 : Shape := ⟨4, ![64, 64, 128, 1]⟩
abbrev S1x64x1x1 : Shape := ⟨4, ![1, 64, 1, 1]⟩
abbrev S64x64x64x128 : Shape := ⟨4, ![64, 64, 64, 128]⟩

abbrev nBuf : Space → Nat
  | .hbm => 148
  | .vmem => 0
  | .smem => 0
  | _ => 0

abbrev hbmTy0_0 (i : Nat) : BufTy := match i % 128 with
  | 0 => ⟨S8320x5120, .f32⟩
  | 1 => ⟨S64, .f32⟩
  | 2 => ⟨S32x64, .f32⟩
  | 3 => ⟨S8192x5120, .f32⟩
  | 4 => ⟨S8192x4096, .f32⟩
  | 5 => ⟨S8192x512, .f32⟩
  | 6 => ⟨S8192x512, .f32⟩
  | 7 => ⟨S64x128x64x64, .f32⟩
  | 8 => ⟨S128, .i32⟩
  | 9 => ⟨S128x1, .i32⟩
  | 10 => ⟨S_, .i32⟩
  | 11 => ⟨S128x1, .i32⟩
  | 12 => ⟨S128x1, .i32⟩
  | 13 => ⟨S256, .i32⟩
  | 14 => ⟨S1x256, .i32⟩
  | 15 => ⟨S128x256, .i32⟩
  | 16 => ⟨S128x256, .i32⟩
  | 17 => ⟨S128x256, .i32⟩
  | 18 => ⟨S16, .i32⟩
  | 19 => ⟨S16x1, .i32⟩
  | 20 => ⟨S_, .i32⟩
  | 21 => ⟨S16x1, .i32⟩
  | 22 => ⟨S16x1, .i32⟩
  | 23 => ⟨S_, .i32⟩
  | 24 => ⟨S16x1, .i32⟩
  | 25 => ⟨S16x1, .i32⟩
  | 26 => ⟨S256, .i32⟩
  | 27 => ⟨S1x256, .i32⟩
  | 28 => ⟨S16x256, .i32⟩
  | 29 => ⟨S16x256, .i32⟩
  | 30 => ⟨S16x256, .i32⟩
  | 31 => ⟨S_, .i32⟩
  | 32 => ⟨S128x256, .i32⟩
  | 33 => ⟨S128x256, .i1⟩
  | 34 => ⟨S_, .i32⟩
  | 35 => ⟨S128x256, .i32⟩
  | 36 => ⟨S128x256, .i1⟩
  | 37 => ⟨S128x256, .i1⟩
  | 38 => ⟨S16x1x256, .i32⟩
  | 39 => ⟨S_, .i32⟩
  | 40 => ⟨S16x1x256, .i32⟩
  | 41 => ⟨S16x1x256, .i1⟩
  | 42 => ⟨S1x128x256, .i1⟩
  | 43 => ⟨S16x128x256, .i1⟩
  | 44 => ⟨S16x128x256, .i1⟩
  | 45 => ⟨S16x128x256, .i1⟩
  | 46 => ⟨S1x16x128x256, .i1⟩
  | 47 => ⟨S4x16x128x256, .i1⟩
  | 48 => ⟨S64x1x128x256, .i1⟩
  | 49 => ⟨S4x16x128x512, .f32⟩
  | 50 => ⟨S4x1x128x512, .f32⟩
  | 51 => ⟨S_, .f32⟩
  | 52 => ⟨S4x1x128x512, .f32⟩
  | 53 => ⟨S4x15x128x512, .f32⟩
  | 54 => ⟨S4x16x128x512, .f32⟩
  | 55 => ⟨S4x16x256x512, .f32⟩
  | 56 => ⟨S64x256x8x64, .f32⟩
  | 57 => ⟨S4x16x128x512, .f32⟩
  | 58 => ⟨S4x1x128x512, .f32⟩
  | 59 => ⟨S_, .f32⟩
  | 60 => ⟨S4x1x128x512, .f32⟩
  | 61 => ⟨S4x15x128x512, .f32⟩
  | 62 => ⟨S4x16x128x512, .f32⟩
  | 63 => ⟨S4x16x256x512, .f32⟩
  | 64 => ⟨S64x256x8x64, .f32⟩
  | 65 => ⟨S_, .i32⟩
  | 66 => ⟨S_, .i32⟩
  | 67 => ⟨S_, .i32⟩
  | 68 => ⟨S128x256, .i32⟩
  | 69 => ⟨S128x256, .i32⟩
  | 70 => ⟨S_, .i32⟩
  | 71 => ⟨S128x256, .i32⟩
  | 72 => ⟨S128x256, .i32⟩
  | 73 => ⟨S_, .i32⟩
  | 74 => ⟨S128x256, .i32⟩
  | 75 => ⟨S128x256, .i32⟩
  | 76 => ⟨S128x256, .f32⟩
  | 77 => ⟨S_, .f32⟩
  | 78 => ⟨S128x256, .f32⟩
  | 79 => ⟨S128x256, .f32⟩
  | 80 => ⟨S128x256, .f32⟩
  | 81 => ⟨S_, .f32⟩
  | 82 => ⟨S128x256, .f32⟩
  | 83 => ⟨S128x256, .f32⟩
  | 84 => ⟨S_, .f32⟩
  | 85 => ⟨S128x256, .f32⟩
  | 86 => ⟨S128x256, .f32⟩
  | 87 => ⟨S128x256, .i32⟩
  | 88 => ⟨S_, .i32⟩
  | 89 => ⟨S128x256, .i32⟩
  | 90 => ⟨S128x256, .i32⟩
  | 91 => ⟨S_, .i32⟩
  | 92 => ⟨S128x256, .i32⟩
  | 93 => ⟨S128x256, .i1⟩
  | 94 => ⟨S_, .i32⟩
  | 95 => ⟨S128x256, .i32⟩
  | 96 => ⟨S128x256, .i32⟩
  | 97 => ⟨S128x256, .i32⟩
  | 98 => ⟨S_, .i32⟩
  | 99 => ⟨S128x256, .i32⟩
  | 100 => ⟨S128x256, .i1⟩
  | 101 => ⟨S_, .i32⟩
  | 102 => ⟨S128x256, .i32⟩
  | 103 => ⟨S128x256, .i32⟩
  | 104 => ⟨S128x256, .i32⟩
  | 105 => ⟨S128x256x1, .i32⟩
  | 106 => ⟨S128x256x64, .f32⟩
  | 107 => ⟨S64x128x256, .f32⟩
  | 108 => ⟨S64x256x8x8x64, .f32⟩
  | 109 => ⟨S64x256x64x64, .f32⟩
  | 110 => ⟨S64x256x8x8x64, .f32⟩
  | 111 => ⟨S64x256x64x64, .f32⟩
  | 112 => ⟨S64x64x128x256, .f32⟩
  | 113 => ⟨S_, .f32⟩
  | 114 => ⟨S64x64x128x256, .f32⟩
  | 115 => ⟨S64x64x128x256, .f32⟩
  | 116 => ⟨S1x64x128x256, .f32⟩
  | 117 => ⟨S64x64x128x256, .f32⟩
  | 118 => ⟨S64x64x128x256, .f32⟩
  | 119 => ⟨S_, .f32⟩
  | 120 => ⟨S_, .f32⟩
  | 121 => ⟨S64x64x128x256, .i1⟩
  | 122 => ⟨S64x64x128x256, .f32⟩
  | 123 => ⟨S64x64x128x256, .f32⟩
  | 124 => ⟨S64x1x1, .f32⟩
  | 125 => ⟨S_, .f32⟩
  | 126 => ⟨S64x64x128, .f32⟩
  | 127 => ⟨S64x64x128x1, .f32⟩
  | _ => ⟨S8320x5120, .f32⟩

abbrev hbmTy0_1 (i : Nat) : BufTy := match i % 128 with
  | 0 => ⟨S1x64x1x1, .f32⟩
  | 1 => ⟨S64x64x128x1, .f32⟩
  | 2 => ⟨S64x64x128x1, .f32⟩
  | 3 => ⟨S64x64x128x256, .f32⟩
  | 4 => ⟨S64x64x128x256, .f32⟩
  | 5 => ⟨S64x64x128x256, .f32⟩
  | 6 => ⟨S_, .f32⟩
  | 7 => ⟨S64x64x128, .f32⟩
  | 8 => ⟨S64x64x128x1, .f32⟩
  | 9 => ⟨S1x64x1x1, .f32⟩
  | 10 => ⟨S64x64x128x1, .f32⟩
  | 11 => ⟨S64x64x128x1, .f32⟩
  | 12 => ⟨S64x64x128x1, .f32⟩
  | 13 => ⟨S64x64x128x1, .f32⟩
  | 14 => ⟨S64x64x128x256, .f32⟩
  | 15 => ⟨S64x64x128x256, .f32⟩
  | 16 => ⟨S64x64x64x128, .f32⟩
  | 17 => ⟨S64x128x64x64, .f32⟩
  | 18 => ⟨S8192x4096, .f32⟩
  | 19 => ⟨S8192x4096, .bf16⟩
  | _ => ⟨S8320x5120, .f32⟩

abbrev hbmTy (i : Nat) : BufTy := match i / 128 with
  | 0 => hbmTy0_0 i
  | 1 => hbmTy0_1 i
  | _ => ⟨S8320x5120, .f32⟩

abbrev bufTy : (tb : Table) → Fin (tcTables nBuf tb) → BufTy
  | .hbm, ⟨i, _⟩ => hbmTy i
  | _, _ => ⟨S8320x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c_0 : Ref sig .tc := ⟨.hbm, 20, rfl⟩
abbrev main_v16 : Ref sig .tc := ⟨.hbm, 21, rfl⟩
abbrev main_v17 : Ref sig .tc := ⟨.hbm, 22, rfl⟩
abbrev main_c_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c_2 : Ref sig .tc := ⟨.hbm, 31, rfl⟩
abbrev main_v25 : Ref sig .tc := ⟨.hbm, 32, rfl⟩
abbrev main_v26 : Ref sig .tc := ⟨.hbm, 33, rfl⟩
abbrev main_c_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c_4 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_5 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_c_6 : Ref sig .tc := ⟨.hbm, 65, rfl⟩
abbrev main_c_7 : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_v54 : Ref sig .tc := ⟨.hbm, 72, rfl⟩
abbrev main_c_8 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_9 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_10 : Ref sig .tc := ⟨.hbm, 81, rfl⟩
abbrev main_v61 : Ref sig .tc := ⟨.hbm, 82, rfl⟩
abbrev main_v62 : Ref sig .tc := ⟨.hbm, 83, rfl⟩
abbrev main_cst_11 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_12 : Ref sig .tc := ⟨.hbm, 88, rfl⟩
abbrev main_v66 : Ref sig .tc := ⟨.hbm, 89, rfl⟩
abbrev main_v67 : Ref sig .tc := ⟨.hbm, 90, rfl⟩
abbrev main_c_13 : Ref sig .tc := ⟨.hbm, 91, rfl⟩
abbrev main_v68 : Ref sig .tc := ⟨.hbm, 92, rfl⟩
abbrev main_v69 : Ref sig .tc := ⟨.hbm, 93, rfl⟩
abbrev main_c_14 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_15 : Ref sig .tc := ⟨.hbm, 98, rfl⟩
abbrev main_v73 : Ref sig .tc := ⟨.hbm, 99, rfl⟩
abbrev main_v74 : Ref sig .tc := ⟨.hbm, 100, rfl⟩
abbrev main_c_16 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_17 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_18 : Ref sig .tc := ⟨.hbm, 119, rfl⟩
abbrev main_call2_v0 : Ref sig .tc := ⟨.hbm, 120, rfl⟩
abbrev main_call2_v1 : Ref sig .tc := ⟨.hbm, 121, rfl⟩
abbrev main_call2_v2 : Ref sig .tc := ⟨.hbm, 122, rfl⟩
abbrev main_v91 : Ref sig .tc := ⟨.hbm, 123, rfl⟩
abbrev main_v92 : Ref sig .tc := ⟨.hbm, 124, rfl⟩
abbrev main_cst_19 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_cst_20 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩

abbrev nD : Nat := 1
abbrev τ : Topo := Topo.v7x

variable {F : FTy → Type} [FloatOps F]
-- ==== Kernel2.lean ====
abbrev S8320x4096 : Shape := ⟨2, ![8320, 4096]⟩
abbrev S4096x11008 : Shape := ⟨2, ![4096, 11008]⟩
abbrev S11008x4096 : Shape := ⟨2, ![11008, 4096]⟩
abbrev S640x4096 : Shape := ⟨2, ![640, 4096]⟩
abbrev S4096x256 : Shape := ⟨2, ![4096, 256]⟩
abbrev S256x4096 : Shape := ⟨2, ![256, 4096]⟩
abbrev S640x256 : Shape := ⟨2, ![640, 256]⟩

abbrev nBuf : Space → Nat
  | .hbm => 8
  | .vmem => 10
  | .smem => 0
  | _ => 0

abbrev bufTy : (tb : Table) → Fin (tcTables nBuf tb) → BufTy
  | .hbm, ⟨0, _⟩ => ⟨S8320x4096, .bf16⟩
  | .hbm, ⟨1, _⟩ => ⟨S4096x11008, .f32⟩
  | .hbm, ⟨2, _⟩ => ⟨S4096x11008, .f32⟩
  | .hbm, ⟨3, _⟩ => ⟨S11008x4096, .f32⟩
  | .hbm, ⟨4, _⟩ => ⟨S4096x11008, .bf16⟩
  | .hbm, ⟨5, _⟩ => ⟨S4096x11008, .bf16⟩
  | .hbm, ⟨6, _⟩ => ⟨S11008x4096, .bf16⟩
  | .hbm, ⟨7, _⟩ => ⟨S8320x4096, .f32⟩
  | .local _ .vmem, ⟨0, _⟩ => ⟨S640x4096, .bf16⟩
  | .local _ .vmem, ⟨1, _⟩ => ⟨S640x4096, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S256x4096, .bf16⟩
  | .local _ .vmem, ⟨7, _⟩ => ⟨S256x4096, .bf16⟩
  | .local _ .vmem, ⟨8, _⟩ => ⟨S640x4096, .f32⟩
  | .local _ .vmem, ⟨9, _⟩ => ⟨S640x4096, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![13, 43], ![false, false]⟩

def k0_cond1 (i : grid0.Coords) : BitVec 1 :=
  let arg1 : BitVec 32 := BitVec.ofNat 32 (i 1).val
  let c0_i32 : BitVec 32 := 0#32
  let v11 : BitVec 1 := Scalar.cmpi .eq arg1 c0_i32
  let v12 : BitVec 32 := Scalar.extui v11
  let c0_i32_6 : BitVec 32 := 0#32
  let v13 : BitVec 1 := Scalar.cmpi .ne v12 c0_i32_6
  v13

def k0_cond2 (i : grid0.Coords) : BitVec 1 :=
  let arg1 : BitVec 32 := BitVec.ofNat 32 (i 1).val
  let c0_i32_7 : BitVec 32 := 0#32
  let v14 : BitVec 1 := Scalar.cmpi .sgt arg1 c0_i32_7
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S640x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S8320x4096 : Shape := ⟨2, ![8320, 4096]⟩
abbrev S4096x11008 : Shape := ⟨2, ![4096, 11008]⟩
abbrev S11008x4096 : Shape := ⟨2, ![11008, 4096]⟩
abbrev S8320x11008 : Shape := ⟨2, ![8320, 11008]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x11008, .f32⟩
  | .hbm, ⟨2, _⟩ => ⟨S4096x11008, .f32⟩
  | .hbm, ⟨3, _⟩ => ⟨S11008x4096, .f32⟩
  | .hbm, ⟨4, _⟩ => ⟨S8320x4096, .f32⟩
  | .hbm, ⟨5, _⟩ => ⟨S8320x11008, .f32⟩
  | .hbm, ⟨6, _⟩ => ⟨S8320x11008, .f32⟩
  | .hbm, ⟨7, _⟩ => ⟨S8320x11008, .f32⟩
  | .hbm, ⟨8, _⟩ => ⟨S_, .f32⟩
  | .hbm, ⟨9, _⟩ => ⟨S8320x11008, .f32⟩
  | .hbm, ⟨10, _⟩ => ⟨S8320x11008, .f32⟩
  | .hbm, ⟨11, _⟩ => ⟨S_, .f32⟩
  | .hbm, ⟨12, _⟩ => ⟨S8320x11008, .f32⟩
  | .hbm, ⟨13, _⟩ => ⟨S8320x11008, .f32⟩
  | .hbm, ⟨14, _⟩ => ⟨S8320x11008, .f32⟩
  | .hbm, ⟨15, _⟩ => ⟨S8320x11008, .f32⟩
  | .hbm, ⟨16, _⟩ => ⟨S8320x11008, .f32⟩
  | .hbm, ⟨17, _⟩ => ⟨S8320x4096, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩

abbrev nD : Nat := 1
abbrev τ : Topo := Topo.v7x

variable {F : FTy → Type} [FloatOps F]
-- ==== Kernel3.lean ====
abbrev S8320x4096 : Shape := ⟨2, ![8320, 4096]⟩
abbrev S4096x10240 : Shape := ⟨2, ![4096, 10240]⟩
abbrev S8320x2048 : Shape := ⟨2, ![8320, 2048]⟩
abbrev S640x4096 : Shape := ⟨2, ![640, 4096]⟩
abbrev S4096x256 : Shape := ⟨2, ![4096, 256]⟩
abbrev S640x256 : Shape := ⟨2, ![640, 256]⟩

abbrev nBuf : Space → Nat
  | .hbm => 7
  | .vmem => 20
  | .smem => 0
  | _ => 0

abbrev bufTy : (tb : Table) → Fin (tcTables nBuf tb) → BufTy
  | .hbm, ⟨0, _⟩ => ⟨S8320x4096, .bf16⟩
  | .hbm, ⟨1, _⟩ => ⟨S4096x10240, .f32⟩
  | .hbm, ⟨2, _⟩ => ⟨S4096x10240, .bf16⟩
  | .hbm, ⟨3, _⟩ => ⟨S8320x2048, .f32⟩
  | .hbm, ⟨4, _⟩ => ⟨S8320x2048, .f32⟩
  | .hbm, ⟨5, _⟩ => ⟨S8320x2048, .f32⟩
  | .hbm, ⟨6, _⟩ => ⟨S8320x2048, .f32⟩
  | .local _ .vmem, ⟨0, _⟩ => ⟨S640x4096, .bf16⟩
  | .local _ .vmem, ⟨1, _⟩ => ⟨S640x4096, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | .local _ .vmem, ⟨11, _⟩ => ⟨S4096x256, .bf16⟩
  | .local _ .vmem, ⟨12, _⟩ => ⟨S640x256, .f32⟩
  | .local _ .vmem, ⟨13, _⟩ => ⟨S640x256, .f32⟩
  | .local _ .vmem, ⟨14, _⟩ => ⟨S640x256, .f32⟩
  | .local _ .vmem, ⟨15, _⟩ => ⟨S640x256, .f32⟩
  | .local _ .vmem, ⟨16, _⟩ => ⟨S640x256, .f32⟩
  | .local _ .vmem, ⟨17, _⟩ => ⟨S640x256, .f32⟩
  | .local _ .vmem, ⟨18, _⟩ => ⟨S640x256, .f32⟩
  | .local _ .vmem, ⟨19, _⟩ => ⟨S640x256, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![13, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S640x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S640x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S640x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S640x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S8320x4096 : Shape := ⟨2, ![8320, 4096]⟩
abbrev S4096x10240 : Shape := ⟨2, ![4096, 10240]⟩
abbrev S8320x10240 : Shape := ⟨2, ![8320, 10240]⟩
abbrev S8320x2048 : Shape := ⟨2, ![8320, 2048]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x10240, .f32⟩
  | .hbm, ⟨2, _⟩ => ⟨S8320x4096, .f32⟩
  | .hbm, ⟨3, _⟩ => ⟨S8320x10240, .f32⟩
  | .hbm, ⟨4, _⟩ => ⟨S8320x2048, .f32⟩
  | .hbm, ⟨5, _⟩ => ⟨S8320x2048, .f32⟩
  | .hbm, ⟨6, _⟩ => ⟨S8320x2048, .f32⟩
  | .hbm, ⟨7, _⟩ => ⟨S8320x2048, .f32⟩
  | .hbm, ⟨8, _⟩ => ⟨S8320x2048, .f32⟩
  | .hbm, ⟨9, _⟩ => ⟨S8320x2048, .f32⟩
  | .hbm, ⟨10, _⟩ => ⟨S8320x2048, .f32⟩
  | .hbm, ⟨11, _⟩ => ⟨S_, .f32⟩
  | .hbm, ⟨12, _⟩ => ⟨S8320x2048, .f32⟩
  | .hbm, ⟨13, _⟩ => ⟨S8320x2048, .f32⟩
  | .hbm, ⟨14, _⟩ => ⟨S8320x2048, .f32⟩
  | .hbm, ⟨15, _⟩ => ⟨S_, .f32⟩
  | .hbm, ⟨16, _⟩ => ⟨S8320x2048, .f32⟩
  | .hbm, ⟨17, _⟩ => ⟨S8320x2048, .f32⟩
  | .hbm, ⟨18, _⟩ => ⟨S8320x2048, .f32⟩
  | .hbm, ⟨19, _⟩ => ⟨S_, .f32⟩
  | .hbm, ⟨20, _⟩ => ⟨S8320x2048, .f32⟩
  | .hbm, ⟨21, _⟩ => ⟨S8320x2048, .f32⟩
  | .hbm, ⟨22, _⟩ => ⟨S_, .f32⟩
  | .hbm, ⟨23, _⟩ => ⟨S8320x2048, .f32⟩
  | .hbm, ⟨24, _⟩ => ⟨S8320x2048, .f32⟩
  | .hbm, ⟨25, _⟩ => ⟨S8320x2048, .f32⟩
  | .hbm, ⟨26, _⟩ => ⟨S8320x2048, .f32⟩
  | .hbm, ⟨27, _⟩ => ⟨S8320x2048, .f32⟩
  | .hbm, ⟨28, _⟩ => ⟨S_, .f32⟩
  | .hbm, ⟨29, _⟩ => ⟨S8320x2048, .f32⟩
  | .hbm, ⟨30, _⟩ => ⟨S8320x2048, .f32⟩
  | .hbm, ⟨31, _⟩ => ⟨S8320x2048, .f32⟩
  | .hbm, ⟨32, _⟩ => ⟨S_, .f32⟩
  | .hbm, ⟨33, _⟩ => ⟨S8320x2048, .f32⟩
  | .hbm, ⟨34, _⟩ => ⟨S8320x2048, .f32⟩
  | .hbm, ⟨35, _⟩ => ⟨S8320x2048, .f32⟩
  | .hbm, ⟨36, _⟩ => ⟨S_, .f32⟩
  | .hbm, ⟨37, _⟩ => ⟨S8320x2048, .f32⟩
  | .hbm, ⟨38, _⟩ => ⟨S8320x2048, .f32⟩
  | .hbm, ⟨39, _⟩ => ⟨S_, .f32⟩
  | .hbm, ⟨40, _⟩ => ⟨S8320x2048, .f32⟩
  | .hbm, ⟨41, _⟩ => ⟨S8320x2048, .f32⟩
  | .hbm, ⟨42, _⟩ => ⟨S8320x2048, .f32⟩
  | .hbm, ⟨43, _⟩ => ⟨S8320x2048, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_4 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_5 : Ref sig .tc := ⟨.hbm, 36, rfl⟩
abbrev main_v28 : Ref sig .tc := ⟨.hbm, 37, rfl⟩
abbrev main_v29 : Ref sig .tc := ⟨.hbm, 38, rfl⟩
abbrev main_cst_6 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Kernel4.lean ====
abbrev S8320x4096 : Shape := ⟨2, ![8320, 4096]⟩
abbrev S4096x5120 : Shape := ⟨2, ![4096, 5120]⟩
abbrev S8320x5120 : Shape := ⟨2, ![8320, 5120]⟩
abbrev S640x4096 : Shape := ⟨2, ![640, 4096]⟩
abbrev S4096x512 : Shape := ⟨2, ![4096, 512]⟩
abbrev S640x512 : Shape := ⟨2, ![640, 512]⟩

abbrev nBuf : Space → Nat
  | .hbm => 4
  | .vmem => 6
  | .smem => 0
  | _ => 0

abbrev bufTy : (tb : Table) → Fin (tcTables nBuf tb) → BufTy
  | .hbm, ⟨0, _⟩ => ⟨S8320x4096, .bf16⟩
  | .hbm, ⟨1, _⟩ => ⟨S4096x5120, .f32⟩
  | .hbm, ⟨2, _⟩ => ⟨S4096x5120, .bf16⟩
  | .hbm, ⟨3, _⟩ => ⟨S8320x5120, .f32⟩
  | .local _ .vmem, ⟨0, _⟩ => ⟨S640x4096, .bf16⟩
  | .local _ .vmem, ⟨1, _⟩ => ⟨S640x4096, .bf16⟩
  | .local _ .vmem, ⟨2, _⟩ => ⟨S4096x512, .bf16⟩
  | .local _ .vmem, ⟨3, _⟩ => ⟨S4096x512, .bf16⟩
  | .local _ .vmem, ⟨4, _⟩ => ⟨S640x512, .f32⟩
  | .local _ .vmem, ⟨5, _⟩ => ⟨S640x512, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![13, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8320x4096 : Shape := ⟨2, ![8320, 4096]⟩
abbrev S4096x5120 : Shape := ⟨2, ![4096, 5120]⟩
abbrev S8320x5120 : Shape := ⟨2, ![8320, 5120]⟩

abbrev nBuf : Space → Nat
  | .hbm => 4
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x5120, .f32⟩
  | .hbm, ⟨2, _⟩ => ⟨S8320x4096, .f32⟩
  | .hbm, ⟨3, _⟩ => ⟨S8320x5120, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel5.lean ====
abbrev S8320x4096 : Shape := ⟨2, ![8320, 4096]⟩
abbrev S4096x4096 : Shape := ⟨2, ![4096, 4096]⟩
abbrev S640x4096 : Shape := ⟨2, ![640, 4096]⟩
abbrev S4096x512 : Shape := ⟨2, ![4096, 512]⟩
abbrev S640x512 : Shape := ⟨2, ![640, 512]⟩

abbrev nBuf : Space → Nat
  | .hbm => 4
  | .vmem => 6
  | .smem => 0
  | _ => 0

abbrev bufTy : (tb : Table) → Fin (tcTables nBuf tb) → BufTy
  | .hbm, ⟨0, _⟩ => ⟨S8320x4096, .bf16⟩
  | .hbm, ⟨1, _⟩ => ⟨S4096x4096, .f32⟩
  | .hbm, ⟨2, _⟩ => ⟨S4096x4096, .bf16⟩
  | .hbm, ⟨3, _⟩ => ⟨S8320x4096, .f32⟩
  | .local _ .vmem, ⟨0, _⟩ => ⟨S640x4096, .bf16⟩
  | .local _ .vmem, ⟨1, _⟩ => ⟨S640x4096, .bf16⟩
  | .local _ .vmem, ⟨2, _⟩ => ⟨S4096x512, .bf16⟩
  | .local _ .vmem, ⟨3, _⟩ => ⟨S4096x512, .bf16⟩
  | .local _ .vmem, ⟨4, _⟩ => ⟨S640x512, .f32⟩
  | .local _ .vmem, ⟨5, _⟩ => ⟨S640x512, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![13, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8320x4096 : Shape := ⟨2, ![8320, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x4096, .f32⟩
  | .hbm, ⟨2, _⟩ => ⟨S8320x4096, .f32⟩
  | .hbm, ⟨3, _⟩ => ⟨S8320x4096, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel6.lean ====
abbrev S8320x5120 : Shape := ⟨2, ![8320, 5120]⟩
abbrev S32x128x8x64 : Shape := ⟨4, ![32, 128, 8, 64]⟩
abbrev S64 : Shape := ⟨1, ![64]⟩
abbrev S32x64 : Shape := ⟨2, ![32, 64]⟩
abbrev S128 : Shape := ⟨1, ![128]⟩
abbrev S_ : Shape := ⟨0, ![]⟩
abbrev S128x1 : Shape := ⟨2, ![128, 1]⟩
abbrev S128x64 : Shape := ⟨2, ![128, 64]⟩
abbrev S64x128 : Shape := ⟨2, ![64, 128]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S64x128x256 : Shape := ⟨3, ![64, 128, 256]⟩
abbrev S4 : Shape := ⟨1, ![4]⟩
abbrev S4x1 : Shape := ⟨2, ![4, 1]⟩
abbrev S1x128 : Shape := ⟨2, ![1, 128]⟩
abbrev S4x128 : Shape := ⟨2, ![4, 128]⟩
abbrev S16 : Shape := ⟨1, ![16]⟩
abbrev S1x16 : Shape := ⟨2, ![1, 16]⟩
abbrev S4x16 : Shape := ⟨2, ![4, 16]⟩
abbrev S4x128x1 : Shape := ⟨3, ![4, 128, 1]⟩
abbrev S64x4x128 : Shape := ⟨3, ![64, 4, 128]⟩
abbrev S8x32x128 : Shape := ⟨3, ![8, 32, 128]⟩
abbrev S4x16x1 : Shape := ⟨3, ![4, 16, 1]⟩
abbrev S64x4x16 : Shape := ⟨3, ![64, 4, 16]⟩
abbrev S8x32x16 : Shape := ⟨3, ![8, 32, 16]⟩
abbrev S128x4096 : Shape := ⟨2, ![128, 4096]⟩
abbrev S32x4x8x8x64 : Shape := ⟨5, ![32, 4, 8, 8, 64]⟩
abbrev S32x8x8x4x64 : Shape := ⟨5, ![32, 8, 8, 4, 64]⟩
abbrev S32x8x32x64 : Shape := ⟨4, ![32, 8, 32, 64]⟩
abbrev S128x512 : Shape := ⟨2, ![128, 512]⟩
abbrev S32x4x512 : Shape := ⟨3, ![32, 4, 512]⟩
abbrev S64x4 : Shape := ⟨2, ![64, 4]⟩
abbrev S8x32x1 : Shape := ⟨3, ![8, 32, 1]⟩
abbrev S32x16x512 : Shape := ⟨3, ![32, 16, 512]⟩
abbrev S32x128x512 : Shape := ⟨3, ![32, 128, 512]⟩
abbrev S1x8x32x64 : Shape := ⟨4, ![1, 8, 32, 64]⟩
abbrev S1x16x512 : Shape := ⟨3, ![1, 16, 512]⟩
abbrev S1x128x512 : Shape := ⟨3, ![1, 128, 512]⟩
abbrev S16x512 : Shape := ⟨2, ![16, 512]⟩
abbrev S32x128 : Shape := ⟨2, ![32, 128]⟩
abbrev S32x16 : Shape := ⟨2, ![32, 16]⟩
abbrev S1x1x32x64 : Shape := ⟨4, ![1, 1, 32, 64]⟩
abbrev S1x32x128 : Shape := ⟨3, ![1, 32, 128]⟩
abbrev S16x64 : Shape := ⟨2, ![16, 64]⟩
abbrev S1x32x16 : Shape := ⟨3, ![1, 32, 16]⟩
abbrev S1x32x1 : Shape := ⟨3, ![1, 32, 1]⟩
abbrev S32x1 : Shape := ⟨2, ![32, 1]⟩
abbrev S32 : Shape := ⟨1, ![32]⟩

abbrev nBuf : Space → Nat
  | .hbm => 139
  | .vmem => 15
  | .smem => 0
  | _ => 0

abbrev hbmTy0_0 (i : Nat) : BufTy := match i % 128 with
  | 0 => ⟨S8320x5120, .f32⟩
  | 1 => ⟨S32x128x8x64, .f32⟩
  | 2 => ⟨S32x128x8x64, .f32⟩
  | 3 => ⟨S64, .f32⟩
  | 4 => ⟨S32x64, .f32⟩
  | 5 => ⟨S128, .i32⟩
  | 6 => ⟨S_, .i32⟩
  | 7 => ⟨S128, .i32⟩
  | 8 => ⟨S128, .i32⟩
  | 9 => ⟨S128, .f32⟩
  | 10 => ⟨S_, .f32⟩
  | 11 => ⟨S128, .f32⟩
  | 12 => ⟨S128, .f32⟩
  | 13 => ⟨S128, .f32⟩
  | 14 => ⟨S_, .f32⟩
  | 15 => ⟨S128, .f32⟩
  | 16 => ⟨S128, .f32⟩
  | 17 => ⟨S_, .f32⟩
  | 18 => ⟨S128, .f32⟩
  | 19 => ⟨S128, .f32⟩
  | 20 => ⟨S128, .i32⟩
  | 21 => ⟨S_, .i32⟩
  | 22 => ⟨S128, .i32⟩
  | 23 => ⟨S128, .i32⟩
  | 24 => ⟨S_, .i32⟩
  | 25 => ⟨S128, .i32⟩
  | 26 => ⟨S128, .i1⟩
  | 27 => ⟨S_, .i32⟩
  | 28 => ⟨S128, .i32⟩
  | 29 => ⟨S128, .i32⟩
  | 30 => ⟨S128, .i32⟩
  | 31 => ⟨S_, .i32⟩
  | 32 => ⟨S128, .i32⟩
  | 33 => ⟨S128, .i1⟩
  | 34 => ⟨S_, .i32⟩
  | 35 => ⟨S128, .i32⟩
  | 36 => ⟨S128, .i32⟩
  | 37 => ⟨S128, .i32⟩
  | 38 => ⟨S128x1, .i32⟩
  | 39 => ⟨S128x64, .f32⟩
  | 40 => ⟨S64x128, .f32⟩
  | 41 => ⟨S128, .i32⟩
  | 42 => ⟨S128x1, .i32⟩
  | 43 => ⟨S_, .i32⟩
  | 44 => ⟨S128x1, .i32⟩
  | 45 => ⟨S128x1, .i32⟩
  | 46 => ⟨S256, .i32⟩
  | 47 => ⟨S1x256, .i32⟩
  | 48 => ⟨S128x256, .i32⟩
  | 49 => ⟨S128x256, .i32⟩
  | 50 => ⟨S128x256, .i32⟩
  | 51 => ⟨S_, .i32⟩
  | 52 => ⟨S_, .i32⟩
  | 53 => ⟨S_, .i32⟩
  | 54 => ⟨S128x256, .i32⟩
  | 55 => ⟨S128x256, .i32⟩
  | 56 => ⟨S_, .i32⟩
  | 57 => ⟨S128x256, .i32⟩
  | 58 => ⟨S128x256, .i32⟩
  | 59 => ⟨S_, .i32⟩
  | 60 => ⟨S128x256, .i32⟩
  | 61 => ⟨S128x256, .i1⟩
  | 62 => ⟨S_, .i32⟩
  | 63 => ⟨S128x256, .i32⟩
  | 64 => ⟨S128x256, .i32⟩
  | 65 => ⟨S128x256, .i32⟩
  | 66 => ⟨S128x256x1, .i32⟩
  | 67 => ⟨S64x128x256, .f32⟩
  | 68 => ⟨S4, .i32⟩
  | 69 => ⟨S4x1, .i32⟩
  | 70 => ⟨S_, .i32⟩
  | 71 => ⟨S4x1, .i32⟩
  | 72 => ⟨S4x1, .i32⟩
  | 73 => ⟨S128, .i32⟩
  | 74 => ⟨S1x128, .i32⟩
  | 75 => ⟨S4x128, .i32⟩
  | 76 => ⟨S4x128, .i32⟩
  | 77 => ⟨S4x128, .i32⟩
  | 78 => ⟨S_, .i32⟩
  | 79 => ⟨S_, .i32⟩
  | 80 => ⟨S_, .i32⟩
  | 81 => ⟨S4x128, .i32⟩
  | 82 => ⟨S4x128, .i32⟩
  | 83 => ⟨S_, .i32⟩
  | 84 => ⟨S4x128, .i32⟩
  | 85 => ⟨S4x128, .i32⟩
  | 86 => ⟨S16, .i32⟩
  | 87 => ⟨S1x16, .i32⟩
  | 88 => ⟨S4x16, .i32⟩
  | 89 => ⟨S4x16, .i32⟩
  | 90 => ⟨S4x16, .i32⟩
  | 91 => ⟨S_, .i32⟩
  | 92 => ⟨S_, .i32⟩
  | 93 => ⟨S_, .i32⟩
  | 94 => ⟨S4x16, .i32⟩
  | 95 => ⟨S4x16, .i32⟩
  | 96 => ⟨S_, .i32⟩
  | 97 => ⟨S4x16, .i32⟩
  | 98 => ⟨S4x16, .i32⟩
  | 99 => ⟨S_, .i32⟩
  | 100 => ⟨S4x128, .i32⟩
  | 101 => ⟨S4x128, .i1⟩
  | 102 => ⟨S_, .i32⟩
  | 103 => ⟨S4x128, .i32⟩
  | 104 => ⟨S4x128, .i32⟩
  | 105 => ⟨S4x128, .i32⟩
  | 106 => ⟨S4x128x1, .i32⟩
  | 107 => ⟨S64x4x128, .f32⟩
  | 108 => ⟨S8x32x128, .f32⟩
  | 109 => ⟨S_, .i32⟩
  | 110 => ⟨S4x16, .i32⟩
  | 111 => ⟨S4x16, .i1⟩
  | 112 => ⟨S_, .i32⟩
  | 113 => ⟨S4x16, .i32⟩
  | 114 => ⟨S4x16, .i32⟩
  | 115 => ⟨S4x16, .i32⟩
  | 116 => ⟨S4x16x1, .i32⟩
  | 117 => ⟨S64x4x16, .f32⟩
  | 118 => ⟨S8x32x16, .f32⟩
  | 119 => ⟨S128x4096, .f32⟩
  | 120 => ⟨S32x4x8x8x64, .f32⟩
  | 121 => ⟨S32x8x8x4x64, .f32⟩
  | 122 => ⟨S32x8x32x64, .f32⟩
  | 123 => ⟨S128x512, .f32⟩
  | 124 => ⟨S32x4x512, .f32⟩
  | 125 => ⟨S128x512, .f32⟩
  | 126 => ⟨S32x4x512, .f32⟩
  | 127 => ⟨S64x4, .f32⟩
  | _ => ⟨S8320x5120, .f32⟩

abbrev hbmTy0_1 (i : Nat) : BufTy := match i % 128 with
  | 0 => ⟨S256, .f32⟩
  | 1 => ⟨S8x32x1, .f32⟩
  | 2 => ⟨S_, .i32⟩
  | 3 => ⟨S_, .f32⟩
  | 4 => ⟨S32x16x512, .f32⟩
  | 5 => ⟨S_, .i32⟩
  | 6 => ⟨S_, .f32⟩
  | 7 => ⟨S32x16x512, .f32⟩
  | 8 => ⟨S32x128x512, .f32⟩
  | 9 => ⟨S32x128x512, .f32⟩
  | 10 => ⟨S32x8x32x64, .f32⟩
  | _ => ⟨S8320x5120, .f32⟩

abbrev hbmTy (i : Nat) : BufTy := match i / 128 with
  | 0 => hbmTy0_0 i
  | 1 => hbmTy0_1 i
  | _ => ⟨S8320x5120, .f32⟩

abbrev bufTy : (tb : Table) → Fin (tcTables nBuf tb) → BufTy
  | .hbm, ⟨i, _⟩ => hbmTy i
  | .local _ .vmem, ⟨0, _⟩ => ⟨S1x8x32x64, .f32⟩
  | .local _ .vmem, ⟨1, _⟩ => ⟨S1x8x32x64, .f32⟩
  | .local _ .vmem, ⟨2, _⟩ => ⟨S1x16x512, .f32⟩
  | .local _ .vmem, ⟨3, _⟩ => ⟨S1x16x512, .f32⟩
  | .local _ .vmem, ⟨4, _⟩ => ⟨S1x16x512, .f32⟩
  | .local _ .vmem, ⟨5, _⟩ => ⟨S1x16x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S8x32x128, .f32⟩
  | .local _ .vmem, ⟨11, _⟩ => ⟨S8x32x16, .f32⟩
  | .local _ .vmem, ⟨12, _⟩ => ⟨S8x32x1, .f32⟩
  | .local _ .vmem, ⟨13, _⟩ => ⟨S1x8x32x64, .f32⟩
  | .local _ .vmem, ⟨14, _⟩ => ⟨S1x8x32x64, .f32⟩
  | _, _ => ⟨S8320x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_5 : Ref sig .tc := ⟨.hbm, 31, rfl⟩
abbrev main_v19 : Ref sig .tc := ⟨.hbm, 32, rfl⟩
abbrev main_v20 : Ref sig .tc := ⟨.hbm, 33, rfl⟩
abbrev main_c_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_8 : Ref sig .tc := ⟨.hbm, 51, rfl⟩
abbrev main_c_9 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_v36 : Ref sig .tc := ⟨.hbm, 58, rfl⟩
abbrev main_c_10 : Ref sig .tc := ⟨.hbm, 59, rfl⟩
abbrev main_v37 : Ref sig .tc := ⟨.hbm, 60, rfl⟩
abbrev main_v38 : Ref sig .tc := ⟨.hbm, 61, rfl⟩
abbrev main_c_11 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_12 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_13 : Ref sig .tc := ⟨.hbm, 78, rfl⟩
abbrev main_c_14 : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_c_15 : Ref sig .tc := ⟨.hbm, 91, rfl⟩
abbrev main_c_16 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_v59 : Ref sig .tc := ⟨.hbm, 98, rfl⟩
abbrev main_c_17 : Ref sig .tc := ⟨.hbm, 99, rfl⟩
abbrev main_v60 : Ref sig .tc := ⟨.hbm, 100, rfl⟩
abbrev main_v61 : Ref sig .tc := ⟨.hbm, 101, rfl⟩
abbrev main_c_18 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_c_19 : Ref sig .tc := ⟨.hbm, 109, rfl⟩
abbrev main_v68 : Ref sig .tc := ⟨.hbm, 110, rfl⟩
abbrev main_v69 : Ref sig .tc := ⟨.hbm, 111, rfl⟩
abbrev main_c_20 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_c_21 : Ref sig .tc := ⟨.hbm, 130, rfl⟩
abbrev main_call4_v0 : Ref sig .tc := ⟨.hbm, 131, rfl⟩
abbrev main_v87 : Ref sig .tc := ⟨.hbm, 132, rfl⟩
abbrev main_c_22 : Ref sig .tc := ⟨.hbm, 133, rfl⟩
abbrev main_call5_v0 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x32x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x8x32x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel6Ideal.lean ====
variable {F : FTy → Type} [FloatOps F] [Named F]
def κ : String → Option EReal := fun
  | "mask" => some ⊥
  | _ => none
-- ==== Reference6Ideal.lean ====
abbrev S8320x5120 : Shape := ⟨2, ![8320, 5120]⟩
abbrev S32x128x8x64 : Shape := ⟨4, ![32, 128, 8, 64]⟩
abbrev S64 : Shape := ⟨1, ![64]⟩
abbrev S32x64 : Shape := ⟨2, ![32, 64]⟩
abbrev S128x5120 : Shape := ⟨2, ![128, 5120]⟩
abbrev S128x4096 : Shape := ⟨2, ![128, 4096]⟩
abbrev S128x512 : Shape := ⟨2, ![128, 512]⟩
abbrev S32x4x64x64 : Shape := ⟨4, ![32, 4, 64, 64]⟩
abbrev S32x4x8x64 : Shape := ⟨4, ![32, 4, 8, 64]⟩
abbrev S32x132x8x64 : Shape := ⟨4, ![32, 132, 8, 64]⟩
abbrev S4 : Shape := ⟨1, ![4]⟩
abbrev S4x1 : Shape := ⟨2, ![4, 1]⟩
abbrev S_ : Shape := ⟨0, ![]⟩
abbrev S132 : Shape := ⟨1, ![132]⟩
abbrev S1x132 : Shape := ⟨2, ![1, 132]⟩
abbrev S4x132 : Shape := ⟨2, ![4, 132]⟩
abbrev S4x132x1 : Shape := ⟨3, ![4, 132, 1]⟩
abbrev S4x132x64 : Shape := ⟨3, ![4, 132, 64]⟩
abbrev S64x4x132 : Shape := ⟨3, ![64, 4, 132]⟩
abbrev S32x132x8x8x64 : Shape := ⟨5, ![32, 132, 8, 8, 64]⟩
abbrev S32x132x64x64 : Shape := ⟨4, ![32, 132, 64, 64]⟩
abbrev S32x64x4x132 : Shape := ⟨4, ![32, 64, 4, 132]⟩
abbrev S1x64x4x132 : Shape := ⟨4, ![1, 64, 4, 132]⟩
abbrev S64x1x1 : Shape := ⟨3, ![64, 1, 1]⟩
abbrev S32x64x4 : Shape := ⟨3, ![32, 64, 4]⟩
abbrev S32x64x4x1 : Shape := ⟨4, ![32, 64, 4, 1]⟩
abbrev S1x64x1x1 : Shape := ⟨4, ![1, 64, 1, 1]⟩
abbrev S32x64x64x4 : Shape := ⟨4, ![32, 64, 64, 4]⟩
abbrev S32x64x4x64 : Shape := ⟨4, ![32, 64, 4, 64]⟩
abbrev S32x8x32x64 : Shape := ⟨4, ![32, 8, 32, 64]⟩

abbrev nBuf : Space → Nat
  | .hbm => 114
  | .vmem => 0
  | .smem => 0
  | _ => 0

abbrev bufTy : (tb : Table) → Fin (tcTables nBuf tb) → BufTy
  | .hbm, ⟨0, _⟩ => ⟨S8320x5120, .f32⟩
  | .hbm, ⟨1, _⟩ => ⟨S32x128x8x64, .f32⟩
  | .hbm, ⟨2, _⟩ => ⟨S32x128x8x64, .f32⟩
  | .hbm, ⟨3, _⟩ => ⟨S64, .f32⟩
  | .hbm, ⟨4, _⟩ => ⟨S32x64, .f32⟩
  | .hbm, ⟨5, _⟩ => ⟨S128x5120, .f32⟩
  | .hbm, ⟨6, _⟩ => ⟨S128x4096, .f32⟩
  | .hbm, ⟨7, _⟩ => ⟨S128x512, .f32⟩
  | .hbm, ⟨8, _⟩ => ⟨S128x512, .f32⟩
  | .hbm, ⟨9, _⟩ => ⟨S32x4x64x64, .f32⟩
  | .hbm, ⟨10, _⟩ => ⟨S32x4x8x64, .f32⟩
  | .hbm, ⟨11, _⟩ => ⟨S32x4x8x64, .f32⟩
  | .hbm, ⟨12, _⟩ => ⟨S32x132x8x64, .f32⟩
  | .hbm, ⟨13, _⟩ => ⟨S32x132x8x64, .f32⟩
  | .hbm, ⟨14, _⟩ => ⟨S4, .i32⟩
  | .hbm, ⟨15, _⟩ => ⟨S4x1, .i32⟩
  | .hbm, ⟨16, _⟩ => ⟨S_, .i32⟩
  | .hbm, ⟨17, _⟩ => ⟨S4x1, .i32⟩
  | .hbm, ⟨18, _⟩ => ⟨S4x1, .i32⟩
  | .hbm, ⟨19, _⟩ => ⟨S132, .i32⟩
  | .hbm, ⟨20, _⟩ => ⟨S1x132, .i32⟩
  | .hbm, ⟨21, _⟩ => ⟨S4x132, .i32⟩
  | .hbm, ⟨22, _⟩ => ⟨S4x132, .i32⟩
  | .hbm, ⟨23, _⟩ => ⟨S4x132, .i32⟩
  | .hbm, ⟨24, _⟩ => ⟨S_, .i32⟩
  | .hbm, ⟨25, _⟩ => ⟨S4x132, .i32⟩
  | .hbm, ⟨26, _⟩ => ⟨S4x132, .i1⟩
  | .hbm, ⟨27, _⟩ => ⟨S_, .i32⟩
  | .hbm, ⟨28, _⟩ => ⟨S4x132, .i32⟩
  | .hbm, ⟨29, _⟩ => ⟨S4x132, .i1⟩
  | .hbm, ⟨30, _⟩ => ⟨S4x132, .i1⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S4x132, .i32⟩
  | .hbm, ⟨35, _⟩ => ⟨S4x132, .i32⟩
  | .hbm, ⟨36, _⟩ => ⟨S_, .i32⟩
  | .hbm, ⟨37, _⟩ => ⟨S4x132, .i32⟩
  | .hbm, ⟨38, _⟩ => ⟨S4x132, .i32⟩
  | .hbm, ⟨39, _⟩ => ⟨S_, .i32⟩
  | .hbm, ⟨40, _⟩ => ⟨S4x132, .i32⟩
  | .hbm, ⟨41, _⟩ => ⟨S4x132, .i32⟩
  | .hbm, ⟨42, _⟩ => ⟨S4x132, .f32⟩
  | .hbm, ⟨43, _⟩ => ⟨S_, .f32⟩
  | .hbm, ⟨44, _⟩ => ⟨S4x132, .f32⟩
  | .hbm, ⟨45, _⟩ => ⟨S4x132, .f32⟩
  | .hbm, ⟨46, _⟩ => ⟨S4x132, .f32⟩
  | .hbm, ⟨47, _⟩ => ⟨S_, .f32⟩
  | .hbm, ⟨48, _⟩ => ⟨S4x132, .f32⟩
  | .hbm, ⟨49, _⟩ => ⟨S4x132, .f32⟩
  | .hbm, ⟨50, _⟩ => ⟨S_, .f32⟩
  | .hbm, ⟨51, _⟩ => ⟨S4x132, .f32⟩
  | .hbm, ⟨52, _⟩ => ⟨S4x132, .f32⟩
  | .hbm, ⟨53, _⟩ => ⟨S4x132, .i32⟩
  | .hbm, ⟨54, _⟩ => ⟨S_, .i32⟩
  | .hbm, ⟨55, _⟩ => ⟨S4x132, .i32⟩
  | .hbm, ⟨56, _⟩ => ⟨S4x132, .i32⟩
  | .hbm, ⟨57, _⟩ => ⟨S_, .i32⟩
  | .hbm, ⟨58, _⟩ => ⟨S4x132, .i32⟩
  | .hbm, ⟨59, _⟩ => ⟨S4x132, .i1⟩
  | .hbm, ⟨60, _⟩ => ⟨S_, .i32⟩
  | .hbm, ⟨61, _⟩ => ⟨S4x132, .i32⟩
  | .hbm, ⟨62, _⟩ => ⟨S4x132, .i32⟩
  | .hbm, ⟨63, _⟩ => ⟨S4x132, .i32⟩
  | .hbm, ⟨64, _⟩ => ⟨S_, .i32⟩
  | .hbm, ⟨65, _⟩ => ⟨S4x132, .i32⟩
  | .hbm, ⟨66, _⟩ => ⟨S4x132, .i1⟩
  | .hbm, ⟨67, _⟩ => ⟨S_, .i32⟩
  | .hbm, ⟨68, _⟩ => ⟨S4x132, .i32⟩
  | .hbm, ⟨69, _⟩ => ⟨S4x132, .i32⟩
  | .hbm, ⟨70, _⟩ => ⟨S4x132, .i32⟩
  | .hbm, ⟨71, _⟩ => ⟨S4x132x1, .i32⟩
  | .hbm, ⟨72, _⟩ => ⟨S4x132x64, .f32⟩
  | .hbm, ⟨73, _⟩ => ⟨S64x4x132, .f32⟩
  | .hbm, ⟨74, _⟩ => ⟨S32x132x8x8x64, .f32⟩
  | .hbm, ⟨75, _⟩ => ⟨S32x132x64x64, .f32⟩
  | .hbm, ⟨76, _⟩ => ⟨S32x132x8x8x64, .f32⟩
  | .hbm, ⟨77, _⟩ => ⟨S32x132x64x64, .f32⟩
  | .hbm, ⟨78, _⟩ => ⟨S32x64x4x132, .f32⟩
  | .hbm, ⟨79, _⟩ => ⟨S_, .f32⟩
  | .hbm, ⟨80, _⟩ => ⟨S32x64x4x132, .f32⟩
  | .hbm, ⟨81, _⟩ => ⟨S32x64x4x132, .f32⟩
  | .hbm, ⟨82, _⟩ => ⟨S1x64x4x132, .f32⟩
  | .hbm, ⟨83, _⟩ => ⟨S32x64x4x132, .f32⟩
  | .hbm, ⟨84, _⟩ => ⟨S32x64x4x132, .f32⟩
  | .hbm, ⟨85, _⟩ => ⟨S_, .f32⟩
  | .hbm, ⟨86, _⟩ => ⟨S_, .f32⟩
  | .hbm, ⟨87, _⟩ => ⟨S32x64x4x132, .i1⟩
  | .hbm, ⟨88, _⟩ => ⟨S32x64x4x132, .f32⟩
  | .hbm, ⟨89, _⟩ => ⟨S32x64x4x132, .f32⟩
  | .hbm, ⟨90, _⟩ => ⟨S64x1x1, .f32⟩
  | .hbm, ⟨91, _⟩ => ⟨S_, .f32⟩
  | .hbm, ⟨92, _⟩ => ⟨S32x64x4, .f32⟩
  | .hbm, ⟨93, _⟩ => ⟨S32x64x4x1, .f32⟩
  | .hbm, ⟨94, _⟩ => ⟨S1x64x1x1, .f32⟩
  | .hbm, ⟨95, _⟩ => ⟨S32x64x4x1, .f32⟩
  | .hbm, ⟨96, _⟩ => ⟨S32x64x4x1, .f32⟩
  | .hbm, ⟨97, _⟩ => ⟨S32x64x4x132, .f32⟩
  | .hbm, ⟨98, _⟩ => ⟨S32x64x4x132, .f32⟩
  | .hbm, ⟨99, _⟩ => ⟨S32x64x4x132, .f32⟩
  | .hbm, ⟨100, _⟩ => ⟨S_, .f32⟩
  | .hbm, ⟨101, _⟩ => ⟨S32x64x4, .f32⟩
  | .hbm, ⟨102, _⟩ => ⟨S32x64x4x1, .f32⟩
  | .hbm, ⟨103, _⟩ => ⟨S1x64x1x1, .f32⟩
  | .hbm, ⟨104, _⟩ => ⟨S32x64x4x1, .f32⟩
  | .hbm, ⟨105, _⟩ => ⟨S32x64x4x1, .f32⟩
  | .hbm, ⟨106, _⟩ => ⟨S32x64x4x1, .f32⟩
  | .hbm, ⟨107, _⟩ => ⟨S32x64x4x1, .f32⟩
  | .hbm, ⟨108, _⟩ => ⟨S32x64x4x132, .f32⟩
  | .hbm, ⟨109, _⟩ => ⟨S32x64x4x132, .f32⟩
  | .hbm, ⟨110, _⟩ => ⟨S32x64x64x4, .f32⟩
  | .hbm, ⟨111, _⟩ => ⟨S32x4x64x64, .f32⟩
  | .hbm, ⟨112, _⟩ => ⟨S32x64x4x64, .f32⟩
  | .hbm, ⟨113, _⟩ => ⟨S32x8x32x64, .f32⟩
  | _, _ => ⟨S8320x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_0 : Ref sig .tc := ⟨.hbm, 24, rfl⟩
abbrev main_v18 : Ref sig .tc := ⟨.hbm, 25, rfl⟩
abbrev main_v19 : Ref sig .tc := ⟨.hbm, 26, rfl⟩
abbrev main_c_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_2 : Ref sig .tc := ⟨.hbm, 31, rfl⟩
abbrev main_c_3 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_c_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_10 : Ref sig .tc := ⟨.hbm, 64, rfl⟩
abbrev main_v42 : Ref sig .tc := ⟨.hbm, 65, rfl⟩
abbrev main_v43 : Ref sig .tc := ⟨.hbm, 66, rfl⟩
abbrev main_c_11 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_13 : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_v60 : Ref sig .tc := ⟨.hbm, 89, rfl⟩
abbrev main_v61 : Ref sig .tc := ⟨.hbm, 90, rfl⟩
abbrev main_cst_14 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_15 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]
-- ==== Kernel7.lean ====
abbrev S8320x2048 : Shape := ⟨2, ![8320, 2048]⟩
abbrev S8x128x128 : Shape := ⟨3, ![8, 128, 128]⟩
abbrev S8x128 : Shape := ⟨2, ![8, 128]⟩
abbrev S3x2048 : Shape := ⟨2, ![3, 2048]⟩
abbrev S32x2x2048 : Shape := ⟨3, ![32, 2, 2048]⟩
abbrev S128x128 : Shape := ⟨2, ![128, 128]⟩
abbrev S_ : Shape := ⟨0, ![]⟩
abbrev S8x4x4 : Shape := ⟨3, ![8, 4, 4]⟩
abbrev S4x4 : Shape := ⟨2, ![4, 4]⟩
abbrev S32x32 : Shape := ⟨2, ![32, 32]⟩
abbrev S1x32x1x32x1 : Shape := ⟨5, ![1, 32, 1, 32, 1]⟩
abbrev S8x1x4x1x4 : Shape := ⟨5, ![8, 1, 4, 1, 4]⟩
abbrev S8x32x4x32x4 : Shape := ⟨5, ![8, 32, 4, 32, 4]⟩
abbrev S128x8 : Shape := ⟨2, ![128, 8]⟩
abbrev S8x4 : Shape := ⟨2, ![8, 4]⟩
abbrev S4x8 : Shape := ⟨2, ![4, 8]⟩
abbrev S1x4x1x8 : Shape := ⟨4, ![1, 4, 1, 8]⟩
abbrev S32x4x1x8 : Shape := ⟨4, ![32, 4, 1, 8]⟩
abbrev S1x8x128x128 : Shape := ⟨4, ![1, 8, 128, 128]⟩
abbrev S2x8x128x128 : Shape := ⟨4, ![2, 8, 128, 128]⟩
abbrev S1x128x8 : Shape := ⟨3, ![1, 128, 8]⟩
abbrev S2x128x8 : Shape := ⟨3, ![2, 128, 8]⟩
abbrev S32x1x2048 : Shape := ⟨3, ![32, 1, 2048]⟩
abbrev S32x4x2048 : Shape := ⟨3, ![32, 4, 2048]⟩
abbrev S128x2048 : Shape := ⟨2, ![128, 2048]⟩
abbrev S1x128x2048 : Shape := ⟨3, ![1, 128, 2048]⟩
abbrev S2x128x2048 : Shape := ⟨3, ![2, 128, 2048]⟩
abbrev S8320x4096 : Shape := ⟨2, ![8320, 4096]⟩
abbrev S8x2048 : Shape := ⟨2, ![8, 2048]⟩
abbrev S128x4096 : Shape := ⟨2, ![128, 4096]⟩
abbrev S1x1x128x128 : Shape := ⟨4, ![1, 1, 128, 128]⟩
abbrev S128x256 : Shape := ⟨2, ![128, 256]⟩
abbrev S128x1 : Shape := ⟨2, ![128, 1]⟩
abbrev S1x2048 : Shape := ⟨2, ![1, 2048]⟩

abbrev nBuf : Space → Nat
  | .hbm => 69
  | .vmem => 18
  | .smem => 0
  | _ => 0

abbrev bufTy : (tb : Table) → Fin (tcTables nBuf tb) → BufTy
  | .hbm, ⟨0, _⟩ => ⟨S8320x2048, .f32⟩
  | .hbm, ⟨1, _⟩ => ⟨S8320x2048, .f32⟩
  | .hbm, ⟨2, _⟩ => ⟨S8320x2048, .f32⟩
  | .hbm, ⟨3, _⟩ => ⟨S8320x2048, .f32⟩
  | .hbm, ⟨4, _⟩ => ⟨S8x128x128, .f32⟩
  | .hbm, ⟨5, _⟩ => ⟨S8x128, .f32⟩
  | .hbm, ⟨6, _⟩ => ⟨S3x2048, .f32⟩
  | .hbm, ⟨7, _⟩ => ⟨S32x2x2048, .f32⟩
  | .hbm, ⟨8, _⟩ => ⟨S128x128, .i32⟩
  | .hbm, ⟨9, _⟩ => ⟨S_, .i32⟩
  | .hbm, ⟨10, _⟩ => ⟨S128x128, .i32⟩
  | .hbm, ⟨11, _⟩ => ⟨S128x128, .i32⟩
  | .hbm, ⟨12, _⟩ => ⟨S128x128, .i32⟩
  | .hbm, ⟨13, _⟩ => ⟨S128x128, .i1⟩
  | .hbm, ⟨14, _⟩ => ⟨S8x128x128, .i1⟩
  | .hbm, ⟨15, _⟩ => ⟨S_, .f32⟩
  | .hbm, ⟨16, _⟩ => ⟨S8x128x128, .f32⟩
  | .hbm, ⟨17, _⟩ => ⟨S8x128x128, .f32⟩
  | .hbm, ⟨18, _⟩ => ⟨S8x4x4, .f32⟩
  | .hbm, ⟨19, _⟩ => ⟨S4x4, .i32⟩
  | .hbm, ⟨20, _⟩ => ⟨S_, .i32⟩
  | .hbm, ⟨21, _⟩ => ⟨S4x4, .i32⟩
  | .hbm, ⟨22, _⟩ => ⟨S4x4, .i32⟩
  | .hbm, ⟨23, _⟩ => ⟨S4x4, .i32⟩
  | .hbm, ⟨24, _⟩ => ⟨S4x4, .i1⟩
  | .hbm, ⟨25, _⟩ => ⟨S8x4x4, .i1⟩
  | .hbm, ⟨26, _⟩ => ⟨S_, .f32⟩
  | .hbm, ⟨27, _⟩ => ⟨S8x4x4, .f32⟩
  | .hbm, ⟨28, _⟩ => ⟨S8x4x4, .f32⟩
  | .hbm, ⟨29, _⟩ => ⟨S32x32, .i32⟩
  | .hbm, ⟨30, _⟩ => ⟨S32x32, .i32⟩
  | .hbm, ⟨31, _⟩ => ⟨S_, .i32⟩
  | .hbm, ⟨32, _⟩ => ⟨S32x32, .i32⟩
  | .hbm, ⟨33, _⟩ => ⟨S32x32, .i32⟩
  | .hbm, ⟨34, _⟩ => ⟨S32x32, .i1⟩
  | .hbm, ⟨35, _⟩ => ⟨S32x32, .f32⟩
  | .hbm, ⟨36, _⟩ => ⟨S1x32x1x32x1, .f32⟩
  | .hbm, ⟨37, _⟩ => ⟨S8x1x4x1x4, .f32⟩
  | .hbm, ⟨38, _⟩ => ⟨S8x32x4x32x4, .f32⟩
  | .hbm, ⟨39, _⟩ => ⟨S8x32x4x32x4, .f32⟩
  | .hbm, ⟨40, _⟩ => ⟨S8x32x4x32x4, .f32⟩
  | .hbm, ⟨41, _⟩ => ⟨S8x128x128, .f32⟩
  | .hbm, ⟨42, _⟩ => ⟨S128x8, .f32⟩
  | .hbm, ⟨43, _⟩ => ⟨S8x4, .f32⟩
  | .hbm, ⟨44, _⟩ => ⟨S4x8, .f32⟩
  | .hbm, ⟨45, _⟩ => ⟨S1x4x1x8, .f32⟩
  | .hbm, ⟨46, _⟩ => ⟨S32x4x1x8, .f32⟩
  | .hbm, ⟨47, _⟩ => ⟨S128x8, .f32⟩
  | .hbm, ⟨48, _⟩ => ⟨S1x8x128x128, .f32⟩
  | .hbm, ⟨49, _⟩ => ⟨S1x8x128x128, .f32⟩
  | .hbm, ⟨50, _⟩ => ⟨S2x8x128x128, .f32⟩
  | .hbm, ⟨51, _⟩ => ⟨S2x8x128x128, .bf16⟩
  | .hbm, ⟨52, _⟩ => ⟨S1x128x8, .f32⟩
  | .hbm, ⟨53, _⟩ => ⟨S1x128x8, .f32⟩
  | .hbm, ⟨54, _⟩ => ⟨S2x128x8, .f32⟩
  | .hbm, ⟨55, _⟩ => ⟨S32x1x2048, .f32⟩
  | .hbm, ⟨56, _⟩ => ⟨S_, .f32⟩
  | .hbm, ⟨57, _⟩ => ⟨S32x1x2048, .f32⟩
  | .hbm, ⟨58, _⟩ => ⟨S32x1x2048, .f32⟩
  | .hbm, ⟨59, _⟩ => ⟨S32x4x2048, .f32⟩
  | .hbm, ⟨60, _⟩ => ⟨S32x1x2048, .f32⟩
  | .hbm, ⟨61, _⟩ => ⟨S32x1x2048, .f32⟩
  | .hbm, ⟨62, _⟩ => ⟨S32x4x2048, .f32⟩
  | .hbm, ⟨63, _⟩ => ⟨S128x2048, .f32⟩
  | .hbm, ⟨64, _⟩ => ⟨S128x2048, .f32⟩
  | .hbm, ⟨65, _⟩ => ⟨S1x128x2048, .f32⟩
  | .hbm, ⟨66, _⟩ => ⟨S1x128x2048, .f32⟩
  | .hbm, ⟨67, _⟩ => ⟨S2x128x2048, .f32⟩
  | .hbm, ⟨68, _⟩ => ⟨S8320x4096, .bf16⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S8x2048, .f32⟩
  | .local _ .vmem, ⟨9, _⟩ => ⟨S8x2048, .f32⟩
  | .local _ .vmem, ⟨10, _⟩ => ⟨S1x8x128x128, .bf16⟩
  | .local _ .vmem, ⟨11, _⟩ => ⟨S1x8x128x128, .bf16⟩
  | .local _ .vmem, ⟨12, _⟩ => ⟨S1x128x8, .f32⟩
  | .local _ .vmem, ⟨13, _⟩ => ⟨S1x128x8, .f32⟩
  | .local _ .vmem, ⟨14, _⟩ => ⟨S3x2048, .f32⟩
  | .local _ .vmem, ⟨15, _⟩ => ⟨S2x128x2048, .f32⟩
  | .local _ .vmem, ⟨16, _⟩ => ⟨S128x4096, .bf16⟩
  | .local _ .vmem, ⟨17, _⟩ => ⟨S128x4096, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_cst : Ref sig .tc := ⟨.hbm, 15, rfl⟩
abbrev main_call0_v6 : Ref sig .tc := ⟨.hbm, 16, rfl⟩
abbrev main_v0 : Ref sig .tc := ⟨.hbm, 17, rfl⟩
abbrev main_v1 : Ref sig .tc := ⟨.hbm, 18, rfl⟩
abbrev main_call1_v0 : Ref sig .tc := ⟨.hbm, 19, rfl⟩
abbrev main_call1_c : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_cst : Ref sig .tc := ⟨.hbm, 26, rfl⟩
abbrev main_call1_v6 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_c : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 4 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_6 (i : grid0.Coords) : Fin 3 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x128x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference7Ideal.lean ====
abbrev S8320x2048 : Shape := ⟨2, ![8320, 2048]⟩
abbrev S8x128x128 : Shape := ⟨3, ![8, 128, 128]⟩
abbrev S8x128 : Shape := ⟨2, ![8, 128]⟩
abbrev S3x2048 : Shape := ⟨2, ![3, 2048]⟩
abbrev S32x2x2048 : Shape := ⟨3, ![32, 2, 2048]⟩
abbrev S8192x2048 : Shape := ⟨2, ![8192, 2048]⟩
abbrev S64x128x2048 : Shape := ⟨3, ![64, 128, 2048]⟩
abbrev S64x128x8x256 : Shape := ⟨4, ![64, 128, 8, 256]⟩
abbrev S128x128 : Shape := ⟨2, ![128, 128]⟩
abbrev S_ : Shape := ⟨0, ![]⟩
abbrev S8x64x256x128 : Shape := ⟨4, ![8, 64, 256, 128]⟩
abbrev S128x8 : Shape := ⟨2, ![128, 8]⟩
abbrev S128x8x1 : Shape := ⟨3, ![128, 8, 1]⟩
abbrev S1x128x8x1 : Shape := ⟨4, ![1, 128, 8, 1]⟩
abbrev S4x2048x2048 : Shape := ⟨3, ![4, 2048, 2048]⟩
abbrev S4x2050x2048 : Shape := ⟨3, ![4, 2050, 2048]⟩
abbrev S1x2048 : Shape := ⟨2, ![1, 2048]⟩
abbrev S2048 : Shape := ⟨1, ![2048]⟩
abbrev S1x1x2048 : Shape := ⟨3, ![1, 1, 2048]⟩
abbrev S8192x4096 : Shape := ⟨2, ![8192, 4096]⟩
abbrev S128x2048 : Shape := ⟨2, ![128, 2048]⟩
abbrev S32x4x2048 : Shape := ⟨3, ![32, 4, 2048]⟩
abbrev S32x4x8x256 : Shape := ⟨4, ![32, 4, 8, 256]⟩
abbrev S8x4x4 : Shape := ⟨3, ![8, 4, 4]⟩
abbrev S4x4 : Shape := ⟨2, ![4, 4]⟩
abbrev S8x32x256x4 : Shape := ⟨4, ![8, 32, 256, 4]⟩
abbrev S8x4 : Shape := ⟨2, ![8, 4]⟩
abbrev S4x8 : Shape := ⟨2, ![4, 8]⟩
abbrev S4x8x1 : Shape := ⟨3, ![4, 8, 1]⟩
abbrev S1x4x8x1 : Shape := ⟨4, ![1, 4, 8, 1]⟩
abbrev S32x6x2048 : Shape := ⟨3, ![32, 6, 2048]⟩
abbrev S128x4096 : Shape := ⟨2, ![128, 4096]⟩
abbrev S8320x4096 : Shape := ⟨2, ![8320, 4096]⟩

abbrev nBuf : Space → Nat
  | .hbm => 118
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S8320x2048, .f32⟩
  | .hbm, ⟨2, _⟩ => ⟨S8320x2048, .f32⟩
  | .hbm, ⟨3, _⟩ => ⟨S8320x2048, .f32⟩
  | .hbm, ⟨4, _⟩ => ⟨S8x128x128, .f32⟩
  | .hbm, ⟨5, _⟩ => ⟨S8x128, .f32⟩
  | .hbm, ⟨6, _⟩ => ⟨S3x2048, .f32⟩
  | .hbm, ⟨7, _⟩ => ⟨S32x2x2048, .f32⟩
  | .hbm, ⟨8, _⟩ => ⟨S8192x2048, .f32⟩
  | .hbm, ⟨9, _⟩ => ⟨S64x128x2048, .f32⟩
  | .hbm, ⟨10, _⟩ => ⟨S8192x2048, .f32⟩
  | .hbm, ⟨11, _⟩ => ⟨S64x128x8x256, .f32⟩
  | .hbm, ⟨12, _⟩ => ⟨S128x128, .i32⟩
  | .hbm, ⟨13, _⟩ => ⟨S_, .i32⟩
  | .hbm, ⟨14, _⟩ => ⟨S128x128, .i32⟩
  | .hbm, ⟨15, _⟩ => ⟨S128x128, .i32⟩
  | .hbm, ⟨16, _⟩ => ⟨S128x128, .i32⟩
  | .hbm, ⟨17, _⟩ => ⟨S128x128, .i1⟩
  | .hbm, ⟨18, _⟩ => ⟨S8x128x128, .i1⟩
  | .hbm, ⟨19, _⟩ => ⟨S_, .f32⟩
  | .hbm, ⟨20, _⟩ => ⟨S8x128x128, .f32⟩
  | .hbm, ⟨21, _⟩ => ⟨S8x128x128, .f32⟩
  | .hbm, ⟨22, _⟩ => ⟨S8x64x256x128, .f32⟩
  | .hbm, ⟨23, _⟩ => ⟨S64x128x8x256, .f32⟩
  | .hbm, ⟨24, _⟩ => ⟨S128x8, .f32⟩
  | .hbm, ⟨25, _⟩ => ⟨S128x8x1, .f32⟩
  | .hbm, ⟨26, _⟩ => ⟨S1x128x8x1, .f32⟩
  | .hbm, ⟨27, _⟩ => ⟨S64x128x8x256, .f32⟩
  | .hbm, ⟨28, _⟩ => ⟨S64x128x8x256, .f32⟩
  | .hbm, ⟨29, _⟩ => ⟨S64x128x2048, .f32⟩
  | .hbm, ⟨30, _⟩ => ⟨S64x128x2048, .f32⟩
  | .hbm, ⟨31, _⟩ => ⟨S8192x2048, .f32⟩
  | .hbm, ⟨32, _⟩ => ⟨S4x2048x2048, .f32⟩
  | .hbm, ⟨33, _⟩ => ⟨S_, .i32⟩
  | .hbm, ⟨34, _⟩ => ⟨S_, .f32⟩
  | .hbm, ⟨35, _⟩ => ⟨S4x2050x2048, .f32⟩
  | .hbm, ⟨36, _⟩ => ⟨S8192x2048, .f32⟩
  | .hbm, ⟨37, _⟩ => ⟨S4x2048x2048, .f32⟩
  | .hbm, ⟨38, _⟩ => ⟨S4x2048x2048, .f32⟩
  | .hbm, ⟨39, _⟩ => ⟨S1x2048, .f32⟩
  | .hbm, ⟨40, _⟩ => ⟨S2048, .f32⟩
  | .hbm, ⟨41, _⟩ => ⟨S1x1x2048, .f32⟩
  | .hbm, ⟨42, _⟩ => ⟨S4x2048x2048, .f32⟩
  | .hbm, ⟨43, _⟩ => ⟨S4x2048x2048, .f32⟩
  | .hbm, ⟨44, _⟩ => ⟨S4x2048x2048, .f32⟩
  | .hbm, ⟨45, _⟩ => ⟨S1x2048, .f32⟩
  | .hbm, ⟨46, _⟩ => ⟨S2048, .f32⟩
  | .hbm, ⟨47, _⟩ => ⟨S1x1x2048, .f32⟩
  | .hbm, ⟨48, _⟩ => ⟨S4x2048x2048, .f32⟩
  | .hbm, ⟨49, _⟩ => ⟨S4x2048x2048, .f32⟩
  | .hbm, ⟨50, _⟩ => ⟨S4x2048x2048, .f32⟩
  | .hbm, ⟨51, _⟩ => ⟨S4x2048x2048, .f32⟩
  | .hbm, ⟨52, _⟩ => ⟨S1x2048, .f32⟩
  | .hbm, ⟨53, _⟩ => ⟨S2048, .f32⟩
  | .hbm, ⟨54, _⟩ => ⟨S1x1x2048, .f32⟩
  | .hbm, ⟨55, _⟩ => ⟨S4x2048x2048, .f32⟩
  | .hbm, ⟨56, _⟩ => ⟨S4x2048x2048, .f32⟩
  | .hbm, ⟨57, _⟩ => ⟨S4x2048x2048, .f32⟩
  | .hbm, ⟨58, _⟩ => ⟨S4x2048x2048, .f32⟩
  | .hbm, ⟨59, _⟩ => ⟨S8192x2048, .f32⟩
  | .hbm, ⟨60, _⟩ => ⟨S8192x2048, .f32⟩
  | .hbm, ⟨61, _⟩ => ⟨S8192x4096, .f32⟩
  | .hbm, ⟨62, _⟩ => ⟨S128x2048, .f32⟩
  | .hbm, ⟨63, _⟩ => ⟨S32x4x2048, .f32⟩
  | .hbm, ⟨64, _⟩ => ⟨S128x2048, .f32⟩
  | .hbm, ⟨65, _⟩ => ⟨S32x4x8x256, .f32⟩
  | .hbm, ⟨66, _⟩ => ⟨S8x4x4, .f32⟩
  | .hbm, ⟨67, _⟩ => ⟨S4x4, .i32⟩
  | .hbm, ⟨68, _⟩ => ⟨S_, .i32⟩
  | .hbm, ⟨69, _⟩ => ⟨S4x4, .i32⟩
  | .hbm, ⟨70, _⟩ => ⟨S4x4, .i32⟩
  | .hbm, ⟨71, _⟩ => ⟨S4x4, .i32⟩
  | .hbm, ⟨72, _⟩ => ⟨S4x4, .i1⟩
  | .hbm, ⟨73, _⟩ => ⟨S8x4x4, .i1⟩
  | .hbm, ⟨74, _⟩ => ⟨S_, .f32⟩
  | .hbm, ⟨75, _⟩ => ⟨S8x4x4, .f32⟩
  | .hbm, ⟨76, _⟩ => ⟨S8x4x4, .f32⟩
  | .hbm, ⟨77, _⟩ => ⟨S8x32x256x4, .f32⟩
  | .hbm, ⟨78, _⟩ => ⟨S32x4x8x256, .f32⟩
  | .hbm, ⟨79, _⟩ => ⟨S8x4, .f32⟩
  | .hbm, ⟨80, _⟩ => ⟨S4x8, .f32⟩
  | .hbm, ⟨81, _⟩ => ⟨S4x8x1, .f32⟩
  | .hbm, ⟨82, _⟩ => ⟨S1x4x8x1, .f32⟩
  | .hbm, ⟨83, _⟩ => ⟨S32x4x8x256, .f32⟩
  | .hbm, ⟨84, _⟩ => ⟨S32x4x8x256, .f32⟩
  | .hbm, ⟨85, _⟩ => ⟨S32x4x2048, .f32⟩
  | .hbm, ⟨86, _⟩ => ⟨S32x4x2048, .f32⟩
  | .hbm, ⟨87, _⟩ => ⟨S128x2048, .f32⟩
  | .hbm, ⟨88, _⟩ => ⟨S32x4x2048, .f32⟩
  | .hbm, ⟨89, _⟩ => ⟨S32x6x2048, .f32⟩
  | .hbm, ⟨90, _⟩ => ⟨S128x2048, .f32⟩
  | .hbm, ⟨91, _⟩ => ⟨S32x4x2048, .f32⟩
  | .hbm, ⟨92, _⟩ => ⟨S32x4x2048, .f32⟩
  | .hbm, ⟨93, _⟩ => ⟨S1x2048, .f32⟩
  | .hbm, ⟨94, _⟩ => ⟨S2048, .f32⟩
  | .hbm, ⟨95, _⟩ => ⟨S1x1x2048, .f32⟩
  | .hbm, ⟨96, _⟩ => ⟨S32x4x2048, .f32⟩
  | .hbm, ⟨97, _⟩ => ⟨S32x4x2048, .f32⟩
  | .hbm, ⟨98, _⟩ => ⟨S32x4x2048, .f32⟩
  | .hbm, ⟨99, _⟩ => ⟨S1x2048, .f32⟩
  | .hbm, ⟨100, _⟩ => ⟨S2048, .f32⟩
  | .hbm, ⟨101, _⟩ => ⟨S1x1x2048, .f32⟩
  | .hbm, ⟨102, _⟩ => ⟨S32x4x2048, .f32⟩
  | .hbm, ⟨103, _⟩ => ⟨S32x4x2048, .f32⟩
  | .hbm, ⟨104, _⟩ => ⟨S32x4x2048, .f32⟩
  | .hbm, ⟨105, _⟩ => ⟨S32x4x2048, .f32⟩
  | .hbm, ⟨106, _⟩ => ⟨S1x2048, .f32⟩
  | .hbm, ⟨107, _⟩ => ⟨S2048, .f32⟩
  | .hbm, ⟨108, _⟩ => ⟨S1x1x2048, .f32⟩
  | .hbm, ⟨109, _⟩ => ⟨S32x4x2048, .f32⟩
  | .hbm, ⟨110, _⟩ => ⟨S32x4x2048, .f32⟩
  | .hbm, ⟨111, _⟩ => ⟨S32x4x2048, .f32⟩
  | .hbm, ⟨112, _⟩ => ⟨S32x4x2048, .f32⟩
  | .hbm, ⟨113, _⟩ => ⟨S128x2048, .f32⟩
  | .hbm, ⟨114, _⟩ => ⟨S128x2048, .f32⟩
  | .hbm, ⟨115, _⟩ => ⟨S128x4096, .f32⟩
  | .hbm, ⟨116, _⟩ => ⟨S8320x4096, .f32⟩
  | .hbm, ⟨117, _⟩ => ⟨S8320x4096, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_cst : Ref sig .tc := ⟨.hbm, 19, rfl⟩
abbrev main_call0_v6 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c : Ref sig .tc := ⟨.hbm, 33, rfl⟩
abbrev main_call1_v0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call2_v0 : Ref sig .tc := ⟨.hbm, 67, rfl⟩
abbrev main_call2_c : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_cst : Ref sig .tc := ⟨.hbm, 74, rfl⟩
abbrev main_call2_v6 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩

abbrev nD : Nat := 1
abbrev τ : Topo := Topo.v7x

variable {F : FTy → Type} [FloatOps F]
-- ==== Kernel8.lean ====
abbrev S8320x4096 : Shape := ⟨2, ![8320, 4096]⟩
abbrev S4096 : Shape := ⟨1, ![4096]⟩
abbrev S1x4096 : Shape := ⟨2, ![1, 4096]⟩
abbrev S320x4096 : Shape := ⟨2, ![320, 4096]⟩
abbrev S320 : Shape := ⟨1, ![320]⟩
abbrev S320x1 : Shape := ⟨2, ![320, 1]⟩

abbrev nBuf : Space → Nat
  | .hbm => 4
  | .vmem => 5
  | .smem => 0
  | _ => 0

abbrev bufTy : (tb : Table) → Fin (tcTables nBuf tb) → BufTy
  | .hbm, ⟨0, _⟩ => ⟨S8320x4096, .f32⟩
  | .hbm, ⟨1, _⟩ => ⟨S4096, .f32⟩
  | .hbm, ⟨2, _⟩ => ⟨S1x4096, .f32⟩
  | .hbm, ⟨3, _⟩ => ⟨S8320x4096, .bf16⟩
  | .local _ .vmem, ⟨0, _⟩ => ⟨S320x4096, .f32⟩
  | .local _ .vmem, ⟨1, _⟩ => ⟨S320x4096, .f32⟩
  | .local _ .vmem, ⟨2, _⟩ => ⟨S1x4096, .f32⟩
  | .local _ .vmem, ⟨3, _⟩ => ⟨S320x4096, .bf16⟩
  | .local _ .vmem, ⟨4, _⟩ => ⟨S320x4096, .bf16⟩
  | _, _ => ⟨S8320x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S320x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S8320x4096 : Shape := ⟨2, ![8320, 4096]⟩
abbrev S4096 : Shape := ⟨1, ![4096]⟩
abbrev S_ : Shape := ⟨0, ![]⟩
abbrev S8320 : Shape := ⟨1, ![8320]⟩
abbrev S8320x1 : Shape := ⟨2, ![8320, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8320x4096, .f32⟩
  | .hbm, ⟨1, _⟩ => ⟨S4096, .f32⟩
  | .hbm, ⟨2, _⟩ => ⟨S8320x4096, .f32⟩
  | .hbm, ⟨3, _⟩ => ⟨S_, .f32⟩
  | .hbm, ⟨4, _⟩ => ⟨S8320, .f32⟩
  | .hbm, ⟨5, _⟩ => ⟨S8320x1, .f32⟩
  | .hbm, ⟨6, _⟩ => ⟨S_, .f32⟩
  | .hbm, ⟨7, _⟩ => ⟨S8320x1, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S8320x1, .f32⟩
  | .hbm, ⟨13, _⟩ => ⟨S8320x4096, .f32⟩
  | .hbm, ⟨14, _⟩ => ⟨S8320x4096, .f32⟩
  | .hbm, ⟨15, _⟩ => ⟨S1x4096, .f32⟩
  | .hbm, ⟨16, _⟩ => ⟨S8320x4096, .f32⟩
  | .hbm, ⟨17, _⟩ => ⟨S8320x4096, .f32⟩
  | .hbm, ⟨18, _⟩ => ⟨S8320x4096, .bf16⟩
  | _, _ => ⟨S8320x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel9.lean ====
abbrev S8320x4096 : Shape := ⟨2, ![8320, 4096]⟩
abbrev S4096 : Shape := ⟨1, ![4096]⟩
abbrev S1x4096 : Shape := ⟨2, ![1, 4096]⟩
abbrev S320x4096 : Shape := ⟨2, ![320, 4096]⟩
abbrev S320 : Shape := ⟨1, ![320]⟩
abbrev S320x1 : Shape := ⟨2, ![320, 1]⟩

abbrev nBuf : Space → Nat
  | .hbm => 8
  | .vmem => 10
  | .smem => 0
  | _ => 0

abbrev bufTy : (tb : Table) → Fin (tcTables nBuf tb) → BufTy
  | .hbm, ⟨0, _⟩ => ⟨S8320x4096, .f32⟩
  | .hbm, ⟨1, _⟩ => ⟨S8320x4096, .f32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S8320x4096, .f32⟩
  | .hbm, ⟨7, _⟩ => ⟨S8320x4096, .bf16⟩
  | .local _ .vmem, ⟨0, _⟩ => ⟨S320x4096, .f32⟩
  | .local _ .vmem, ⟨1, _⟩ => ⟨S320x4096, .f32⟩
  | .local _ .vmem, ⟨2, _⟩ => ⟨S320x4096, .f32⟩
  | .local _ .vmem, ⟨3, _⟩ => ⟨S320x4096, .f32⟩
  | .local _ .vmem, ⟨4, _⟩ => ⟨S1x4096, .f32⟩
  | .local _ .vmem, ⟨5, _⟩ => ⟨S1x4096, .f32⟩
  | .local _ .vmem, ⟨6, _⟩ => ⟨S320x4096, .f32⟩
  | .local _ .vmem, ⟨7, _⟩ => ⟨S320x4096, .f32⟩
  | .local _ .vmem, ⟨8, _⟩ => ⟨S320x4096, .bf16⟩
  | .local _ .vmem, ⟨9, _⟩ => ⟨S320x4096, .bf16⟩
  | _, _ => ⟨S8320x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S320x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S320x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S8320x4096 : Shape := ⟨2, ![8320, 4096]⟩
abbrev S4096 : Shape := ⟨1, ![4096]⟩
abbrev S_ : Shape := ⟨0, ![]⟩
abbrev S8320 : Shape := ⟨1, ![8320]⟩
abbrev S8320x1 : Shape := ⟨2, ![8320, 1]⟩
abbrev S1x4096 : Shape := ⟨2, ![1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S8320x4096, .f32⟩
  | .hbm, ⟨1, _⟩ => ⟨S8320x4096, .f32⟩
  | .hbm, ⟨2, _⟩ => ⟨S4096, .f32⟩
  | .hbm, ⟨3, _⟩ => ⟨S4096, .f32⟩
  | .hbm, ⟨4, _⟩ => ⟨S8320x4096, .f32⟩
  | .hbm, ⟨5, _⟩ => ⟨S_, .f32⟩
  | .hbm, ⟨6, _⟩ => ⟨S8320, .f32⟩
  | .hbm, ⟨7, _⟩ => ⟨S8320x1, .f32⟩
  | .hbm, ⟨8, _⟩ => ⟨S_, .f32⟩
  | .hbm, ⟨9, _⟩ => ⟨S8320x1, .f32⟩
  | .hbm, ⟨10, _⟩ => ⟨S8320x1, .f32⟩
  | .hbm, ⟨11, _⟩ => ⟨S_, .f32⟩
  | .hbm, ⟨12, _⟩ => ⟨S8320x1, .f32⟩
  | .hbm, ⟨13, _⟩ => ⟨S8320x1, .f32⟩
  | .hbm, ⟨14, _⟩ => ⟨S8320x1, .f32⟩
  | .hbm, ⟨15, _⟩ => ⟨S8320x4096, .f32⟩
  | .hbm, ⟨16, _⟩ => ⟨S8320x4096, .f32⟩
  | .hbm, ⟨17, _⟩ => ⟨S1x4096, .f32⟩
  | .hbm, ⟨18, _⟩ => ⟨S8320x4096, .f32⟩
  | .hbm, ⟨19, _⟩ => ⟨S8320x4096, .f32⟩
  | .hbm, ⟨20, _⟩ => ⟨S8320x4096, .f32⟩
  | .hbm, ⟨21, _⟩ => ⟨S8320x4096, .f32⟩
  | .hbm, ⟨22, _⟩ => ⟨S_, .f32⟩
  | .hbm, ⟨23, _⟩ => ⟨S8320, .f32⟩
  | .hbm, ⟨24, _⟩ => ⟨S8320x1, .f32⟩
  | .hbm, ⟨25, _⟩ => ⟨S_, .f32⟩
  | .hbm, ⟨26, _⟩ => ⟨S8320x1, .f32⟩
  | .hbm, ⟨27, _⟩ => ⟨S8320x1, .f32⟩
  | .hbm, ⟨28, _⟩ => ⟨S_, .f32⟩
  | .hbm, ⟨29, _⟩ => ⟨S8320x1, .f32⟩
  | .hbm, ⟨30, _⟩ => ⟨S8320x1, .f32⟩
  | .hbm, ⟨31, _⟩ => ⟨S8320x1, .f32⟩
  | .hbm, ⟨32, _⟩ => ⟨S8320x4096, .f32⟩
  | .hbm, ⟨33, _⟩ => ⟨S8320x4096, .f32⟩
  | .hbm, ⟨34, _⟩ => ⟨S1x4096, .f32⟩
  | .hbm, ⟨35, _⟩ => ⟨S8320x4096, .f32⟩
  | .hbm, ⟨36, _⟩ => ⟨S8320x4096, .f32⟩
  | .hbm, ⟨37, _⟩ => ⟨S8320x4096, .bf16⟩
  | _, _ => ⟨S8320x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel10.lean ====
abbrev S8320x4096 : Shape := ⟨2, ![8320, 4096]⟩
abbrev S4096 : Shape := ⟨1, ![4096]⟩
abbrev S1x4096 : Shape := ⟨2, ![1, 4096]⟩
abbrev S320x4096 : Shape := ⟨2, ![320, 4096]⟩
abbrev S320 : Shape := ⟨1, ![320]⟩
abbrev S320x1 : Shape := ⟨2, ![320, 1]⟩

abbrev nBuf : Space → Nat
  | .hbm => 5
  | .vmem => 7
  | .smem => 0
  | _ => 0

abbrev bufTy : (tb : Table) → Fin (tcTables nBuf tb) → BufTy
  | .hbm, ⟨0, _⟩ => ⟨S8320x4096, .f32⟩
  | .hbm, ⟨1, _⟩ => ⟨S8320x4096, .f32⟩
  | .hbm, ⟨2, _⟩ => ⟨S4096, .f32⟩
  | .hbm, ⟨3, _⟩ => ⟨S1x4096, .f32⟩
  | .hbm, ⟨4, _⟩ => ⟨S8320x4096, .f32⟩
  | .local _ .vmem, ⟨0, _⟩ => ⟨S320x4096, .f32⟩
  | .local _ .vmem, ⟨1, _⟩ => ⟨S320x4096, .f32⟩
  | .local _ .vmem, ⟨2, _⟩ => ⟨S320x4096, .f32⟩
  | .local _ .vmem, ⟨3, _⟩ => ⟨S320x4096, .f32⟩
  | .local _ .vmem, ⟨4, _⟩ => ⟨S1x4096, .f32⟩
  | .local _ .vmem, ⟨5, _⟩ => ⟨S320x4096, .f32⟩
  | .local _ .vmem, ⟨6, _⟩ => ⟨S320x4096, .f32⟩
  | _, _ => ⟨S8320x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S320x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference10Ideal.lean ====
abbrev S8320x4096 : Shape := ⟨2, ![8320, 4096]⟩
abbrev S4096 : Shape := ⟨1, ![4096]⟩
abbrev S_ : Shape := ⟨0, ![]⟩
abbrev S8320 : Shape := ⟨1, ![8320]⟩
abbrev S8320x1 : Shape := ⟨2, ![8320, 1]⟩
abbrev S1x4096 : Shape := ⟨2, ![1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S8320x4096, .f32⟩
  | .hbm, ⟨1, _⟩ => ⟨S8320x4096, .f32⟩
  | .hbm, ⟨2, _⟩ => ⟨S4096, .f32⟩
  | .hbm, ⟨3, _⟩ => ⟨S8320x4096, .f32⟩
  | .hbm, ⟨4, _⟩ => ⟨S_, .f32⟩
  | .hbm, ⟨5, _⟩ => ⟨S8320, .f32⟩
  | .hbm, ⟨6, _⟩ => ⟨S8320x1, .f32⟩
  | .hbm, ⟨7, _⟩ => ⟨S_, .f32⟩
  | .hbm, ⟨8, _⟩ => ⟨S8320x1, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S8320x1, .f32⟩
  | .hbm, ⟨14, _⟩ => ⟨S8320x4096, .f32⟩
  | .hbm, ⟨15, _⟩ => ⟨S8320x4096, .f32⟩
  | .hbm, ⟨16, _⟩ => ⟨S1x4096, .f32⟩
  | .hbm, ⟨17, _⟩ => ⟨S8320x4096, .f32⟩
  | .hbm, ⟨18, _⟩ => ⟨S8320x4096, .f32⟩
  | .hbm, ⟨19, _⟩ => ⟨S8320x4096, .f32⟩
  | _, _ => ⟨S8320x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Ffn.lean ====
module
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
@[expose] public section

/-! The feed-forward layer: a tile of rows runs over 43 slices of the hidden features, each of
which adds its part of the down projection to the tile of the result. -/

set_option maxRecDepth 16384

noncomputable section
open Idealize.ShloMosaic Idealize.ShloMosaic.TcCoe Idealize.SL.Sem
open Idealize.ShloMosaic.Pipeline (Dat)

namespace Cert.Kernel2Ideal.RefValue
open Cert.Kernel2Ideal Cert.Kernel2Ideal.Gen
open Cert.Reference2Ideal (dot_S8320x4096_S4096x11008_S8320x11008_1_0_0_1_n_n
  dot_S8320x11008_S11008x4096_S8320x4096_1_0_0_1_n_n)

/-- The hidden features before the activation: the rows `x` times the weights `w`. -/
def hidden (x : FVec Ideal S8320x4096 .bf16) (w : FVec Ideal S4096x11008 .f32) :
    FVec Ideal Cert.Reference2Ideal.S8320x11008 .f32 :=
  Host.dotGeneral dot_S8320x4096_S4096x11008_S8320x11008_1_0_0_1_n_n none
    (extf .f32 x Cert.Reference2Ideal.Gen.bitsLt_bf16_f32) w

/-- The feed-forward layer as the reference writes it. -/
def layer (x : FVec Ideal S8320x4096 .bf16) (wg wu : FVec Ideal S4096x11008 .f32)
    (wd : FVec Ideal S11008x4096 .f32) : FVec Ideal S8320x4096 .f32 :=
  Host.dotGeneral dot_S8320x11008_S11008x4096_S8320x4096_1_0_0_1_n_n none
    (mulf (mulf (hidden x wg)
      (Host.divf
        (broadcastInDim Cert.Reference2Ideal.S8320x11008 ![] Cert.Reference2Ideal.Gen.bcast_S_S8320x11008
          (constant Cert.Reference2Ideal.S_ .f32 0x3F800000#32))
        (addf
          (broadcastInDim Cert.Reference2Ideal.S8320x11008 ![] Cert.Reference2Ideal.Gen.bcast_S_S8320x11008
            (constant Cert.Reference2Ideal.S_ .f32 0x3F800000#32))
          (Host.exp (Host.negf (hidden x wg))))))
      (hidden x wu)) wd

variable (m : (ℓ : Loc nD τ sig) → Buf (Elt Ideal) ℓ)

/-- The blocks of the five windows at a grid point. -/
theorem blocks_at : ∀ t : Fin cfg0.N, win0_0.index t = ![t.val / 43, 0] ∧
    win0_1.index t = ![0, t.val % 43] ∧ win0_2.index t = ![0, t.val % 43] ∧
    win0_3.index t = ![t.val % 43, 0] ∧ win0_4.index t = ![t.val / 43, 0] :=
  (by decide +kernel : ∀ t : Fin grid0.N, _)

/-- At the end of the grid the result array is the feed-forward layer of the arguments. -/
theorem final (c : Dev nD) : (dats m 0 c).arrAt 4 (cfgs 0).N
    = layer (m ((c.tc : Thread nD τ).loc main_arg0)) (m ((c.tc : Thread nD τ).loc main_arg1))
        (m ((c.tc : Thread nD τ).loc main_arg2)) (m ((c.tc : Thread nD τ).loc main_arg3)) := by
  refine (dats m 0 c).arrAt_eq_of_covers 4 _ (by decide +kernel) fun t hf y => ?_
  blk_simp
  rw [after0_4, Pipeline.eq_sum_fin_of_reset_step_apply_of_flush (fun n h => outsAt0 m c n h) 43
    (fun _ => 0)
    (fun t => k0_pay2 (iblk m c 0 t) (iblk m c 1 t) (iblk m c 2 t) (iblk m c 3 t))
    (fun t h j => by
      rw [outsAt0_A m c t h (by omega)]
      frame_out
      rw [zero_add])
    (fun t h j => by
      rw [outsAt0_B m c t h (by omega)]
      frame_out
      pointwise [k0_pay3, k0_pay2])
    t ((flush0_4 t).mp hf) _, zero_add]
  pointwise [k0_pay2, k0_pay1, layer, hidden]
  simp only [Ideal.logistic]
  refine Fin.sum_mul_add_congr fun s k hl => ?_
  blk_point [iblk, V, blocks_at t, blocks_at ⟨_, Pipeline.run_point_lt_of_flush t ((flush0_4 t).mp hf) s⟩]

end Cert.Kernel2Ideal.RefValue
-- ==== Proof.EvenProj.lean ====
module
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
@[expose] public section

/-! The input projection of the even layer: one weight matrix read through five windows, whose
five products give the two activated parts, the product of two parts and the last part. -/

set_option maxRecDepth 16384

noncomputable section
open Idealize.ShloMosaic Idealize.ShloMosaic.TcCoe Idealize.SL.Sem
open Idealize.ShloMosaic.Pipeline (Dat)

namespace Cert.Kernel3Ideal.RefValue
open Cert.Kernel3Ideal Cert.Kernel3Ideal.Gen
open Cert.Reference3Ideal (dot_S8320x4096_S4096x10240_S8320x10240_1_0_0_1_n_n S8320x10240 S_)
open Cert.Reference3Ideal.Gen (bcast_S_S8320x2048 slices_S8320x10240_S8320x2048_0_0
  slices_S8320x10240_S8320x2048_0_2048 slices_S8320x10240_S8320x2048_0_4096
  slices_S8320x10240_S8320x2048_0_6144 slices_S8320x10240_S8320x2048_0_8192)

/-- The rows `x` times the whole weight matrix `w`. -/
def product (x : FVec Ideal S8320x4096 .bf16) (w : FVec Ideal S4096x10240 .f32) :
    FVec Ideal S8320x10240 .f32 :=
  Host.dotGeneral dot_S8320x4096_S4096x10240_S8320x10240_1_0_0_1_n_n none
    (extf .f32 x Cert.Reference3Ideal.Gen.bitsLt_bf16_f32) w

/-- The activation, with the cube written as the square times the value. -/
def gelu (x : FVec Ideal S8320x2048 .f32) : FVec Ideal S8320x2048 .f32 :=
  mulf x (mulf (broadcastInDim S8320x2048 ![] bcast_S_S8320x2048 (constant S_ .f32 0x3F000000#32))
    (addf (broadcastInDim S8320x2048 ![] bcast_S_S8320x2048 (constant S_ .f32 0x3F800000#32))
      (Host.tanh (mulf (broadcastInDim S8320x2048 ![] bcast_S_S8320x2048 (constant S_ .f32 0x3F4C422A#32))
        (addf x (mulf (broadcastInDim S8320x2048 ![] bcast_S_S8320x2048 (constant S_ .f32 0x3D372713#32))
          (mulf (mulf x x) x)))))))

/-- The cube does not depend on which factor is split off. -/
theorem cube (x : FVec Ideal S8320x2048 .f32) : mulf (mulf x x) x = mulf x (mulf x x) := by
  funext i
  exact mul_comm (G := EReal) _ _

/-- The five parts of the columns of the product. -/
def part0 (x : FVec Ideal S8320x4096 .bf16) (w : FVec Ideal S4096x10240 .f32) : FVec Ideal S8320x2048 .f32 :=
  extractStridedSlice S8320x2048 ![0, 0] (product x w) slices_S8320x10240_S8320x2048_0_0
/-- The second part. -/
def part1 (x : FVec Ideal S8320x4096 .bf16) (w : FVec Ideal S4096x10240 .f32) : FVec Ideal S8320x2048 .f32 :=
  extractStridedSlice S8320x2048 ![0, 2048] (product x w) slices_S8320x10240_S8320x2048_0_2048
/-- The third part. -/
def part2 (x : FVec Ideal S8320x4096 .bf16) (w : FVec Ideal S4096x10240 .f32) : FVec Ideal S8320x2048 .f32 :=
  extractStridedSlice S8320x2048 ![0, 4096] (product x w) slices_S8320x10240_S8320x2048_0_4096
/-- The fourth part. -/
def part3 (x : FVec Ideal S8320x4096 .bf16) (w : FVec Ideal S4096x10240 .f32) : FVec Ideal S8320x2048 .f32 :=
  extractStridedSlice S8320x2048 ![0, 6144] (product x w) slices_S8320x10240_S8320x2048_0_6144
/-- The fifth part. -/
def part4 (x : FVec Ideal S8320x4096 .bf16) (w : FVec Ideal S4096x10240 .f32) : FVec Ideal S8320x2048 .f32 :=
  extractStridedSlice S8320x2048 ![0, 8192] (product x w) slices_S8320x10240_S8320x2048_0_8192

variable (m : (ℓ : Loc nD τ sig) → Buf (Elt Ideal) ℓ)

/-- The blocks of the ten windows at a grid point. -/
theorem blocks_at : ∀ t : Fin cfg0.N, win0_0.index t = ![t.val / 8, 0] ∧
    win0_1.index t = ![0, t.val % 8] ∧ win0_2.index t = ![0, 8 + t.val % 8] ∧
    win0_3.index t = ![0, 16 + t.val % 8] ∧ win0_4.index t = ![0, 24 + t.val % 8] ∧
    win0_5.index t = ![0, 32 + t.val % 8] ∧ win0_6.index t = ![t.val / 8, t.val % 8] ∧
    win0_7.index t = ![t.val / 8, t.val % 8] ∧ win0_8.index t = ![t.val / 8, t.val % 8] ∧
    win0_9.index t = ![t.val / 8, t.val % 8] :=
  (by decide +kernel : ∀ t : Fin grid0.N, _)

/-- The first result is the activation of the first part. -/
theorem final6 (c : Dev nD) : (dats m 0 c).arrAt 6 (cfgs 0).N
    = gelu (part0 (m ((c.tc : Thread nD τ).loc main_arg0)) (m ((c.tc : Thread nD τ).loc main_arg1))) := by
  refine (dats m 0 c).arrAt_eq_of_covers 6 _ (by decide +kernel) fun t _ y => ?_
  blk_simp
  rw [after0_6]
  frame_out
  rw [gelu, cube]
  pointwise [k0_pay3, part0, product]
  blk_point [iblk, V, blocks_at t]

/-- The second result is the activation of the second part. -/
theorem final7 (c : Dev nD) : (dats m 0 c).arrAt 7 (cfgs 0).N
    = gelu (part1 (m ((c.tc : Thread nD τ).loc main_arg0)) (m ((c.tc : Thread nD τ).loc main_arg1))) := by
  refine (dats m 0 c).arrAt_eq_of_covers 7 _ (by decide +kernel) fun t _ y => ?_
  blk_simp
  rw [after0_7]
  frame_out
  rw [gelu, cube]
  pointwise [k0_pay4, part1, product]
  blk_point [iblk, V, blocks_at t]

/-- The third result is the fourth part times the third. -/
theorem final8 (c : Dev nD) : (dats m 0 c).arrAt 8 (cfgs 0).N
    = mulf (part3 (m ((c.tc : Thread nD τ).loc main_arg0)) (m ((c.tc : Thread nD τ).loc main_arg1)))
        (part2 (m ((c.tc : Thread nD τ).loc main_arg0)) (m ((c.tc : Thread nD τ).loc main_arg1))) := by
  refine (dats m 0 c).arrAt_eq_of_covers 8 _ (by decide +kernel) fun t _ y => ?_
  blk_simp
  rw [after0_8]
  frame_out
  pointwise [k0_pay1, part2, part3, product]
  blk_point [iblk, V, blocks_at t]

/-- The fourth result is the fifth part. -/
theorem final9 (c : Dev nD) : (dats m 0 c).arrAt 9 (cfgs 0).N
    = part4 (m ((c.tc : Thread nD τ).loc main_arg0)) (m ((c.tc : Thread nD τ).loc main_arg1)) := by
  refine (dats m 0 c).arrAt_eq_of_covers 9 _ (by decide +kernel) fun t _ y => ?_
  blk_simp
  rw [after0_9]
  frame_out
  pointwise [k0_pay2, part4, product]
  blk_point [iblk, V, blocks_at t]

end Cert.Kernel3Ideal.RefValue
-- ==== Proof.Proj.lean ====
module
public import proofs.«01_k».proof.Proof.Gen.Kernel4Ideal.Value
public import proofs.«01_k».proof.Proof.Gen.Kernel5Ideal.Value
public import proofs.«01_k».proof.Proof.Gen.Reference4Ideal.Run
public import proofs.«01_k».proof.Proof.Gen.Reference5Ideal.Run
public import Idealize.ShloMosaic.Lib.Pipeline.ValueKit
public import Idealize.ShloMosaic.Lib.Pointwise
@[expose] public section

/-! The two projections of the attention layer: each grid point stores one tile of the product
of the normed rows and the weight matrix. -/

set_option maxRecDepth 16384

noncomputable section
open Idealize.ShloMosaic Idealize.ShloMosaic.TcCoe Idealize.SL.Sem
open Idealize.ShloMosaic.Pipeline (Dat)

namespace Cert.Kernel4Ideal.RefValue
open Cert.Kernel4Ideal Cert.Kernel4Ideal.Gen

/-- The whole product of the rows `x` and the weights `w`, as the reference writes it. -/
def product (x : FVec Ideal S8320x4096 .bf16) (w : FVec Ideal S4096x5120 .f32) :
    FVec Ideal S8320x5120 .f32 :=
  Host.dotGeneral Cert.Reference4Ideal.dot_S8320x4096_S4096x5120_S8320x5120_1_0_0_1_n_n none
    (extf .f32 x Cert.Reference4Ideal.Gen.bitsLt_bf16_f32) w

variable (m : (ℓ : Loc nD τ sig) → Buf (Elt Ideal) ℓ)

/-- The blocks of the three windows at a grid point: rows by the quotient, columns by the remainder. -/
theorem blocks_at : ∀ t : Fin cfg0.N, win0_0.index t = ![t.val / 10, 0] ∧
    win0_1.index t = ![0, t.val % 10] ∧ win0_2.index t = ![t.val / 10, t.val % 10] :=
  (by decide +kernel : ∀ t : Fin grid0.N, _)

/-- The tile stored at a grid point is the tile of the whole product. -/
theorem tile (c : Dev nD) (t : Fin cfg0.N) (y) :
    k0_pay1 (iblk m c 0 t) (iblk m c 1 t) y
      = product (m ((c.tc : Thread nD τ).loc main_arg0)) (m ((c.tc : Thread nD τ).loc main_arg1))
          (((cfg0.win 2).blk t).view.emb y) := by
  pointwise [k0_pay1, product]
  blk_point [iblk, V, blocks_at t]

/-- At the end of the grid the result array is the whole product. -/
theorem final (c : Dev nD) : (dats m 0 c).arrAt 2 (cfgs 0).N
    = product (m ((c.tc : Thread nD τ).loc main_arg0)) (m ((c.tc : Thread nD τ).loc main_arg1)) := by
  refine (dats m 0 c).arrAt_eq_of_covers 2 _ (by decide +kernel) fun t _ y => ?_
  blk_simp
  rw [after0_2]
  frame_out
  exact tile m c t y

end Cert.Kernel4Ideal.RefValue

namespace Cert.Kernel5Ideal.RefValue
open Cert.Kernel5Ideal Cert.Kernel5Ideal.Gen

/-- The whole product of the rows `x` and the weights `w`, as the reference writes it. -/
def product (x : FVec Ideal S8320x4096 .bf16) (w : FVec Ideal S4096x4096 .f32) :
    FVec Ideal S8320x4096 .f32 :=
  Host.dotGeneral Cert.Reference5Ideal.dot_S8320x4096_S4096x4096_S8320x4096_1_0_0_1_n_n none
    (extf .f32 x Cert.Reference5Ideal.Gen.bitsLt_bf16_f32) w

variable (m : (ℓ : Loc nD τ sig) → Buf (Elt Ideal) ℓ)

/-- The blocks of the three windows at a grid point: rows by the quotient, columns by the remainder. -/
theorem blocks_at : ∀ t : Fin cfg0.N, win0_0.index t = ![t.val / 8, 0] ∧
    win0_1.index t = ![0, t.val % 8] ∧ win0_2.index t = ![t.val / 8, t.val % 8] :=
  (by decide +kernel : ∀ t : Fin grid0.N, _)

/-- The tile stored at a grid point is the tile of the whole product. -/
theorem tile (c : Dev nD) (t : Fin cfg0.N) (y) :
    k0_pay1 (iblk m c 0 t) (iblk m c 1 t) y
      = product (m ((c.tc : Thread nD τ).loc main_arg0)) (m ((c.tc : Thread nD τ).loc main_arg1))
          (((cfg0.win 2).blk t).view.emb y) := by
  pointwise [k0_pay1, product]
  blk_point [iblk, V, blocks_at t]

/-- At the end of the grid the result array is the whole product. -/
theorem final (c : Dev nD) : (dats m 0 c).arrAt 2 (cfgs 0).N
    = product (m ((c.tc : Thread nD τ).loc main_arg0)) (m ((c.tc : Thread nD τ).loc main_arg1)) := by
  refine (dats m 0 c).arrAt_eq_of_covers 2 _ (by decide +kernel) fun t _ y => ?_
  blk_simp
  rw [after0_2]
  frame_out
  exact tile m c t y

end Cert.Kernel5Ideal.RefValue
-- ==== Proof.Norms.lean ====
module
public import proofs.«01_k».proof.Proof.Gen.Kernel8Ideal.Value
public import proofs.«01_k».proof.Proof.Gen.Kernel9Ideal.Value
public import proofs.«01_k».proof.Proof.Gen.Kernel10Ideal.Value
public import proofs.«01_k».proof.Proof.Gen.Reference8Ideal.Run
public import proofs.«01_k».proof.Proof.Gen.Reference9Ideal.Run
public import proofs.«01_k».proof.Proof.Gen.Reference10Ideal.Run
public import Idealize.ShloMosaic.Lib.Pipeline.ValueKit
public import Idealize.ShloMosaic.Lib.Pointwise
@[expose] public section

/-! The root-mean-square norms, the residual additions and both in one: each grid point works on
320 whole rows. -/

set_option maxRecDepth 16384

noncomputable section
open Idealize.ShloMosaic Idealize.ShloMosaic.TcCoe Idealize.SL.Sem
open Idealize.ShloMosaic.Pipeline (Dat)

namespace Cert.Kernel8Ideal.RefValue
open Cert.Kernel8Ideal Cert.Kernel8Ideal.Gen
open Cert.Reference8Ideal (S_ S8320x1 S8320)
open Cert.Reference8Ideal.Gen (bcast_S8320x1_S8320x4096_0_1 bcast_S8320_S8320x1_0
  reducesTo_S8320x4096_S8320_d1 h_S_ bcast_S_S8320x1 bcast_S1x4096_S8320x4096_0_1 bcast_S4096_S1x4096_1)

/-- The norm of the rows `x` with the gains `g`, as the reference writes it. -/
def rms (x : FVec Ideal S8320x4096 .f32) (g : FVec Ideal S4096 .f32) : FVec Ideal S8320x4096 .f32 :=
  mulf (mulf x (broadcastInDim S8320x4096 ![0, 1] bcast_S8320x1_S8320x4096_0_1
    (Host.rsqrt (addf (Host.divf (broadcastInDim S8320x1 ![0] bcast_S8320_S8320x1_0
        (Host.reduceAdd (mulf x x) (constant S_ .f32 0x00000000#32) reducesTo_S8320x4096_S8320_d1 h_S_))
      (broadcastInDim S8320x1 ![] bcast_S_S8320x1 (constant S_ .f32 0x45800000#32)))
      (broadcastInDim S8320x1 ![] bcast_S_S8320x1 (constant S_ .f32 0x358637BD#32))))))
    (broadcastInDim S8320x4096 ![0, 1] bcast_S1x4096_S8320x4096_0_1
      (broadcastInDim S1x4096 ![1] bcast_S4096_S1x4096_1 g))

variable (m : (ℓ : Loc nD τ sig) → Buf (Elt Ideal) ℓ)

/-- The blocks of the windows at a grid point: the rows by the point, the gains whole. -/
theorem blocks_at : ∀ t : Fin cfg0.N, win0_0.index t = ![t.val, 0] ∧ win0_1.index t = ![0, 0] ∧ win0_2.index t = ![t.val, 0] :=
  (by decide +kernel : ∀ t : Fin grid0.N, _)

/-- At the end of the grid the result is the norm of the rows, cast. -/
theorem final (c : Dev nD) : (dats m 0 c).arrAt 2 (cfgs 0).N
    = truncf .bf16 (rms (m ((c.tc : Thread nD τ).loc main_arg0)) (m ((c.tc : Thread nD τ).loc main_arg1))) Cert.Reference8Ideal.Gen.bitsLt_bf16_f32 := by
  refine (dats m 0 c).arrAt_eq_of_covers 2 _ (by decide +kernel) fun t _ y => ?_
  blk_simp
  rw [after0_2]
  frame_out
  pointwise [k0_pay1, rms]
  blk_point [iblk, V, blocks_at t]

end Cert.Kernel8Ideal.RefValue

namespace Cert.Kernel9Ideal.RefValue
open Cert.Kernel9Ideal Cert.Kernel9Ideal.Gen
open Cert.Reference9Ideal (S_ S8320x1 S8320)
open Cert.Reference9Ideal.Gen (bcast_S8320x1_S8320x4096_0_1 bcast_S8320_S8320x1_0
  reducesTo_S8320x4096_S8320_d1 h_S_ bcast_S_S8320x1 bcast_S1x4096_S8320x4096_0_1 bcast_S4096_S1x4096_1)

/-- The norm of the rows `x` with the gains `g`, as the reference writes it. -/
def rms (x : FVec Ideal S8320x4096 .f32) (g : FVec Ideal S4096 .f32) : FVec Ideal S8320x4096 .f32 :=
  mulf (mulf x (broadcastInDim S8320x4096 ![0, 1] bcast_S8320x1_S8320x4096_0_1
    (Host.rsqrt (addf (Host.divf (broadcastInDim S8320x1 ![0] bcast_S8320_S8320x1_0
        (Host.reduceAdd (mulf x x) (constant S_ .f32 0x00000000#32) reducesTo_S8320x4096_S8320_d1 h_S_))
      (broadcastInDim S8320x1 ![] bcast_S_S8320x1 (constant S_ .f32 0x45800000#32)))
      (broadcastInDim S8320x1 ![] bcast_S_S8320x1 (constant S_ .f32 0x358637BD#32))))))
    (broadcastInDim S8320x4096 ![0, 1] bcast_S1x4096_S8320x4096_0_1
      (broadcastInDim S1x4096 ![1] bcast_S4096_S1x4096_1 g))

variable (m : (ℓ : Loc nD τ sig) → Buf (Elt Ideal) ℓ)

/-- The blocks of the windows at a grid point: the rows by the point, the gains whole. -/
theorem blocks_at : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![t.val, 0] :=
  (by decide +kernel : ∀ t : Fin grid0.N, _)

/-- The residual row plus the norm of the branch. -/
def residual (x y : FVec Ideal S8320x4096 .f32) (g : FVec Ideal S4096 .f32) : FVec Ideal S8320x4096 .f32 :=
  addf x (rms y g)

/-- The first result is the residual sum. -/
theorem final4 (c : Dev nD) : (dats m 0 c).arrAt 4 (cfgs 0).N
    = residual (m ((c.tc : Thread nD τ).loc main_arg0)) (m ((c.tc : Thread nD τ).loc main_arg1)) (m ((c.tc : Thread nD τ).loc main_arg2)) := by
  refine (dats m 0 c).arrAt_eq_of_covers 4 _ (by decide +kernel) fun t _ y => ?_
  blk_simp
  rw [after0_4]
  frame_out
  pointwise [k0_pay1, residual, rms]
  blk_point [iblk, V, blocks_at t]

/-- The second result is the norm of the residual sum, cast. -/
theorem final5 (c : Dev nD) : (dats m 0 c).arrAt 5 (cfgs 0).N
    = truncf .bf16 (rms (residual (m ((c.tc : Thread nD τ).loc main_arg0)) (m ((c.tc : Thread nD τ).loc main_arg1)) (m ((c.tc : Thread nD τ).loc main_arg2))) (m ((c.tc : Thread nD τ).loc main_arg3))) Cert.Reference9Ideal.Gen.bitsLt_bf16_f32 := by
  refine (dats m 0 c).arrAt_eq_of_covers 5 _ (by decide +kernel) fun t _ y => ?_
  blk_simp
  rw [after0_5]
  frame_out
  pointwise [k0_pay2, k0_pay1, residual, rms]
  blk_point [iblk, V, blocks_at t]

end Cert.Kernel9Ideal.RefValue

namespace Cert.Kernel10Ideal.RefValue
open Cert.Kernel10Ideal Cert.Kernel10Ideal.Gen
open Cert.Reference10Ideal (S_ S8320x1 S8320)
open Cert.Reference10Ideal.Gen (bcast_S8320x1_S8320x4096_0_1 bcast_S8320_S8320x1_0
  reducesTo_S8320x4096_S8320_d1 h_S_ bcast_S_S8320x1 bcast_S1x4096_S8320x4096_0_1 bcast_S4096_S1x4096_1)

/-- The norm of the rows `x` with the gains `g`, as the reference writes it. -/
def rms (x : FVec Ideal S8320x4096 .f32) (g : FVec Ideal S4096 .f32) : FVec Ideal S8320x4096 .f32 :=
  mulf (mulf x (broadcastInDim S8320x4096 ![0, 1] bcast_S8320x1_S8320x4096_0_1
    (Host.rsqrt (addf (Host.divf (broadcastInDim S8320x1 ![0] bcast_S8320_S8320x1_0
        (Host.reduceAdd (mulf x x) (constant S_ .f32 0x00000000#32) reducesTo_S8320x4096_S8320_d1 h_S_))
      (broadcastInDim S8320x1 ![] bcast_S_S8320x1 (constant S_ .f32 0x45800000#32)))
      (broadcastInDim S8320x1 ![] bcast_S_S8320x1 (constant S_ .f32 0x358637BD#32))))))
    (broadcastInDim S8320x4096 ![0, 1] bcast_S1x4096_S8320x4096_0_1
      (broadcastInDim S1x4096 ![1] bcast_S4096_S1x4096_1 g))

variable (m : (ℓ : Loc nD τ sig) → Buf (Elt Ideal) ℓ)

/-- The blocks of the windows at a grid point: the rows by the point, the gains whole. -/
theorem blocks_at : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

/-- At the end of the grid the result is the residual sum. -/
theorem final (c : Dev nD) : (dats m 0 c).arrAt 3 (cfgs 0).N
    = addf (m ((c.tc : Thread nD τ).loc main_arg0)) (rms (m ((c.tc : Thread nD τ).loc main_arg1)) (m ((c.tc : Thread nD τ).loc main_arg2))) := by
  refine (dats m 0 c).arrAt_eq_of_covers 3 _ (by decide +kernel) fun t _ y => ?_
  blk_simp
  rw [after0_3]
  frame_out
  pointwise [k0_pay1, rms]
  blk_point [iblk, V, blocks_at t]

end Cert.Kernel10Ideal.RefValue
-- ==== Proof.Easy.lean ====
module
public import proofs.«01_k».proof.Defs
public import proofs.«01_k».proof.Proof.Ffn
public import proofs.«01_k».proof.Proof.EvenProj
public import proofs.«01_k».proof.Proof.Proj
public import proofs.«01_k».proof.Proof.Norms
public import Idealize.ShloMosaic.Adequacy
public import Idealize.ShloMosaic.Init
@[expose] public section

/-! The value claims of the programs whose values are whole products, norms and activations. -/

set_option maxRecDepth 16384

noncomputable section

namespace Cert.Proof
open Idealize.ShloMosaic Idealize.SL.Sem

/-- Kernel 2 and its reference end with equal results. -/
theorem algebraic2 : Cert.algebraic_Kernel2Ideal_Reference2Ideal := by
  pair_intro
  · run_from Cert.Kernel2Ideal.Value.run_blocks m g
  · run_from Cert.Reference2Ideal.Value.run m' g'
    · exact (Cert.Kernel2Ideal.RefValue.final m c).symm

/-- Kernel 3 and its reference end with equal results. -/
theorem algebraic3 : Cert.algebraic_Kernel3Ideal_Reference3Ideal := by
  pair_intro
  · run_from Cert.Kernel3Ideal.Value.run_blocks m g
  · run_from Cert.Reference3Ideal.Value.run m' g'
    · exact (Cert.Kernel3Ideal.RefValue.final6 m c).symm
    · exact (Cert.Kernel3Ideal.RefValue.final7 m c).symm
    · exact (Cert.Kernel3Ideal.RefValue.final8 m c).symm
    · exact (Cert.Kernel3Ideal.RefValue.final9 m c).symm

/-- Kernel 4 and its reference end with equal results. -/
theorem algebraic4 : Cert.algebraic_Kernel4Ideal_Reference4Ideal := by
  pair_intro
  · run_from Cert.Kernel4Ideal.Value.run_blocks m g
  · run_from Cert.Reference4Ideal.Value.run m' g'
    · exact (Cert.Kernel4Ideal.RefValue.final m c).symm

/-- Kernel 5 and its reference end with equal results. -/
theorem algebraic5 : Cert.algebraic_Kernel5Ideal_Reference5Ideal := by
  pair_intro
  · run_from Cert.Kernel5Ideal.Value.run_blocks m g
  · run_from Cert.Reference5Ideal.Value.run m' g'
    · exact (Cert.Kernel5Ideal.RefValue.final m c).symm

/-- Kernel 8 and its reference end with equal results. -/
theorem algebraic8 : Cert.algebraic_Kernel8Ideal_Reference8Ideal := by
  pair_intro
  · run_from Cert.Kernel8Ideal.Value.run_blocks m g
  · run_from Cert.Reference8Ideal.Value.run m' g'
    · exact (Cert.Kernel8Ideal.RefValue.final m c).symm

/-- Kernel 9 and its reference end with equal results. -/
theorem algebraic9 : Cert.algebraic_Kernel9Ideal_Reference9Ideal := by
  pair_intro
  · run_from Cert.Kernel9Ideal.Value.run_blocks m g
  · run_from Cert.Reference9Ideal.Value.run m' g'
    · exact (Cert.Kernel9Ideal.RefValue.final4 m c).symm
    · exact (Cert.Kernel9Ideal.RefValue.final5 m c).symm

/-- Kernel 10 and its reference end with equal results. -/
theorem algebraic10 : Cert.algebraic_Kernel10Ideal_Reference10Ideal := by
  pair_intro
  · run_from Cert.Kernel10Ideal.Value.run_blocks m g
  · run_from Cert.Reference10Ideal.Value.run m' g'
    · exact (Cert.Kernel10Ideal.RefValue.final m c).symm

end Cert.Proof
-- ==== Proof.Soft.lean ====
module
public import Idealize.ShloMosaic.Lib.Pointwise
@[expose] public section

/-! The softmax with a sink over the extended reals: weights that are divided by their mass one by
one, or once after the sum with the values. -/

noncomputable section
open Idealize.ShloMosaic

namespace Cert.Soft

variable {ι : Type} [Fintype ι]

/-- A nonnegative real number seen as an extended real. -/
def Weight (x : EReal) : Prop := ∃ r : ℝ, 0 ≤ r ∧ x = (r : EReal)

/-- A product with a real number distributes over a finite sum of extended reals. -/
theorem sum_mul_real (f : ι → EReal) (r : ℝ) (hr : 0 ≤ r) : (∑ c, f c) * (r : EReal) = ∑ c, f c * (r : EReal) := by
  classical
  induction (Finset.univ : Finset ι) using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- The same on the left. -/
theorem real_mul_sum (f : ι → EReal) (r : ℝ) (hr : 0 ≤ r) : (r : EReal) * (∑ c, f c) = ∑ c, (r : EReal) * f c := by
  rw [mul_comm, sum_mul_real f r hr]
  exact Finset.sum_congr rfl fun c _ => mul_comm _ _

/-- Dividing the weighted sum by a positive real mass is weighing by the divided weights; a value under a
weight of zero does not count. -/
theorem div_sum (w v v' : ι → EReal) (den : EReal) (hden : ∃ d : ℝ, 0 < d ∧ den = (d : EReal))
    (hv : ∀ c, w c ≠ 0 → v c = v' c) :
    Ideal.div (∑ c, w c * v c) den = ∑ c, Ideal.div (w c) den * v' c := by
  obtain ⟨d, hd, rfl⟩ := hden
  simp only [Ideal.div_coe hd.ne']
  rw [sum_mul_real _ _ (by positivity)]
  refine Finset.sum_congr rfl fun c _ => ?_
  by_cases h : w c = 0
  · simp [h]
  · rw [hv c h]; exact mul_right_comm _ _ _

/-- The exponential of an extended real below the top is a nonnegative real. -/
theorem weight_exp (x : EReal) (h : x ≠ ⊤) : Weight (Ideal.exp x) := by
  induction x with
  | bot => exact ⟨0, le_rfl, rfl⟩
  | top => exact absurd rfl h
  | coe r => exact ⟨Real.exp r, (Real.exp_pos r).le, rfl⟩

/-- A sum of nonnegative reals is one. -/
theorem weight_sum (f : ι → EReal) (h : ∀ c, Weight (f c)) : Weight (∑ c, f c) := by
  classical
  induction (Finset.univ : Finset ι) using Finset.induction_on with
  | empty => exact ⟨0, le_rfl, by simp⟩
  | insert a s ha ih =>
    obtain ⟨x, hx, e⟩ := h a
    obtain ⟨y, hy, e'⟩ := ih
    exact ⟨x + y, by positivity, by rw [Finset.sum_insert ha, e, e', EReal.coe_add]⟩

/-- A maximum of extended reals below the top is below the top. -/
theorem fold_ne_top (f : ι → EReal) (h : ∀ c, f c ≠ ⊤) : Finset.univ.fold max ⊥ f ≠ ⊤ := by
  classical
  induction (Finset.univ : Finset ι) using Finset.induction_on with
  | empty => simp
  | insert a s ha ih =>
    rw [Finset.fold_insert ha]
    rcases max_choice (f a) (s.fold max ⊥ f) with e | e <;> rw [e]
    · exact h a
    · exact ih

/-- Taking a real number from an extended real below the top leaves one below the top. -/
theorem sub_ne_top (x y : EReal) (hx : x ≠ ⊤) (hy : y ≠ ⊥) : x - y ≠ ⊤ := by
  induction x with
  | bot => simp [EReal.bot_sub]
  | top => exact absurd rfl hx
  | coe a =>
    induction y with
    | bot => exact absurd rfl hy
    | top => simp
    | coe b => exact EReal.coe_ne_top (a - b)

/-- The greatest of the scores and a real sink is a real number. -/
theorem top_real (f : ι → EReal) (sk : EReal) (hf : ∀ c, f c ≠ ⊤) (h₁ : sk ≠ ⊤) (h₂ : sk ≠ ⊥) :
    max (Finset.univ.fold max ⊥ f) sk ≠ ⊤ ∧ max (Finset.univ.fold max ⊥ f) sk ≠ ⊥ := by
  constructor
  · rcases max_choice (Finset.univ.fold max ⊥ f) sk with e | e <;> rw [e]
    · exact fold_ne_top f hf
    · exact h₁
  · exact fun e => h₂ (le_bot_iff.mp (e ▸ le_max_right _ _))

/-- The mass of a softmax with a real sink is a positive real. -/
theorem mass_pos (f : ι → EReal) (sk mx : EReal) (hf : ∀ c, f c ≠ ⊤) (h₁ : sk ≠ ⊤) (h₂ : sk ≠ ⊥)
    (m₁ : mx ≠ ⊤) (m₂ : mx ≠ ⊥) :
    ∃ d : ℝ, 0 < d ∧ (∑ c, Ideal.exp (f c - mx)) + Ideal.exp (sk - mx) = (d : EReal) := by
  obtain ⟨x, hx, e⟩ := weight_sum (fun c => Ideal.exp (f c - mx)) fun c => weight_exp _ (sub_ne_top _ _ (hf c) m₂)
  lift sk to ℝ using ⟨h₁, h₂⟩
  lift mx to ℝ using ⟨m₁, m₂⟩
  refine ⟨x + Real.exp (sk - mx), by positivity, ?_⟩
  rw [e, EReal.coe_add]
  rfl

/-- The softmax with a sink: one division after the sum with the values, or one for each weight. The
values under a masked score do not count. -/
theorem attend (s v v' : ι → EReal) (sk : EReal) (hs : ∀ c, s c ≠ ⊤) (h₁ : sk ≠ ⊤) (h₂ : sk ≠ ⊥)
    (hv : ∀ c, s c ≠ ⊥ → v c = v' c) :
    Ideal.div (∑ c, Ideal.exp (s c - max (Finset.univ.fold max ⊥ s) sk) * v c)
        ((∑ c, Ideal.exp (s c - max (Finset.univ.fold max ⊥ s) sk)) + Ideal.exp (sk - max (Finset.univ.fold max ⊥ s) sk))
      = ∑ c, Ideal.div (Ideal.exp (s c - max (Finset.univ.fold max ⊥ s) sk))
          ((∑ c, Ideal.exp (s c - max (Finset.univ.fold max ⊥ s) sk)) + Ideal.exp (sk - max (Finset.univ.fold max ⊥ s) sk)) * v' c := by
  obtain ⟨m₁, m₂⟩ := top_real s sk hs h₁ h₂
  refine div_sum _ _ _ _ (mass_pos s sk _ hs h₁ h₂ m₁ m₂) fun c hc => hv c fun e => hc ?_
  rw [e, EReal.bot_sub]
  rfl

/-- An extended real strictly between the infinities. -/
def Proper (x : EReal) : Prop := x ≠ ⊤ ∧ x ≠ ⊥

/-- A sum of reals is real. -/
theorem fin_sum (f : ι → EReal) (h : ∀ c, Proper (f c)) : Proper (∑ c, f c) := by
  classical
  induction (Finset.univ : Finset ι) using Finset.induction_on with
  | empty => simp [Proper]
  | insert a s ha ih =>
    rw [Finset.sum_insert ha]
    exact ⟨EReal.add_ne_top (h a).1 ih.1, by rw [Ne, EReal.add_eq_bot_iff]; exact fun e => e.elim (h a).2 ih.2⟩

/-- A product of reals is real. -/
theorem fin_mul (x y : EReal) (hx : Proper x) (hy : Proper y) : Proper (x * y) := by
  lift x to ℝ using hx
  lift y to ℝ using hy
  exact ⟨EReal.coe_ne_top (x * y), EReal.coe_ne_bot (x * y)⟩

/-- A sum of two reals is real. -/
theorem fin_add (x y : EReal) (hx : Proper x) (hy : Proper y) : Proper (x + y) := by
  lift x to ℝ using hx
  lift y to ℝ using hy
  exact ⟨EReal.coe_ne_top (x + y), EReal.coe_ne_bot (x + y)⟩

end Cert.Soft
-- ==== Proof.RefAttn.lean ====
module
public import proofs.«01_k».proof.Proof.Gen.ReferenceIdeal.Run
public import proofs.«01_k».proof.Proof.Soft
public import Idealize.ShloMosaic.Lib.Pointwise
@[expose] public section

/-! The reference's attention of the prompt, and its entries. -/

set_option maxRecDepth 16384

noncomputable section
open Idealize.ShloMosaic Idealize.ShloMosaic.TcCoe Idealize.SL.Sem

namespace Cert.ReferenceIdeal.Parts
open Cert.ReferenceIdeal Cert.ReferenceIdeal.Gen

/-- The distance from a key to a query of the band. -/
def dist : IVec S128x256 32 :=
  subi (broadcastInDim S128x256 ![0, 1] bcast_S128x1_S128x256_0_1
      (addi (broadcastInDim S128x1 ![0] bcast_S128_S128x1_0 (iotaInDim S128 32 0))
        (broadcastInDim S128x1 ![] bcast_S_S128x1 (constantI S_ 32 128#32))))
    (broadcastInDim S128x256 ![0, 1] bcast_S1x256_S128x256_0_1
      (broadcastInDim S1x256 ![1] bcast_S256_S1x256_1 (iotaInDim S256 32 0)))

/-- The keys that a query sees. -/
def visible : IVec S16x128x256 1 :=
  andi
    (broadcastInDim S16x128x256 ![0, 1, 2] bcast_S1x128x256_S16x128x256_0_1_2
      (broadcastInDim S1x128x256 ![1, 2] bcast_S128x256_S1x128x256_1_2
        (andi (cmpi .sge dist (broadcastInDim S128x256 ![] bcast_S_S128x256 (constantI S_ 32 0#32)))
          (cmpi .slt dist (broadcastInDim S128x256 ![] bcast_S_S128x256 (constantI S_ 32 128#32))))))
    (broadcastInDim S16x128x256 ![0, 1, 2] bcast_S16x1x256_S16x128x256_0_1_2
      (cmpi .sge
        (broadcastInDim S16x1x256 ![0, 2] bcast_S16x256_S16x1x256_0_2
          (addi
            (broadcastInDim S16x256 ![0, 1] bcast_S16x1_S16x256_0_1
              (muli
                (subi (broadcastInDim S16x1 ![0] bcast_S16_S16x1_0 (iotaInDim S16 32 0))
                  (broadcastInDim S16x1 ![] bcast_S_S16x1 (constantI S_ 32 1#32)))
                (broadcastInDim S16x1 ![] bcast_S_S16x1 (constantI S_ 32 128#32))))
            (broadcastInDim S16x256 ![0, 1] bcast_S1x256_S16x256_0_1
              (broadcastInDim S1x256 ![1] bcast_S256_S1x256_1 (iotaInDim S256 32 0)))))
        (broadcastInDim S16x1x256 ![] bcast_S_S16x1x256 (constantI S_ 32 0#32))))

/-- The distance held between 0 and 127. -/
def near : IVec S128x256 32 :=
  minsi (broadcastInDim S128x256 ![] bcast_S_S128x256 (id (constantI S_ 32 127#32)))
    (maxsi (broadcastInDim S128x256 ![] bcast_S_S128x256 (id (constantI S_ 32 0#32))) dist)

/-- The bucket of every distance. -/
def bucket (d : IVec S128x256 32) : IVec S128x256 32 :=
  select (cmpi .slt d (broadcastInDim S128x256 ![] bcast_S_S128x256 (constantI S_ 32 16#32))) d
    (minsi
      (addi (broadcastInDim S128x256 ![] bcast_S_S128x256 (constantI S_ 32 16#32))
        (fptosi 32
          (mulf
            (Host.divf
              (Host.log
                (Host.divf
                  (sitofp (F := Ideal) .f32 (maxsi d (broadcastInDim S128x256 ![] bcast_S_S128x256 (constantI S_ 32 16#32))))
                  (broadcastInDim S128x256 ![] bcast_S_S128x256 (constant S_ .f32 0x41800000#32))))
              (broadcastInDim S128x256 ![] bcast_S_S128x256 (constant S_ .f32 0x40051592#32)))
            (broadcastInDim S128x256 ![] bcast_S_S128x256 (constant S_ .f32 0x41800000#32)))))
      (broadcastInDim S128x256 ![] bcast_S_S128x256 (constantI S_ 32 31#32)))

/-- A negative row number counts from the end. -/
def wrap (d : IVec S128x256 32) : IVec S128x256 32 :=
  select (cmpi .slt d (broadcastInDim S128x256 ![] bcast_S_S128x256 (constantI S_ 32 0#32)))
    (addi d (broadcastInDim S128x256 ![] bcast_S_S128x256 (constantI S_ 32 32#32))) d

/-- Which keys of its band every query sees, for each of the 64 blocks. -/
def mask : IVec S64x64x128x256 1 :=
  broadcastInDim S64x64x128x256 ![0, 1, 2, 3] bcast_S64x1x128x256_S64x64x128x256_0_1_2_3
    (shapeCast S64x1x128x256
      (broadcastInDim S4x16x128x256 ![0, 1, 2, 3] bcast_S1x16x128x256_S4x16x128x256_0_1_2_3
        (broadcastInDim S1x16x128x256 ![1, 2, 3] bcast_S16x128x256_S1x16x128x256_1_2_3 visible))
      shapeCasts_S4x16x128x256_S64x1x128x256)

/-- The bias of every head, query and key of the band. -/
def bias (rel : FVec Ideal S32x64 .f32) : FVec Ideal S64x128x256 .f32 :=
  transpose S64x128x256 [2, 0, 1]
    (Host.gather gather_S32x64_S128x256x1_S128x256x64_2_0_n_n_0_2_164 rel
      (broadcastInDim S128x256x1 ![0, 1] bcast_S128x256_S128x256x1_0_1 (wrap (bucket near))))
    transposes_S128x256x64_S64x128x256_2_0_1

/-- The rows of the prompt. -/
def rows (qkv : FVec Ideal S8320x5120 .f32) : FVec Ideal S8192x5120 .f32 :=
  extractStridedSlice S8192x5120 ![0, 0] qkv slices_S8320x5120_S8192x5120_0_0

/-- A block of 128 rows behind the block before it; zeros behind the first of a sequence. -/
def band (t : FVec Ideal S8192x512 .f32) : FVec Ideal S4x16x256x512 .f32 :=
  concatenate S4x16x256x512 2
    [⟨S4x16x128x512, concatenate S4x16x128x512 1
        [⟨S4x1x128x512, broadcastInDim S4x1x128x512 ![] bcast_S_S4x1x128x512 (constant S_ .f32 0x00000000#32)⟩,
         ⟨S4x15x128x512, extractStridedSlice S4x15x128x512 ![0, 0, 0, 0]
            (shapeCast S4x16x128x512 t shapeCasts_S8192x512_S4x16x128x512)
            slices_S4x16x128x512_S4x15x128x512_0_0_0_0⟩]
        concatenates_S4x1x128x512_S4x15x128x512_S4x16x128x512_d1⟩,
     ⟨S4x16x128x512, shapeCast S4x16x128x512 t shapeCasts_S8192x512_S4x16x128x512⟩]
    concatenates_S4x16x128x512_S4x16x128x512_S4x16x256x512_d2

/-- The key heads of a band, each one standing for its eight query heads. -/
def repeated (t : FVec Ideal S4x16x256x512 .f32) : FVec Ideal S64x256x64x64 .f32 :=
  shapeCast S64x256x64x64
    (broadcastInDim S64x256x8x8x64 ![0, 1, 2, 4] bcast_S64x256x8x64_S64x256x8x8x64_0_1_2_4
      (shapeCast S64x256x8x64 t shapeCasts_S4x16x256x512_S64x256x8x64))
    shapeCasts_S64x256x8x8x64_S64x256x64x64

/-- The queries by block, row and head. -/
def queries (qkv : FVec Ideal S8320x5120 .f32) : FVec Ideal S64x128x64x64 .f32 :=
  shapeCast S64x128x64x64
    (extractStridedSlice S8192x4096 ![0, 0] (rows qkv) slices_S8192x5120_S8192x4096_0_0)
    shapeCasts_S8192x4096_S64x128x64x64

/-- The keys of every block's band. -/
def keys (qkv : FVec Ideal S8320x5120 .f32) : FVec Ideal S64x256x64x64 .f32 :=
  repeated (band (extractStridedSlice S8192x512 ![0, 4096] (rows qkv) slices_S8192x5120_S8192x512_0_4096))

/-- The values of every block's band. -/
def vals (qkv : FVec Ideal S8320x5120 .f32) : FVec Ideal S64x256x64x64 .f32 :=
  repeated (band (extractStridedSlice S8192x512 ![0, 4608] (rows qkv) slices_S8192x5120_S8192x512_0_4608))

/-- The scores: the scaled products of queries and keys and the bias, masked. -/
def scores (q : FVec Ideal S64x128x64x64 .f32) (k : FVec Ideal S64x256x64x64 .f32)
    (b : FVec Ideal S64x128x256 .f32) : FVec Ideal S64x64x128x256 .f32 :=
  select mask
    (addf
      (mulf (Host.dotGeneral dot_S64x128x64x64_S64x256x64x64_S64x64x128x256_3_3_1_1_02_02 none q k)
        (broadcastInDim S64x64x128x256 ![] bcast_S_S64x64x128x256 (constant S_ .f32 0x3E000000#32)))
      (broadcastInDim S64x64x128x256 ![0, 1, 2, 3] bcast_S1x64x128x256_S64x64x128x256_0_1_2_3
        (broadcastInDim S1x64x128x256 ![1, 2, 3] bcast_S64x128x256_S1x64x128x256_1_2_3 b)))
    (broadcastInDim S64x64x128x256 ![] bcast_S_S64x64x128x256 (id (constant S_ .f32 0xFF800000#32)))

/-- The sinks by head. -/
def sinkRows (sinks : FVec Ideal S64 .f32) : FVec Ideal S64x64x128x1 .f32 :=
  broadcastInDim S64x64x128x1 ![0, 1, 2, 3] bcast_S1x64x1x1_S64x64x128x1_0_1_2_3
    (broadcastInDim S1x64x1x1 ![1, 2, 3] bcast_S64x1x1_S1x64x1x1_1_2_3
      (broadcastInDim S64x1x1 ![0] bcast_S64_S64x1x1_0 sinks))

/-- The greatest of a row's scores. -/
def rowMax (s : FVec Ideal S64x64x128x256 .f32) : FVec Ideal S64x64x128 .f32 :=
  Host.reduce FloatOps.maximumf s (constant S_ .f32 0xFF800000#32) reducesTo_S64x64x128x256_S64x64x128_d3 h_S_

/-- The greater of a row's scores and its sink. -/
def peak (s : FVec Ideal S64x64x128x256 .f32) (sk : FVec Ideal S64 .f32) : FVec Ideal S64x64x128x1 .f32 :=
  maximumf
    (broadcastInDim S64x64x128x1 ![0, 1, 2] bcast_S64x64x128_S64x64x128x1_0_1_2
      (rowMax s))
    (sinkRows sk)

/-- The exponentials of the scores below their peak. -/
def raised (s : FVec Ideal S64x64x128x256 .f32) (sk : FVec Ideal S64 .f32) : FVec Ideal S64x64x128x256 .f32 :=
  Host.exp (subf s
    (broadcastInDim S64x64x128x256 ![0, 1, 2, 3] bcast_S64x64x128x1_S64x64x128x256_0_1_2_3 (peak s sk)))

/-- The sum of a row's exponentials and of its sink's. -/
def mass (s : FVec Ideal S64x64x128x256 .f32) (sk : FVec Ideal S64 .f32) : FVec Ideal S64x64x128x1 .f32 :=
  addf
    (broadcastInDim S64x64x128x1 ![0, 1, 2] bcast_S64x64x128_S64x64x128x1_0_1_2
      (Host.reduceAdd (raised s sk) (constant S_ .f32 0x00000000#32) reducesTo_S64x64x128x256_S64x64x128_d3 h_S_))
    (Host.exp (subf (sinkRows sk) (peak s sk)))

/-- The weights of the softmax with a sink. -/
def weights (s : FVec Ideal S64x64x128x256 .f32) (sk : FVec Ideal S64 .f32) : FVec Ideal S64x64x128x256 .f32 :=
  Host.divf (raised s sk)
    (broadcastInDim S64x64x128x256 ![0, 1, 2, 3] bcast_S64x64x128x1_S64x64x128x256_0_1_2_3 (mass s sk))

/-- The weighted values, one row for each row of the prompt. -/
def mix (w : FVec Ideal S64x64x128x256 .f32) (v : FVec Ideal S64x256x64x64 .f32) : FVec Ideal S8192x4096 .bf16 :=
  truncf .bf16
    (shapeCast S8192x4096
      (transpose S64x128x64x64 [0, 3, 1, 2]
        (Host.dotGeneral dot_S64x256x64x64_S64x64x128x256_S64x64x64x128_1_3_3_2_02_01 none v w)
        transposes_S64x64x64x128_S64x128x64x64_0_3_1_2)
      shapeCasts_S64x128x64x64_S8192x4096) bitsLt_bf16_f32

/-- The reference's attention of the prompt. -/
def attention (qkv : FVec Ideal S8320x5120 .f32) (sinks : FVec Ideal S64 .f32) (rel : FVec Ideal S32x64 .f32) : FVec Ideal S8192x4096 .bf16 :=
  mix (weights (scores (queries qkv) (keys qkv) (bias rel)) sinks) (vals qkv)

/-- The reference's result is its attention of the three inputs. -/
theorem res_eq (m : (ℓ : Loc nD τ sig) → Buf (Elt Ideal) ℓ) (c : Dev nD) :
    Cert.ReferenceIdeal.Value.res_out0 m c
      = attention (m ((c.tc : Thread nD τ).loc main_arg0)) (m ((c.tc : Thread nD τ).loc main_arg1)) (m ((c.tc : Thread nD τ).loc main_arg2)) := by
  rfl

/-- A query of the reference is the entry of its row and head. -/
theorem queries_at (qkv : FVec Ideal S8320x5120 .f32) (b : Fin 64) (r : Fin 128) (h : Fin 64) (e : Fin 64) :
    queries qkv (ix4 b r h e) = qkv (ix2 ⟨b.val * 128 + r.val, by omega⟩ ⟨h.val * 64 + e.val, by omega⟩) := by
  pointwise [queries, rows]

/-- A key of a band: of the block before for the first 128 rows (nothing before the first block), else of the block itself. -/
theorem keys_at (qkv : FVec Ideal S8320x5120 .f32) (b : Fin 64) (c : Fin 256) (h : Fin 64) (e : Fin 64) :
    keys qkv (ix4 b c h e) = (if h₁ : c.val < 128 then
      if h₂ : b.val % 16 < 1 then 0
      else qkv (ix2 ⟨b.val / 16 * 2048 + (b.val % 16 - 1) * 128 + c.val, by omega⟩ ⟨4096 + (h.val / 8 * 64 + e.val), by omega⟩)
    else qkv (ix2 ⟨b.val / 16 * 2048 + b.val % 16 * 128 + (c.val - 128), by omega⟩ ⟨4096 + (h.val / 8 * 64 + e.val), by omega⟩)) := by
  pointwise [keys, repeated, band, rows]

/-- A value of a band, as a key. -/
theorem vals_at (qkv : FVec Ideal S8320x5120 .f32) (b : Fin 64) (c : Fin 256) (h : Fin 64) (e : Fin 64) :
    vals qkv (ix4 b c h e) = (if h₁ : c.val < 128 then
      if h₂ : b.val % 16 < 1 then 0
      else qkv (ix2 ⟨b.val / 16 * 2048 + (b.val % 16 - 1) * 128 + c.val, by omega⟩ ⟨4608 + (h.val / 8 * 64 + e.val), by omega⟩)
    else qkv (ix2 ⟨b.val / 16 * 2048 + b.val % 16 * 128 + (c.val - 128), by omega⟩ ⟨4608 + (h.val / 8 * 64 + e.val), by omega⟩)) := by
  pointwise [vals, repeated, band, rows]

/-- An entry of the mask, by the distance of the key and by its place in the sequence. -/
theorem mask_at (b h : Fin 64) (r : Fin 128) (c : Fin 256) :
    mask (ix4 b h r c) = IntOp.andi
      (IntOp.andi
        (IntOp.cmpi .sge (IntOp.subi (IntOp.addi (BitVec.ofNat 32 r.val) 128#32) (BitVec.ofNat 32 c.val)) 0#32)
        (IntOp.cmpi .slt (IntOp.subi (IntOp.addi (BitVec.ofNat 32 r.val) 128#32) (BitVec.ofNat 32 c.val)) 128#32))
      (IntOp.cmpi .sge
        (IntOp.addi (IntOp.muli (IntOp.subi (BitVec.ofNat 32 (b.val % 16)) 1#32) 128#32) (BitVec.ofNat 32 c.val)) 0#32) := by
  pointwise [mask, visible, dist]

/-- A score: the scaled product of a query and a key and their bias, where the mask lets it stand. -/
theorem scores_at (q k b) (n h : Fin 64) (r : Fin 128) (c : Fin 256) :
    scores q k b (ix4 n h r c) = Scalar.select (mask (ix4 n h r c))
      ((∑ x, q (ix4 n r h x) * k (ix4 n c h x)) * Ideal.ofBits .f32 0x3E000000#32 + b (ix3 h r c))
      (Ideal.ofBits .f32 0xFF800000#32) := by
  pointwise [scores]
  rfl

/-- The greatest of a row's scores. -/
theorem rowMax_at (s : FVec Ideal S64x64x128x256 .f32) (n h : Fin 64) (r : Fin 128) :
    rowMax s (ix3 n h r)
      = (Finset.univ : Finset (Fin 256)).fold max (Ideal.ofBits .f32 0xFF800000#32) (fun c => s (ix4 n h r c)) := by
  have hb : Shape.Idx.first h_S_ = ix0 := funext fun a => a.elim0
  unfold rowMax
  rw [Host.reduce_eq_fold, Shape.ReducesTo.fold_fiber_r4_a3, hb]
  exact Finset.fold_congr fun c _ => rfl

/-- A row's sink is its head's. -/
theorem sinkRows_at (sk : FVec Ideal S64 .f32) (n h : Fin 64) (r : Fin 128) : sinkRows sk (ix4 n h r 0) = sk (ix1 h) := by
  pointwise [sinkRows]

/-- The greater of two vectors, entry by entry. -/
theorem max_at (a b : FVec Ideal S64x64x128x1 .f32) (i : S64x64x128x1.Idx) : maximumf a b i = max (a i) (b i) := rfl

/-- The peak of a row. -/
theorem peak_at (s : FVec Ideal S64x64x128x256 .f32) (sk : FVec Ideal S64 .f32) (n h : Fin 64) (r : Fin 128) :
    peak s sk (ix4 n h r 0) = max (rowMax s (ix3 n h r)) (sinkRows sk (ix4 n h r 0)) := by
  unfold peak
  rw [max_at]
  pointwise

/-- An exponential of a score below its row's peak. -/
theorem raised_at (s : FVec Ideal S64x64x128x256 .f32) (sk : FVec Ideal S64 .f32) (n h : Fin 64) (r : Fin 128) (c : Fin 256) :
    raised s sk (ix4 n h r c) = Ideal.exp (s (ix4 n h r c) - peak s sk (ix4 n h r 0)) := by
  pointwise [raised]

/-- The mass of a row. -/
theorem mass_at (s : FVec Ideal S64x64x128x256 .f32) (sk : FVec Ideal S64 .f32) (n h : Fin 64) (r : Fin 128) :
    mass s sk (ix4 n h r 0) = ∑ x, raised s sk (ix4 n h r x) + Ideal.exp (sinkRows sk (ix4 n h r 0) - peak s sk (ix4 n h r 0)) := by
  pointwise [mass]

/-- A weight is an exponential's share of its row's mass. -/
theorem weights_at (s : FVec Ideal S64x64x128x256 .f32) (sk : FVec Ideal S64 .f32) (n h : Fin 64) (r : Fin 128) (c : Fin 256) :
    weights s sk (ix4 n h r c) = Ideal.div (raised s sk (ix4 n h r c)) (mass s sk (ix4 n h r 0)) := by
  pointwise [weights]

/-- A result: the weighted values of its block and head. -/
theorem mix_at (w : FVec Ideal S64x64x128x256 .f32) (v : FVec Ideal S64x256x64x64 .f32) (n h : Fin 64) (r : Fin 128) (e : Fin 64) :
    mix w v (ix2 ⟨n.val * 128 + r.val, by omega⟩ ⟨h.val * 64 + e.val, by omega⟩)
      = ∑ x, v (ix4 n x h e) * w (ix4 n h r x) := by
  pointwise [mix]

/-- A gathered row of the bias table: the row is the index read signed and held inside the table. -/
theorem gather_at (rel : FVec Ideal S32x64 .f32) (idx : IVec S128x256x1 32) (h : Fin 64) (r : Fin 128) (c : Fin 256) :
    Host.gather gather_S32x64_S128x256x1_S128x256x64_2_0_n_n_0_2_164 rel idx (ix3 r c h)
      = rel (ix2 ⟨min (idx (ix3 r c 0)).toInt.toNat 31, by omega⟩ h) := by
  unfold Host.gather
  congr 1
  funext a
  rcases (by decide : ∀ a : Fin 2, a = 0 ∨ a = 1) a with rfl | rfl
  · apply Fin.ext
    simp only [GatherDims.operandIdx]
    rw [GatherDims.batchCoord_eq_zero _ _ _ (by decide), GatherDims.offCoord_eq_zero _ _ _ (by decide)]
    rw [GatherDims.start, dif_pos (by decide)]
    have h0 : gather_S32x64_S128x256x1_S128x256x64_2_0_n_n_0_2_164.siIdx (ix3 r c h) ⟨0, by decide⟩ = ix3 r c 0 := by
      funext b
      rcases (by decide : ∀ a : Fin 3, a = 0 ∨ a = 1 ∨ a = 2) b with rfl | rfl | rfl <;> exact Fin.ext rfl
    exact congrArg (fun z => min (idx z).toInt.toNat 31) h0
  · apply Fin.ext
    simp only [GatherDims.operandIdx]
    rw [GatherDims.batchCoord_eq_zero _ _ _ (by decide)]
    rw [GatherDims.start, dif_neg (by decide)]
    rw [GatherDims.offCoord, dif_pos (by decide)]
    rw [Nat.zero_add]
    rfl

/-- The rows of indices stand as a column of starts. -/
theorem starts_at (z : IVec S128x256 32) (r : Fin 128) (c : Fin 256) :
    broadcastInDim S128x256x1 ![0, 1] bcast_S128x256_S128x256x1_0_1 z (ix3 r c 0) = z (ix2 r c) := by pointwise

/-- The heads come first. -/
theorem heads_at (z : FVec Ideal S128x256x64 .f32) (h : Fin 64) (r : Fin 128) (c : Fin 256) :
    transpose S64x128x256 [2, 0, 1] z transposes_S128x256x64_S64x128x256_2_0_1 (ix3 h r c) = z (ix3 r c h) := by pointwise

/-- A table's rows by given indices, the heads first. -/
theorem taken_at (rel : FVec Ideal S32x64 .f32) (z : IVec S128x256 32) (h : Fin 64) (r : Fin 128) (c : Fin 256) :
    transpose S64x128x256 [2, 0, 1]
      (Host.gather gather_S32x64_S128x256x1_S128x256x64_2_0_n_n_0_2_164 rel
        (broadcastInDim S128x256x1 ![0, 1] bcast_S128x256_S128x256x1_0_1 z))
      transposes_S128x256x64_S64x128x256_2_0_1 (ix3 h r c)
      = rel (ix2 ⟨min (z (ix2 r c)).toInt.toNat 31, by omega⟩ h) := by
  rw [heads_at, gather_at]
  exact congrArg (fun q : BitVec 32 => rel (ix2 ⟨min q.toInt.toNat 31, by omega⟩ h)) (starts_at z r c)

/-- The bias of a head for a query and a key, by the bucket of their distance. -/
theorem bias_at (rel : FVec Ideal S32x64 .f32) (h : Fin 64) (r : Fin 128) (c : Fin 256) :
    bias rel (ix3 h r c)
      = rel (ix2 ⟨min (wrap (bucket near) (ix2 r c)).toInt.toNat 31, by omega⟩ h) :=
  taken_at rel _ h r c

end Cert.ReferenceIdeal.Parts
end
-- ==== Proof.Bucket.lean ====
module
public import Idealize.ShloMosaic.Lib.Pointwise
@[expose] public section

/-! The bucket of a distance, and the row of the bias table that it names. -/

set_option maxRecDepth 16384
noncomputable section
open Idealize.ShloMosaic

namespace Cert.Bucket

/-- The bucket of a distance. -/
def bucketOf (d : BitVec 32) : BitVec 32 :=
  Scalar.select (IntOp.cmpi .slt d 16#32) d
    (IntOp.minsi
      (IntOp.addi 16#32
        (FloatOps.fptosi (F := Ideal) (φ := .f32) 32
          (Ideal.div
            (Ideal.log
              (Ideal.div (FloatOps.sitofp (F := Ideal) .f32 (IntOp.maxsi d 16#32)) (Ideal.ofBits .f32 1098907648#32)))
            (Ideal.ofBits .f32 1074075026#32) * Ideal.ofBits .f32 1098907648#32)))
      31#32)

/-- The row of the table of biases for a distance. -/
def rowOf (d : BitVec 32) : BitVec 32 :=
  Scalar.select (IntOp.cmpi .slt (bucketOf d) 0#32) (IntOp.addi (bucketOf d) 32#32) (bucketOf d)

/-- A distance clipped to 0 … 127. -/
def held (d : BitVec 32) : BitVec 32 := IntOp.minsi 127#32 (IntOp.maxsi 0#32 d)

/-- A clipped distance lies between 0 and 127. -/
theorem held_bounds (d : BitVec 32) : 0 ≤ (held d).toInt ∧ (held d).toInt ≤ 127 := by
  unfold held IntOp.minsi IntOp.maxsi
  have e0 : (0#32 : BitVec 32).toInt = 0 := by decide
  have e1 : (127#32 : BitVec 32).toInt = 127 := by decide
  constructor <;> (simp only [BitVec.slt, decide_eq_true_eq]; split_ifs <;> omega)

/-- A clipped distance isn't below zero. -/
theorem held_slt (d : BitVec 32) : IntOp.cmpi .slt (held d) 0#32 = 0#1 := by
  have h := (held_bounds d).1
  have e0 : (0#32 : BitVec 32).toInt = 0 := by decide
  have : (held d).slt 0#32 = false := by
    simp only [BitVec.slt, decide_eq_false_iff_not]; omega
  simp [IntOp.cmpi, this]

/-- Counting a clipped distance from the end of the table changes nothing, and it picks out itself. -/
theorem pick (d : BitVec 32) :
    BitVec.ofNat 32 (min (Scalar.select (IntOp.cmpi .slt (held d) 0#32) (IntOp.addi (held d) 128#32) (held d)).toInt.toNat 127)
      = held d := by
  rw [held_slt]
  have h := held_bounds d
  have : Scalar.select (0#1) (IntOp.addi (held d) 128#32) (held d) = held d := rfl
  rw [this]
  have ht : min (held d).toInt.toNat 127 = (held d).toNat := by
    have e := BitVec.toInt_eq_toNat_cond (held d)
    have l := (held d).isLt
    split_ifs at e <;> omega
  rw [ht, BitVec.ofNat_toNat, BitVec.setWidth_eq]

end Cert.Bucket
end
-- ==== Proof.BiasTable.lean ====
module
public import proofs.«01_k».proof.Proof.Gen.KernelIdeal.Value
public import proofs.«01_k».proof.Proof.RefAttn
public import proofs.«01_k».proof.Proof.Soft
public import proofs.«01_k».proof.Proof.Bucket
public import Idealize.ShloMosaic.Lib.Pipeline.ValueKit
public import Idealize.ShloMosaic.Lib.Pointwise
@[expose] public section

/-! The kernel's table of biases: read by distance first, then by the band of queries and keys. -/

set_option maxRecDepth 16384
noncomputable section
open Idealize.ShloMosaic Idealize.ShloMosaic.TcCoe Idealize.SL.Sem
open Idealize.ShloMosaic.Pipeline (Dat)
namespace Cert.KernelIdeal.RefValue
open Cert.KernelIdeal Cert.KernelIdeal.Gen
variable (m : (ℓ : Loc nD τ sig) → Buf (Elt Ideal) ℓ)
/-- The bucket of every clipped distance. -/
def buckets : IVec S128 32 :=
  select (cmpi .slt (iotaInDim S128 32 0) (broadcastInDim S128 ![] bcast_S_S128 (constantI S_ 32 16#32)))
    (iotaInDim S128 32 0)
    (minsi
      (addi (broadcastInDim S128 ![] bcast_S_S128 (constantI S_ 32 16#32))
        (fptosi 32
          (mulf
            (Host.divf
              (Host.log
                (Host.divf
                  (sitofp FTy.f32
                    (maxsi (iotaInDim S128 32 0) (broadcastInDim S128 ![] bcast_S_S128 (constantI S_ 32 16#32))))
                  (broadcastInDim S128 ![] bcast_S_S128 (constant (F := Ideal) S_ FTy.f32 1098907648#32))))
              (broadcastInDim S128 ![] bcast_S_S128 (constant S_ FTy.f32 1074075026#32)))
            (broadcastInDim S128 ![] bcast_S_S128 (constant S_ FTy.f32 1098907648#32)))))
      (broadcastInDim S128 ![] bcast_S_S128 (constantI S_ 32 31#32)))

/-- An index below zero counts from the end of the 32 buckets. -/
def fromEnd (d : IVec S128 32) : IVec S128 32 :=
  select (cmpi .slt d (broadcastInDim S128 ![] bcast_S_S128 (constantI S_ 32 0#32)))
    (addi d (broadcastInDim S128 ![] bcast_S_S128 (constantI S_ 32 32#32))) d

/-- The bias of every head and clipped distance. -/
def table (rel : FVec Ideal S32x64 .f32) : FVec Ideal S64x128 .f32 :=
  transpose S64x128 [1, 0]
    (Host.gather gather_S32x64_S128x1_S128x64_1_0_n_n_0_1_164 rel
      (broadcastInDim S128x1 ![0] bcast_S128_S128x1_0 (fromEnd buckets)))
    transposes_S128x64_S64x128_1_0

/-- The clipped distance from every query of a block to every key of its band. -/
def clipped : IVec S128x256 32 :=
  minsi (broadcastInDim S128x256 ![] bcast_S_S128x256 (id (constantI S_ 32 127#32)))
    (maxsi (broadcastInDim S128x256 ![] bcast_S_S128x256 (id (constantI S_ 32 0#32)))
      (subi
        (broadcastInDim S128x256 ![0, 1] bcast_S128x1_S128x256_0_1
          (addi (broadcastInDim S128x1 ![0] bcast_S128_S128x1_0 (iotaInDim S128 32 0))
            (broadcastInDim S128x1 ![] bcast_S_S128x1 (constantI S_ 32 128#32))))
        (broadcastInDim S128x256 ![0, 1] bcast_S1x256_S128x256_0_1
          (broadcastInDim S1x256 ![1] bcast_S256_S1x256_1 (iotaInDim S256 32 0)))))

/-- An index below zero counts from the end of the 128 distances. -/
def fromEnd128 (d : IVec S128x256 32) : IVec S128x256 32 :=
  select (cmpi .slt d (broadcastInDim S128x256 ![] bcast_S_S128x256 (constantI S_ 32 0#32)))
    (addi d (broadcastInDim S128x256 ![] bcast_S_S128x256 (constantI S_ 32 128#32))) d

/-- The bias of every head, query and key of a band. -/
def bandBias (rel : FVec Ideal S32x64 .f32) : FVec Ideal S64x128x256 .f32 :=
  Host.gather gather_S64x128_S128x256x1_S64x128x256_0_1_n_n_1_2_641 (table rel)
    (broadcastInDim S128x256x1 ![0, 1] bcast_S128x256_S128x256x1_0_1 (fromEnd128 clipped))

/-- The clipped distance of query r and key c. -/
theorem clipped_at (r : Fin 128) (c : Fin 256) : clipped (ix2 r c)
    = Bucket.held (IntOp.subi (IntOp.addi (BitVec.ofNat 32 r.val) 128#32) (BitVec.ofNat 32 c.val)) := by
  pointwise [clipped]
  rfl
/-- A negative index into the buckets counts from the end. -/
theorem fromEnd_at (d : IVec S128 32) (n : Fin 128) : fromEnd d (ix1 n) = Scalar.select (IntOp.cmpi .slt (d (ix1 n)) 0#32) (IntOp.addi (d (ix1 n)) 32#32) (d (ix1 n)) := by
  pointwise [fromEnd]
/-- A negative index into the distances counts from the end. -/
theorem fromEnd128_at (d : IVec S128x256 32) (r : Fin 128) (c : Fin 256) : fromEnd128 d (ix2 r c) = Scalar.select (IntOp.cmpi .slt (d (ix2 r c)) 0#32) (IntOp.addi (d (ix2 r c)) 128#32) (d (ix2 r c)) := by
  pointwise [fromEnd128]
/-- The bucket of each distance. -/
theorem buckets_at (n : Fin 128) : buckets (ix1 n) = Bucket.bucketOf (BitVec.ofNat 32 n.val) := by
  pointwise [buckets]
  rfl
/-- The start indices of the first lookup are the buckets. -/
theorem start128_at (z : IVec S128 32) (n : Fin 128) :
    broadcastInDim S128x1 ![0] bcast_S128_S128x1_0 z (ix2 n 0) = z (ix1 n) := by
  pointwise []
/-- The start indices of the second lookup are the distances. -/
theorem starts_at (z : IVec S128x256 32) (r : Fin 128) (c : Fin 256) :
    broadcastInDim S128x256x1 ![0, 1] bcast_S128x256_S128x256x1_0_1 z (ix3 r c 0) = z (ix2 r c) := by
  pointwise []
/-- The turned table at a head and a distance. -/
theorem turn_at (z : FVec Ideal S128x64 .f32) (h : Fin 64) (n : Fin 128) :
    transpose S64x128 [1, 0] z transposes_S128x64_S64x128_1_0 (ix2 h n) = z (ix2 n h) := by
  pointwise []
/-- The first lookup: head h at distance n reads the row of the bias table that the index names. -/
theorem gather128_at (rel : FVec Ideal S32x64 .f32) (idx : IVec S128x1 32) (h : Fin 64) (n : Fin 128) :
    Host.gather gather_S32x64_S128x1_S128x64_1_0_n_n_0_1_164 rel idx (ix2 n h)
      = rel (ix2 ⟨min (idx (ix2 n 0)).toInt.toNat 31, by omega⟩ h) := by
  unfold Host.gather
  congr 1
  funext a
  rcases (by decide : ∀ a : Fin 2, a = 0 ∨ a = 1) a with rfl | rfl
  · apply Fin.ext
    simp only [GatherDims.operandIdx]
    rw [GatherDims.batchCoord_eq_zero _ _ _ (by decide), GatherDims.offCoord_eq_zero _ _ _ (by decide)]
    rw [GatherDims.start, dif_pos (by decide)]
    have h0 : gather_S32x64_S128x1_S128x64_1_0_n_n_0_1_164.siIdx (ix2 n h) ⟨0, by decide⟩ = ix2 n 0 := by
      funext b
      rcases (by decide : ∀ a : Fin 2, a = 0 ∨ a = 1) b with rfl | rfl <;> exact Fin.ext rfl
    exact congrArg (fun z => min (idx z).toInt.toNat 31) h0
  · apply Fin.ext
    simp only [GatherDims.operandIdx]
    rw [GatherDims.batchCoord_eq_zero _ _ _ (by decide)]
    rw [GatherDims.start, dif_neg (by decide)]
    rw [GatherDims.offCoord, dif_pos (by decide)]
    rw [Nat.zero_add]
    rfl
/-- The second lookup: the band of head h reads the distance that the index names. -/
theorem gatherBand_at (tab : FVec Ideal S64x128 .f32) (idx : IVec S128x256x1 32) (h : Fin 64) (r : Fin 128) (c : Fin 256) :
    Host.gather gather_S64x128_S128x256x1_S64x128x256_0_1_n_n_1_2_641 tab idx (ix3 h r c)
      = tab (ix2 h ⟨min (idx (ix3 r c 0)).toInt.toNat 127, by omega⟩) := by
  unfold Host.gather
  congr 1
  funext a
  rcases (by decide : ∀ a : Fin 2, a = 0 ∨ a = 1) a with rfl | rfl
  · apply Fin.ext
    simp only [GatherDims.operandIdx]
    rw [GatherDims.batchCoord_eq_zero _ _ _ (by decide)]
    rw [GatherDims.start, dif_neg (by decide)]
    rw [GatherDims.offCoord, dif_pos (by decide)]
    rw [Nat.zero_add]
    rfl
  · apply Fin.ext
    simp only [GatherDims.operandIdx]
    rw [GatherDims.batchCoord_eq_zero _ _ _ (by decide), GatherDims.offCoord_eq_zero _ _ _ (by decide)]
    rw [GatherDims.start, dif_pos (by decide)]
    have h0 : gather_S64x128_S128x256x1_S64x128x256_0_1_n_n_1_2_641.siIdx (ix3 h r c) ⟨0, by decide⟩ = ix3 r c 0 := by
      funext b
      rcases (by decide : ∀ a : Fin 3, a = 0 ∨ a = 1 ∨ a = 2) b with rfl | rfl | rfl <;> exact Fin.ext rfl
    exact congrArg (fun z => min (idx z).toInt.toNat 127) h0

/-- The table of biases holds each distance's bucket row. -/
theorem table_at (rel : FVec Ideal S32x64 .f32) (h : Fin 64) (n : Fin 128) :
    table rel (ix2 h n) = rel (ix2 ⟨min (Bucket.rowOf (BitVec.ofNat 32 n.val)).toInt.toNat 31, by omega⟩ h) := by
  unfold table
  rw [turn_at, gather128_at]
  have e : broadcastInDim S128x1 ![0] bcast_S128_S128x1_0 (fromEnd buckets) (ix2 n 0)
      = Bucket.rowOf (BitVec.ofNat 32 n.val) := by
    rw [start128_at, fromEnd_at, buckets_at]
    rfl
  exact congrArg (fun q : BitVec 32 => rel (ix2 ⟨min q.toInt.toNat 31, by omega⟩ h)) e

/-- The index of a band's entry in the table is its clipped distance. -/
theorem index_at (r : Fin 128) (c : Fin 256) :
    broadcastInDim S128x256x1 ![0, 1] bcast_S128x256_S128x256x1_0_1 (fromEnd128 clipped) (ix3 r c 0)
      = Scalar.select
          (IntOp.cmpi .slt (Bucket.held (IntOp.subi (IntOp.addi (BitVec.ofNat 32 r.val) 128#32) (BitVec.ofNat 32 c.val))) 0#32)
          (IntOp.addi (Bucket.held (IntOp.subi (IntOp.addi (BitVec.ofNat 32 r.val) 128#32) (BitVec.ofNat 32 c.val))) 128#32)
          (Bucket.held (IntOp.subi (IntOp.addi (BitVec.ofNat 32 r.val) 128#32) (BitVec.ofNat 32 c.val))) := by
  rw [starts_at, fromEnd128_at, clipped_at]

/-- The kernel's bias of a head, query and key: the row of the clipped distance's bucket. -/
theorem bandBias_at (rel : FVec Ideal S32x64 .f32) (h : Fin 64) (r : Fin 128) (c : Fin 256) :
    bandBias rel (ix3 h r c)
      = rel (ix2 ⟨min (Bucket.rowOf (Bucket.held
          (IntOp.subi (IntOp.addi (BitVec.ofNat 32 r.val) 128#32) (BitVec.ofNat 32 c.val)))).toInt.toNat 31, by omega⟩ h) := by
  unfold bandBias
  rw [gatherBand_at, table_at]
  have e := (congrArg (fun z : BitVec 32 => BitVec.ofNat 32 (min z.toInt.toNat 127)) (index_at r c)).trans (Bucket.pick _)
  exact congrArg (fun q : BitVec 32 => rel (ix2 ⟨min (Bucket.rowOf q).toInt.toNat 31, by omega⟩ h)) e

/-- The reference's row of the table is that of the clipped distance's bucket. -/
theorem near_at (r : Fin 128) (c : Fin 256) :
    Cert.ReferenceIdeal.Parts.wrap (Cert.ReferenceIdeal.Parts.bucket Cert.ReferenceIdeal.Parts.near) (ix2 r c)
      = Bucket.rowOf (Bucket.held
          (IntOp.subi (IntOp.addi (BitVec.ofNat 32 r.val) 128#32) (BitVec.ofNat 32 c.val))) := by
  pointwise [Cert.ReferenceIdeal.Parts.wrap, Cert.ReferenceIdeal.Parts.bucket, Cert.ReferenceIdeal.Parts.near, Cert.ReferenceIdeal.Parts.dist]
  rfl

/-- The kernel's table of biases, taken twice, is the reference's, taken once. -/
theorem bandBias_eq (rel : FVec Ideal S32x64 .f32) (h : Fin 64) (r : Fin 128) (c : Fin 256) :
    bandBias rel (ix3 h r c) = Cert.ReferenceIdeal.Parts.bias rel (ix3 h r c) := by
  rw [bandBias_at, Cert.ReferenceIdeal.Parts.bias_at]
  exact (congrArg (fun q : BitVec 32 => rel (ix2 ⟨min q.toInt.toNat 31, by omega⟩ h)) (near_at r c)).symm

/-- The host computes the biases of the bands into the kernel's seventh operand. -/
theorem V_bias (c : Dev nD) : V m c main_v43 = bandBias (m ((c.tc : Thread nD τ).loc main_arg2)) := by
  show StableHlo.after _ _ _ = _
  simp only [hostOps0, hostOps0_1, hostOps0_2, hostOps0_3, hostOps0_4, hostOps0_5, hostOps0_6, hostOps0_7, hostOps0_8, List.flatten_cons, List.flatten_nil, List.append_nil, List.cons_append, List.nil_append]
  simp only [Idealize.ShloMosaic.StableHlo.after_cons, Idealize.ShloMosaic.StableHlo.after_nil]
  after_results_simp
  rfl

end Cert.KernelIdeal.RefValue
-- ==== Proof.Head1.lean ====
module
public import proofs.«01_k».proof.Proof.Gen.KernelIdeal.Value
public import proofs.«01_k».proof.Proof.RefAttn
public import proofs.«01_k».proof.Proof.Soft
public import proofs.«01_k».proof.Proof.Bucket
public import Idealize.ShloMosaic.Lib.Pipeline.ValueKit
public import Idealize.ShloMosaic.Lib.Pointwise
@[expose] public section

/-! One head of the attention, as the kernel computes it and as the reference does. -/

set_option maxRecDepth 16384
noncomputable section
open Idealize.ShloMosaic Idealize.ShloMosaic.TcCoe Idealize.SL.Sem
open Idealize.ShloMosaic.Pipeline (Dat)
namespace Cert.KernelIdeal.RefValue
open Cert.KernelIdeal Cert.KernelIdeal.Gen
variable (m : (ℓ : Loc nD τ sig) → Buf (Elt Ideal) ℓ)

/-- The scale of the queries is an eighth. -/
theorem lit_eighth : Ideal.ofBits .f32 0x3E000000#32 = (((1 : ℝ) / 8 : ℝ) : EReal) := by
  simp [Ideal.ofBits, Ideal.ieee]
  rw [← EReal.coe_mul]
  norm_num
/-- The pattern of minus infinity. -/
theorem lit_bot : Ideal.ofBits .f32 0xFF800000#32 = ⊥ := by
  simp [Ideal.ofBits, Ideal.ieee]
/-- The pattern of infinity. -/
theorem lit_top : Ideal.ofBits .f32 0x7F800000#32 = ⊤ := by
  simp [Ideal.ofBits, Ideal.ieee]
/-- The mask's literal is named minus infinity. -/
theorem lit_mask : Named.named (F := Ideal) κ "mask" (φ := .f32) 0xF149F2CA#32 = ⊥ :=
  IdealRules.named_const.ideal_named_scalar _ _ _ _ rfl
/-- A selection is a case distinction on its bit. -/
theorem select_one (b : BitVec 1) (x y : EReal) : Scalar.select b x y = if b = 1#1 then x else y := rfl

/-- The masked scores of one head against the sliced keys. -/
def scores (kS : FVec Ideal S256x64 .bf16) (mask : IVec S128x256 1) (q : FVec Ideal S128x64 .f32)
    (bias : FVec Ideal S1x128x256 .f32) : FVec Ideal S128x256 .f32 :=
  select mask
    (addf (matmul dot_S128x64_S256x64_S128x256_1_1_0_0_n_n none
        (truncf .bf16 (mulf q (broadcast S128x64 (Scalar.ofBits .f32 0x3E000000#32))) bitsLt_bf16_f32) kS
        (constant S128x256 .f32 0x00000000#32))
      (shapeCast S128x256 bias shapeCasts_S1x128x256_S128x256))
    (broadcast S128x256 (Named.named κ "mask" 0xF149F2CA#32))

/-- The greater of a row's scores and the sink. -/
def peak (s : FVec Ideal S128x256 .f32) (sk : Elt Ideal .f32) : FVec Ideal S128x1 .f32 :=
  maximumf (shapeCast S128x1 (multiReduction .maximumf [1] S128 s 0xFF800000#32 reduces_S128x256_S128 (.inl rfl) rfl)
    shapeCasts_S128_S128x1) (broadcast S128x1 sk)

/-- One head's result from its scores, its sink and the sliced values. -/
def head (s : FVec Ideal S128x256 .f32) (sk : Elt Ideal .f32) (vS : FVec Ideal S256x64 .bf16) : FVec Ideal S128x64 .bf16 :=
  truncf .bf16
    (divf
      (matmul dot_S128x256_S256x64_S128x64_1_0_0_1_n_n none
        (truncf .bf16 (exp (subf s (broadcastTo S128x256 (peak s sk) broadcasts_S128x1_S128x256))) bitsLt_bf16_f32) vS
        (constant S128x64 .f32 0x00000000#32))
      (broadcastTo S128x64
        (addf
          (shapeCast S128x1 (multiReduction .add [1] S128
            (exp (subf s (broadcastTo S128x256 (peak s sk) broadcasts_S128x1_S128x256)))
            0x00000000#32 reduces_S128x256_S128 (.inl rfl) rfl) shapeCasts_S128_S128x1)
          (exp (subf (broadcast S128x1 sk) (peak s sk))))
        broadcasts_S128x1_S128x64))
    bitsLt_bf16_f32

/-- A score is the masked sum of the scaled product of query and key and the bias. -/
theorem scores_at (kS mask q bias) (r : Fin 128) (c : Fin 256) :
    scores kS mask q bias (ix2 r c) = Scalar.select (mask (ix2 r c))
      ((∑ x, q (ix2 r x) * Ideal.ofBits .f32 0x3E000000#32 * kS (ix2 c x)) + bias (ix3 0 r c))
      (Named.named κ "mask" 0xF149F2CA#32) := by
  pointwise [scores]

/-- An entry of a head: the weighted mean of the values, divided by the mass once, at the end. -/
theorem head_at (s sk vS) (r : Fin 128) (e : Fin 64) :
    head s sk vS (ix2 r e) =
      Ideal.div (∑ x, Ideal.exp (s (ix2 r x) - max ((Finset.univ : Finset (Fin 256)).fold max (Ideal.ofBits .f32 0xFF800000#32) fun x => s (ix2 r x)) sk) * vS (ix2 x e))
        ((∑ x, Ideal.exp (s (ix2 r x) - max ((Finset.univ : Finset (Fin 256)).fold max (Ideal.ofBits .f32 0xFF800000#32) fun x => s (ix2 r x)) sk))
          + Ideal.exp (sk - max ((Finset.univ : Finset (Fin 256)).fold max (Ideal.ofBits .f32 0xFF800000#32) fun x => s (ix2 r x)) sk)) := by
  pointwise [head, peak]

/-- The reference's weights, each divided by the mass. -/
theorem mix_weights_at (s : FVec Ideal Cert.ReferenceIdeal.S64x64x128x256 .f32) (sk : FVec Ideal Cert.ReferenceIdeal.S64 .f32)
    (v : FVec Ideal Cert.ReferenceIdeal.S64x256x64x64 .f32) (n h : Fin 64) (r : Fin 128) (e : Fin 64) :
    Cert.ReferenceIdeal.Parts.mix (Cert.ReferenceIdeal.Parts.weights s sk) v (ix2 ⟨n.val * 128 + r.val, by omega⟩ ⟨h.val * 64 + e.val, by omega⟩)
      = ∑ x, v (ix4 n x h e) *
          Ideal.div (Ideal.exp (s (ix4 n h r x) - max ((Finset.univ : Finset (Fin 256)).fold max (Ideal.ofBits .f32 0xFF800000#32) fun x => s (ix4 n h r x)) (sk (ix1 h))))
        ((∑ x, Ideal.exp (s (ix4 n h r x) - max ((Finset.univ : Finset (Fin 256)).fold max (Ideal.ofBits .f32 0xFF800000#32) fun x => s (ix4 n h r x)) (sk (ix1 h))))
          + Ideal.exp (sk (ix1 h) - max ((Finset.univ : Finset (Fin 256)).fold max (Ideal.ofBits .f32 0xFF800000#32) fun x => s (ix4 n h r x)) (sk (ix1 h)))) := by
  rw [Cert.ReferenceIdeal.Parts.mix_at]
  refine Finset.sum_congr rfl fun x _ => ?_
  simp only [Cert.ReferenceIdeal.Parts.weights_at, Cert.ReferenceIdeal.Parts.raised_at, Cert.ReferenceIdeal.Parts.mass_at,
    Cert.ReferenceIdeal.Parts.peak_at, Cert.ReferenceIdeal.Parts.rowMax_at, Cert.ReferenceIdeal.Parts.sinkRows_at]

/-- The distance test fails or the key's block is before the sequence. -/
theorem mask_first (b h : Fin 64) (r : Fin 128) (c : Fin 256) (hc : c.val < 128) (hb : b.val % 16 < 1) :
    Cert.ReferenceIdeal.Parts.mask (ix4 b h r c) = 0#1 := by
  rw [Cert.ReferenceIdeal.Parts.mask_at]
  have e : b.val % 16 = 0 := by omega
  rw [e]
  have z : IntOp.cmpi .sge (IntOp.addi (IntOp.muli (IntOp.subi (BitVec.ofNat 32 0) 1#32) 128#32) (BitVec.ofNat 32 c.val)) 0#32 = 0#1 :=
    (by decide : ∀ c : Fin 128, IntOp.cmpi .sge (IntOp.addi (IntOp.muli (IntOp.subi (BitVec.ofNat 32 0) 1#32) 128#32) (BitVec.ofNat 32 c.val)) 0#32 = 0#1) ⟨c.val, hc⟩
  rw [z]
  exact (by decide : ∀ y : BitVec 1, IntOp.andi y 0#1 = 0#1) _

/-- The reference's queries are real numbers. -/
theorem queries_proper (A : FVec Ideal S8320x5120 .f32)
    (hA : ∀ (i : Fin 8320) (j : Fin 5120), i.val < 8192 → j.val < 4608 → Soft.Proper (A (ix2 i j)))
    (n : Fin 64) (r : Fin 128) (h e : Fin 64) : Soft.Proper (Cert.ReferenceIdeal.Parts.queries A (ix4 n r h e)) := by
  rw [Cert.ReferenceIdeal.Parts.queries_at]
  exact hA _ _ (by show n.val * 128 + r.val < 8192; omega) (by show h.val * 64 + e.val < 4608; omega)

/-- The reference's keys are real numbers. -/
theorem keys_proper (A : FVec Ideal S8320x5120 .f32)
    (hA : ∀ (i : Fin 8320) (j : Fin 5120), i.val < 8192 → j.val < 4608 → Soft.Proper (A (ix2 i j)))
    (n : Fin 64) (x : Fin 256) (h e : Fin 64) : Soft.Proper (Cert.ReferenceIdeal.Parts.keys A (ix4 n x h e)) := by
  rw [Cert.ReferenceIdeal.Parts.keys_at]
  split_ifs
  · exact ⟨by simp, by simp⟩
  · exact hA _ _ (by show n.val / 16 * 2048 + (n.val % 16 - 1) * 128 + x.val < 8192; omega)
      (by show 4096 + (h.val / 8 * 64 + e.val) < 4608; omega)
  · exact hA _ _ (by show n.val / 16 * 2048 + n.val % 16 * 128 + (x.val - 128) < 8192; omega)
      (by show 4096 + (h.val / 8 * 64 + e.val) < 4608; omega)

/-- The biases of the band are real numbers. -/
theorem bias_proper (R : FVec Ideal S32x64 .f32) (hR : ∀ (i : Fin 32) (j : Fin 64), Soft.Proper (R (ix2 i j)))
    (h : Fin 64) (r : Fin 128) (x : Fin 256) : Soft.Proper (Cert.ReferenceIdeal.Parts.bias R (ix3 h r x)) := by
  rw [Cert.ReferenceIdeal.Parts.bias_at]
  exact hR _ _

/-- A head computed from matching slices is the reference's head at the same block. -/
theorem piece (A : FVec Ideal S8320x5120 .f32) (Sk : FVec Ideal S64 .f32) (R : FVec Ideal S32x64 .f32)
    (hA : ∀ (i : Fin 8320) (j : Fin 5120), i.val < 8192 → j.val < 4608 → Soft.Proper (A (ix2 i j)))
    (hS : ∀ i : Fin 64, Soft.Proper (Sk (ix1 i)))
    (hR : ∀ (i : Fin 32) (j : Fin 64), Soft.Proper (R (ix2 i j)))
    (n h : Fin 64) (kS vS : FVec Ideal S256x64 .bf16) (mask : IVec S128x256 1) (q : FVec Ideal S128x64 .f32)
    (bias : FVec Ideal S1x128x256 .f32) (sk : Elt Ideal .f32) (r : Fin 128) (e : Fin 64)
    (kq : ∀ x, q (ix2 r x) = Cert.ReferenceIdeal.Parts.queries A (ix4 n r h x))
    (km : ∀ x, mask (ix2 r x) = Cert.ReferenceIdeal.Parts.mask (ix4 n h r x))
    (kk : ∀ x d, Cert.ReferenceIdeal.Parts.mask (ix4 n h r x) = 1#1 → kS (ix2 x d) = Cert.ReferenceIdeal.Parts.keys A (ix4 n x h d))
    (kv : ∀ x d, Cert.ReferenceIdeal.Parts.mask (ix4 n h r x) = 1#1 → vS (ix2 x d) = Cert.ReferenceIdeal.Parts.vals A (ix4 n x h d))
    (kb : ∀ x, bias (ix3 0 r x) = Cert.ReferenceIdeal.Parts.bias R (ix3 h r x))
    (ks : sk = Sk (ix1 h)) :
    head (scores kS mask q bias) sk vS (ix2 r e)
      = Cert.ReferenceIdeal.Parts.attention A Sk R (ix2 ⟨n.val * 128 + r.val, by omega⟩ ⟨h.val * 64 + e.val, by omega⟩) := by
  unfold Cert.ReferenceIdeal.Parts.attention
  rw [head_at, mix_weights_at]
  have es : (fun x => scores kS mask q bias (ix2 r x))
      = fun x => Cert.ReferenceIdeal.Parts.scores (Cert.ReferenceIdeal.Parts.queries A) (Cert.ReferenceIdeal.Parts.keys A)
          (Cert.ReferenceIdeal.Parts.bias R) (ix4 n h r x) := by
    funext x
    rw [scores_at, Cert.ReferenceIdeal.Parts.scores_at, km, lit_mask, lit_bot, select_one, select_one]
    split_ifs with hm
    · rw [kb, lit_eighth, Soft.sum_mul_real _ _ (by norm_num)]
      refine congrArg (· + _) (Finset.sum_congr rfl fun d _ => ?_)
      rw [kq, kk x d hm, mul_right_comm]
    · rfl
  have ez : ∀ x, scores kS mask q bias (ix2 r x)
      = Cert.ReferenceIdeal.Parts.scores (Cert.ReferenceIdeal.Parts.queries A) (Cert.ReferenceIdeal.Parts.keys A)
          (Cert.ReferenceIdeal.Parts.bias R) (ix4 n h r x) := fun x => congrFun es x
  simp only [ez, ks, lit_bot]
  have hf : ∀ x, Cert.ReferenceIdeal.Parts.scores (Cert.ReferenceIdeal.Parts.queries A) (Cert.ReferenceIdeal.Parts.keys A)
          (Cert.ReferenceIdeal.Parts.bias R) (ix4 n h r x) ≠ ⊤ := by
    intro x
    rw [Cert.ReferenceIdeal.Parts.scores_at, lit_bot, select_one]
    split_ifs with hm
    · refine (Soft.fin_add _ _ (Soft.fin_mul _ _ (Soft.fin_sum _ fun d => Soft.fin_mul _ _ (queries_proper A hA n r h d) (keys_proper A hA n x h d)) ?_)
        (bias_proper R hR h r x)).1
      rw [lit_eighth]
      exact ⟨EReal.coe_ne_top _, EReal.coe_ne_bot _⟩
    · exact bot_ne_top
  rw [Soft.attend _ _ (fun x => Cert.ReferenceIdeal.Parts.vals A (ix4 n x h e)) _ hf (hS h).1 (hS h).2 ?_]
  · exact Finset.sum_congr rfl fun x _ => mul_comm _ _
  · intro x hx
    refine kv x e ?_
    by_contra hm
    refine hx ?_
    rw [Cert.ReferenceIdeal.Parts.scores_at, lit_bot, select_one, if_neg hm]

end Cert.KernelIdeal.RefValue
-- ==== Proof.Tile.lean ====
module
public import proofs.«01_k».proof.Proof.Gen.KernelIdeal.Value
public import proofs.«01_k».proof.Proof.RefAttn
public import proofs.«01_k».proof.Proof.Soft
public import proofs.«01_k».proof.Proof.Bucket
public import proofs.«01_k».proof.Proof.BiasTable
public import proofs.«01_k».proof.Proof.Head1
public import Idealize.ShloMosaic.Lib.Pipeline.ValueKit
public import Idealize.ShloMosaic.Lib.Pointwise
@[expose] public section

/-! A point of the attention's grid: its queries, keys, values, mask, biases and sinks, and a head's piece of its result. -/

set_option maxRecDepth 16384
noncomputable section
open Idealize.ShloMosaic Idealize.ShloMosaic.TcCoe Idealize.SL.Sem
open Idealize.ShloMosaic.Pipeline (Dat)
namespace Cert.KernelIdeal.RefValue
open Cert.KernelIdeal Cert.KernelIdeal.Gen
variable (m : (ℓ : Loc nD τ sig) → Buf (Elt Ideal) ℓ)

/-- Where every window's block stands at every point. -/
theorem blocks_at : ∀ t : Fin cfg0.N, win0_0.index t = ![0] ∧ win0_1.index t = ![t.val, 0] ∧ win0_2.index t = ![t.val, 8]
    ∧ win0_3.index t = ![t.val, 9] ∧ win0_4.index t = ![t.val - 1, 8] ∧ win0_5.index t = ![t.val - 1, 9]
    ∧ win0_6.index t = ![0, 0, 0] ∧ win0_7.index t = ![t.val, 0] :=
  (by decide +kernel : ∀ t : Fin grid0.N, _)
/-- The grid has 64 points. -/
theorem t_lt (t : Fin cfg0.N) : t.val < 64 := lt_of_lt_of_eq t.isLt (by decide +kernel)

set_option maxHeartbeats 4000000 in
/-- The queries of a point are the rows of its block. -/
theorem q_at (c : Dev nD) (t : Fin cfg0.N) (r : Fin 128) (j : Fin 4096) (n : Fin 64) (en : n.val = t.val) :
    X0_1 m c t (ix2 r j) = m ((c.tc : Thread nD τ).loc main_arg0) (ix2 ⟨n.val * 128 + r.val, by omega⟩ ⟨j.val, by omega⟩) := by
  rw [← V_main_arg0 m c]
  unfold X0_1 Pipeline.Window.fill
  rw [dif_pos (moved0_1 t _)]
  blk_point [iblk, blocks_at t]

set_option maxHeartbeats 4000000 in
/-- The keys of a point: the previous block's, or zeros before the first, then its own. -/
theorem K_at (c : Dev nD) (t : Fin cfg0.N) (x : Fin 256) (j : Fin 512) (n : Fin 64) (en : n.val = t.val) :
    k0_pay1 (F := Ideal) (iblk m c 4 t) (iblk m c 2 t) (ix2 x j)
      = if hx : x.val < 128 then m ((c.tc : Thread nD τ).loc main_arg0) (ix2 ⟨(n.val - 1) * 128 + x.val, by omega⟩ ⟨4096 + j.val, by omega⟩)
        else m ((c.tc : Thread nD τ).loc main_arg0) (ix2 ⟨n.val * 128 + (x.val - 128), by omega⟩ ⟨4096 + j.val, by omega⟩) := by
  rw [← V_main_arg0 m c]
  pointwise [k0_pay1]
  blk_point [iblk, blocks_at t]

set_option maxHeartbeats 4000000 in
/-- The values of a point: the previous block's, or zeros before the first, then its own. -/
theorem V_at (c : Dev nD) (t : Fin cfg0.N) (x : Fin 256) (j : Fin 512) (n : Fin 64) (en : n.val = t.val) :
    k0_pay2 (F := Ideal) (iblk m c 5 t) (iblk m c 3 t) (ix2 x j)
      = if hx : x.val < 128 then m ((c.tc : Thread nD τ).loc main_arg0) (ix2 ⟨(n.val - 1) * 128 + x.val, by omega⟩ ⟨4608 + j.val, by omega⟩)
        else m ((c.tc : Thread nD τ).loc main_arg0) (ix2 ⟨n.val * 128 + (x.val - 128), by omega⟩ ⟨4608 + j.val, by omega⟩) := by
  rw [← V_main_arg0 m c]
  pointwise [k0_pay2]
  blk_point [iblk, blocks_at t]

/-- Whether a block is not the first of its sequence, by the kernel's remainder. -/
def later (i : BitVec 32) : BitVec 1 :=
  Scalar.cmpi CmpIPredicate.ne
          (Scalar.select
            (Scalar.andi
              (Scalar.xori
                (Scalar.cmpi CmpIPredicate.slt
                  (Scalar.remsi i
                    (Scalar.select (Scalar.cmpi CmpIPredicate.eq 16#32 0#32) 1#32 16#32))
                  0#32)
                (Scalar.cmpi CmpIPredicate.slt (Scalar.select (Scalar.cmpi CmpIPredicate.eq 16#32 0#32) 1#32 16#32)
                  0#32))
              (Scalar.cmpi CmpIPredicate.ne
                (Scalar.remsi i
                  (Scalar.select (Scalar.cmpi CmpIPredicate.eq 16#32 0#32) 1#32 16#32))
                0#32))
            (Scalar.addi
              (Scalar.remsi i
                (Scalar.select (Scalar.cmpi CmpIPredicate.eq 16#32 0#32) 1#32 16#32))
              (Scalar.select (Scalar.cmpi CmpIPredicate.eq 16#32 0#32) 1#32 16#32))
            (Scalar.remsi i
              (Scalar.select (Scalar.cmpi CmpIPredicate.eq 16#32 0#32) 1#32 16#32)))
          0#32
/-- A point is later in its sequence unless its number is a multiple of 16. -/
theorem later_at : ∀ n : Fin 64, later (BitVec.ofNat 32 n.val) = if n.val % 16 = 0 then 0#1 else 1#1 := by decide +kernel
/-- The first block of a sequence keeps its own keys only. -/
theorem place_at : ∀ (a : Fin 16) (x : Fin 256), IntOp.ori (if a.val = 0 then 0#1 else 1#1) (IntOp.cmpi CmpIPredicate.sge (BitVec.ofNat 32 x.val) 128#32)
    = IntOp.cmpi CmpIPredicate.sge
        (IntOp.addi (IntOp.muli (IntOp.subi (BitVec.ofNat 32 a.val) 1#32) 128#32) (BitVec.ofNat 32 x.val)) 0#32 := by decide +kernel
/-- The coordinate of a point is its number. -/
theorem coord_at : ∀ t : Fin cfg0.N, ((grid0.coords t) 0).val = t.val := (by decide +kernel : ∀ t : Fin grid0.N, _)

/-- The keys kept by place are those at a position from zero on. -/
theorem place (n : Fin 64) (x : Fin 256) : IntOp.ori (later (BitVec.ofNat 32 n.val)) (IntOp.cmpi CmpIPredicate.sge (BitVec.ofNat 32 x.val) 128#32)
    = IntOp.cmpi CmpIPredicate.sge
        (IntOp.addi (IntOp.muli (IntOp.subi (BitVec.ofNat 32 (n.val % 16)) 1#32) 128#32) (BitVec.ofNat 32 x.val)) 0#32 := by
  rw [later_at]
  exact place_at ⟨n.val % 16, Nat.mod_lt _ (by decide)⟩ x

set_option maxHeartbeats 4000000 in
/-- The mask of a point is the reference's. -/
theorem mask_ok (t : Fin cfg0.N) (r : Fin 128) (x : Fin 256) (n h : Fin 64) (en : n.val = t.val) :
    k0_pay3 (grid0.coords t) (ix2 r x) = Cert.ReferenceIdeal.Parts.mask (ix4 n h r x) := by
  have hn : ((grid0.coords t) 0).val = n.val := by rw [coord_at, en]
  rw [Cert.ReferenceIdeal.Parts.mask_at, ← place, ← hn]
  pointwise [k0_pay3]
  rfl

set_option maxHeartbeats 4000000 in
/-- The band's biases of a head, as the point reads them. -/
theorem b_at (c : Dev nD) (t : Fin cfg0.N) (h : Fin 64) (r : Fin 128) (x : Fin 256) :
    iblk m c 6 t (ix3 h r x) = V m c main_v43 (ix3 h r x) := by
  blk_point [iblk, blocks_at t]
set_option maxHeartbeats 4000000 in
/-- A head's sink, as the point reads it. -/
theorem s_at (c : Dev nD) (t : Fin cfg0.N) (h : Fin 64) :
    iblk m c 0 t (ix1 h) = V m c main_arg1 (ix1 h) := by
  blk_point [iblk, blocks_at t]

/-- A column slice reads the columns from its offset on. -/
theorem slice_at (K : FVec Ideal S256x512 .bf16) (o : ℕ) (w : S256x512.Slices ![0, o] S256x64) (x : Fin 256) (d : Fin 64) (j : Fin 512)
    (hj : j.val = o + d.val) : extractStridedSlice S256x64 ![0, o] K w (ix2 x d) = K (ix2 x j) := by
  unfold extractStridedSlice
  refine congrArg K ?_
  funext a
  rcases (by decide : ∀ a : Fin 2, a = 0 ∨ a = 1) a with rfl | rfl
  · exact Fin.ext (by show 0 + x.val = x.val; omega)
  · exact Fin.ext (by show o + d.val = j.val; omega)

/-- A head's piece of a point is the reference's attention at the same rows and columns. -/
theorem tile (c : Dev nD) (t : Fin cfg0.N) (n : Fin 64) (en : n.val = t.val)
    (hA : ∀ (i : Fin 8320) (j : Fin 5120), i.val < 8192 → j.val < 4608 → Soft.Proper (m ((c.tc : Thread nD τ).loc main_arg0) (ix2 i j)))
    (hS : ∀ i : Fin 64, Soft.Proper (m ((c.tc : Thread nD τ).loc main_arg1) (ix1 i)))
    (hR : ∀ (i : Fin 32) (j : Fin 64), Soft.Proper (m ((c.tc : Thread nD τ).loc main_arg2) (ix2 i j)))
    (h : Fin 64) (o o' : ℕ) (ho : o = 64 * (h.val / 8)) (ho' : o' = 64 * h.val) (w : S256x512.Slices ![0, o] S256x64)
    (x : S128x64.Idx) (y : S128x4096.Idx) (y0 : (y 0).val = (x 0).val) (y1 : (y 1).val = o' + (x 1).val)
    (qS : FVec Ideal S128x64 .f32) (bS : FVec Ideal S1x128x256 .f32) (sk : Elt Ideal .f32)
    (kq : ∀ (r : Fin 128) (d : Fin 64), qS (ix2 r d) = X0_1 m c t (ix2 r ⟨64 * h.val + d.val, by omega⟩))
    (kb : ∀ (r : Fin 128) (z : Fin 256), bS (ix3 0 r z) = iblk m c 6 t (ix3 h r z))
    (ks : sk = iblk m c 0 t (ix1 h)) :
    head (scores (extractStridedSlice S256x64 ![0, o] (k0_pay1 (F := Ideal) (iblk m c 4 t) (iblk m c 2 t)) w) (k0_pay3 (grid0.coords t)) qS bS) sk
        (extractStridedSlice S256x64 ![0, o] (k0_pay2 (F := Ideal) (iblk m c 5 t) (iblk m c 3 t)) w) x
      = Cert.ReferenceIdeal.Parts.attention (m ((c.tc : Thread nD τ).loc main_arg0)) (m ((c.tc : Thread nD τ).loc main_arg1))
          (m ((c.tc : Thread nD τ).loc main_arg2))
          (ix2 ⟨n.val * 128 + (y 0).val, by have : (y 0).val < 128 := (y 0).isLt; omega⟩ ⟨(y 1).val, by have : (y 1).val < 4096 := (y 1).isLt; exact this⟩) := by
  obtain ⟨r, e, rfl⟩ : ∃ (r : Fin 128) (e : Fin 64), x = ix2 r e := by
    refine ⟨x 0, x 1, ?_⟩
    funext a
    rcases (by decide : ∀ a : Fin 2, a = 0 ∨ a = 1) a with rfl | rfl <;> rfl
  have z0 : (y 0).val = r.val := y0
  have z1 : (y 1).val = o' + e.val := y1
  have ey : (ix2 (⟨n.val * 128 + (y 0).val, by omega⟩ : Fin 8192) (⟨(y 1).val, by omega⟩ : Fin 4096))
      = (ix2 (⟨n.val * 128 + r.val, by omega⟩ : Fin 8192) (⟨h.val * 64 + e.val, by omega⟩ : Fin 4096)) := by
    congr 1 <;> exact Fin.ext (by simp only []; omega)
  refine Eq.trans ?_ (congrArg _ ey.symm)
  refine piece _ _ _ hA hS hR n h _ _ _ _ _ _ r e ?_ ?_ ?_ ?_ ?_ ?_
  · intro z
    rw [kq, q_at m c t _ _ n en, Cert.ReferenceIdeal.Parts.queries_at]
    exact congrArg _ (by congr 1; exact Fin.ext (by simp only []; omega))
  · intro z
    exact mask_ok t _ z n h en
  · intro z d hm
    rw [slice_at _ o w z d ⟨64 * (h.val / 8) + d.val, by omega⟩ (by simp only []; omega), K_at m c t _ _ n en, Cert.ReferenceIdeal.Parts.keys_at]
    split_ifs with h₁ h₂
    · exact absurd (mask_first n h r z h₁ h₂) (by rw [hm]; decide)
    · exact congrArg _ (by congr 1 <;> exact Fin.ext (by simp only []; omega))
    · exact congrArg _ (by congr 1 <;> exact Fin.ext (by simp only []; omega))
  · intro z d hm
    rw [slice_at _ o w z d ⟨64 * (h.val / 8) + d.val, by omega⟩ (by simp only []; omega), V_at m c t _ _ n en, Cert.ReferenceIdeal.Parts.vals_at]
    split_ifs with h₁ h₂
    · exact absurd (mask_first n h r z h₁ h₂) (by rw [hm]; decide)
    · exact congrArg _ (by congr 1 <;> exact Fin.ext (by simp only []; omega))
    · exact congrArg _ (by congr 1 <;> exact Fin.ext (by simp only []; omega))
  · intro z
    rw [kb, b_at, V_bias, bandBias_eq]
  · rw [ks, s_at, V_main_arg1]

end Cert.KernelIdeal.RefValue
-- ==== Proof.Pieces.lean ====
module
public import proofs.«01_k».proof.Proof.Gen.KernelIdeal.Value
public import proofs.«01_k».proof.Proof.RefAttn
public import proofs.«01_k».proof.Proof.Soft
public import proofs.«01_k».proof.Proof.Bucket
public import proofs.«01_k».proof.Proof.BiasTable
public import proofs.«01_k».proof.Proof.Head1
public import Idealize.ShloMosaic.Lib.Pipeline.ValueKit
public import Idealize.ShloMosaic.Lib.Pointwise
@[expose] public section

/-! The 64 pieces of a point's result, one per head, each the head of its slices. -/

set_option maxRecDepth 16384
noncomputable section
open Idealize.ShloMosaic Idealize.ShloMosaic.TcCoe Idealize.SL.Sem
open Idealize.ShloMosaic.Pipeline (Dat)
namespace Cert.KernelIdeal.RefValue
open Cert.KernelIdeal Cert.KernelIdeal.Gen
variable (m : (ℓ : Loc nD τ sig) → Buf (Elt Ideal) ℓ)

/-- Head 63's piece is the head of its slices. -/
theorem piece63_eq (v3 v7 v33 q b s) : k0_pay171 (F := Ideal) v3 v7 v33 q b s
    = head (scores (extractStridedSlice S256x64 ![0, 448] v3 slices_S256x512_o0_448_S256x64) v33 q b) s
        (extractStridedSlice S256x64 ![0, 448] v7 slices_S256x512_o0_448_S256x64) := rfl

/-- Head 62's piece is the head of its slices. -/
theorem piece62_eq (v3 v7 v33 q b s) : k0_pay170 (F := Ideal) v7 s (k0_pay167 (F := Ideal) v3 v33 q b s) (k0_pay168 (F := Ideal) v3 v33 q b s) (k0_pay169 (F := Ideal) v3 v33 q b s)
    = head (scores (extractStridedSlice S256x64 ![0, 448] v3 slices_S256x512_o0_448_S256x64) v33 q b) s
        (extractStridedSlice S256x64 ![0, 448] v7 slices_S256x512_o0_448_S256x64) := rfl

/-- Head 61's piece is the head of its slices. -/
theorem piece61_eq (v3 v7 v33 q b s) : k0_pay165 (F := Ideal) v7 (k0_pay164 (F := Ideal) v3 v33 q b) s
    = head (scores (extractStridedSlice S256x64 ![0, 448] v3 slices_S256x512_o0_448_S256x64) v33 q b) s
        (extractStridedSlice S256x64 ![0, 448] v7 slices_S256x512_o0_448_S256x64) := rfl

/-- Head 60's piece is the head of its slices. -/
theorem piece60_eq (v3 v7 v33 q b s) : k0_pay163 (F := Ideal) v3 v7 v33 (k0_pay162 (F := Ideal) q) b s
    = head (scores (extractStridedSlice S256x64 ![0, 448] v3 slices_S256x512_o0_448_S256x64) v33 q b) s
        (extractStridedSlice S256x64 ![0, 448] v7 slices_S256x512_o0_448_S256x64) := rfl

/-- Head 59's piece is the head of its slices. -/
theorem piece59_eq (v3 v7 v33 q b s) : k0_pay161 (F := Ideal) v3 v7 v33 q b s
    = head (scores (extractStridedSlice S256x64 ![0, 448] v3 slices_S256x512_o0_448_S256x64) v33 q b) s
        (extractStridedSlice S256x64 ![0, 448] v7 slices_S256x512_o0_448_S256x64) := rfl

/-- Head 58's piece is the head of its slices. -/
theorem piece58_eq (v3 v7 v33 q b s) : k0_pay160 (F := Ideal) (k0_pay158 (F := Ideal) v3 v33 q b s) (k0_pay159 (F := Ideal) v3 v7 v33 q b s)
    = head (scores (extractStridedSlice S256x64 ![0, 448] v3 slices_S256x512_o0_448_S256x64) v33 q b) s
        (extractStridedSlice S256x64 ![0, 448] v7 slices_S256x512_o0_448_S256x64) := rfl

/-- Head 57's piece is the head of its slices. -/
theorem piece57_eq (v3 v7 v33 q b s) : k0_pay154 (F := Ideal) v7 (k0_pay151 (F := Ideal) v3 v33 q b) s (k0_pay152 (F := Ideal) v3 v33 q b s) (k0_pay153 (F := Ideal) v3 v33 q b s)
    = head (scores (extractStridedSlice S256x64 ![0, 448] v3 slices_S256x512_o0_448_S256x64) v33 q b) s
        (extractStridedSlice S256x64 ![0, 448] v7 slices_S256x512_o0_448_S256x64) := rfl

/-- Head 56's piece is the head of its slices. -/
theorem piece56_eq (v3 v7 v33 q b s) : k0_pay150 (F := Ideal) v7 v33 (k0_pay149 (F := Ideal) v3 q) b s
    = head (scores (extractStridedSlice S256x64 ![0, 448] v3 slices_S256x512_o0_448_S256x64) v33 q b) s
        (extractStridedSlice S256x64 ![0, 448] v7 slices_S256x512_o0_448_S256x64) := rfl

/-- Head 55's piece is the head of its slices. -/
theorem piece55_eq (v3 v7 v33 q b s) : k0_pay148 (F := Ideal) v3 v7 v33 q b s
    = head (scores (extractStridedSlice S256x64 ![0, 384] v3 slices_S256x512_o0_384_S256x64) v33 q b) s
        (extractStridedSlice S256x64 ![0, 384] v7 slices_S256x512_o0_384_S256x64) := rfl

/-- Head 54's piece is the head of its slices. -/
theorem piece54_eq (v3 v7 v33 q b s) : k0_pay147 (F := Ideal) v3 v7 v33 q b s
    = head (scores (extractStridedSlice S256x64 ![0, 384] v3 slices_S256x512_o0_384_S256x64) v33 q b) s
        (extractStridedSlice S256x64 ![0, 384] v7 slices_S256x512_o0_384_S256x64) := rfl

/-- Head 53's piece is the head of its slices. -/
theorem piece53_eq (v3 v7 v33 q b s) : k0_pay146 (F := Ideal) v7 (k0_pay143 (F := Ideal) v3 v33 q b s) (k0_pay144 (F := Ideal) v3 v33 q b s) (k0_pay145 (F := Ideal) v3 v33 q b s)
    = head (scores (extractStridedSlice S256x64 ![0, 384] v3 slices_S256x512_o0_384_S256x64) v33 q b) s
        (extractStridedSlice S256x64 ![0, 384] v7 slices_S256x512_o0_384_S256x64) := rfl

/-- Head 52's piece is the head of its slices. -/
theorem piece52_eq (v3 v7 v33 q b s) : k0_pay140 (F := Ideal) v7 (k0_pay139 (F := Ideal) v3 v33 q b) s
    = head (scores (extractStridedSlice S256x64 ![0, 384] v3 slices_S256x512_o0_384_S256x64) v33 q b) s
        (extractStridedSlice S256x64 ![0, 384] v7 slices_S256x512_o0_384_S256x64) := rfl

/-- Head 51's piece is the head of its slices. -/
theorem piece51_eq (v3 v7 v33 q b s) : k0_pay138 (F := Ideal) v7 v33 (k0_pay136 (F := Ideal) q) (k0_pay137 (F := Ideal) v3) (constant S128x256 FTy.f32 0#32) b s
    = head (scores (extractStridedSlice S256x64 ![0, 384] v3 slices_S256x512_o0_384_S256x64) v33 q b) s
        (extractStridedSlice S256x64 ![0, 384] v7 slices_S256x512_o0_384_S256x64) := rfl

/-- Head 50's piece is the head of its slices. -/
theorem piece50_eq (v3 v7 v33 q b s) : k0_pay135 (F := Ideal) v3 v7 v33 q b s
    = head (scores (extractStridedSlice S256x64 ![0, 384] v3 slices_S256x512_o0_384_S256x64) v33 q b) s
        (extractStridedSlice S256x64 ![0, 384] v7 slices_S256x512_o0_384_S256x64) := rfl

/-- Head 49's piece is the head of its slices. -/
theorem piece49_eq (v3 v7 v33 q b s) : k0_pay134 (F := Ideal) v3 v7 v33 q b s
    = head (scores (extractStridedSlice S256x64 ![0, 384] v3 slices_S256x512_o0_384_S256x64) v33 q b) s
        (extractStridedSlice S256x64 ![0, 384] v7 slices_S256x512_o0_384_S256x64) := rfl

/-- Head 48's piece is the head of its slices. -/
theorem piece48_eq (v3 v7 v33 q b s) : k0_pay133 (F := Ideal) v7 s (k0_pay131 (F := Ideal) v3 v33 q b s) (k0_pay132 (F := Ideal) v3 v33 q b s)
    = head (scores (extractStridedSlice S256x64 ![0, 384] v3 slices_S256x512_o0_384_S256x64) v33 q b) s
        (extractStridedSlice S256x64 ![0, 384] v7 slices_S256x512_o0_384_S256x64) := rfl

/-- Head 47's piece is the head of its slices. -/
theorem piece47_eq (v3 v7 v33 q b s) : k0_pay129 (F := Ideal) v7 v33 (k0_pay128 (F := Ideal) v3 q b) (Named.named κ "mask" 4048155338#32) s
    = head (scores (extractStridedSlice S256x64 ![0, 320] v3 slices_S256x512_o0_320_S256x64) v33 q b) s
        (extractStridedSlice S256x64 ![0, 320] v7 slices_S256x512_o0_320_S256x64) := rfl

/-- Head 46's piece is the head of its slices. -/
theorem piece46_eq (v3 v7 v33 q b s) : k0_pay127 (F := Ideal) v3 v7 v33 q (FloatOps.ofBits FTy.f32 1040187392#32) b s
    = head (scores (extractStridedSlice S256x64 ![0, 320] v3 slices_S256x512_o0_320_S256x64) v33 q b) s
        (extractStridedSlice S256x64 ![0, 320] v7 slices_S256x512_o0_320_S256x64) := rfl

/-- Head 45's piece is the head of its slices. -/
theorem piece45_eq (v3 v7 v33 q b s) : k0_pay126 (F := Ideal) v3 v7 v33 q b s
    = head (scores (extractStridedSlice S256x64 ![0, 320] v3 slices_S256x512_o0_320_S256x64) v33 q b) s
        (extractStridedSlice S256x64 ![0, 320] v7 slices_S256x512_o0_320_S256x64) := rfl

/-- Head 44's piece is the head of its slices. -/
theorem piece44_eq (v3 v7 v33 q b s) : k0_pay125 (F := Ideal) (k0_pay122 (F := Ideal) v3 v33 q b s) (k0_pay123 (F := Ideal) v3 v33 q b s) (k0_pay124 (F := Ideal) v7)
    = head (scores (extractStridedSlice S256x64 ![0, 320] v3 slices_S256x512_o0_320_S256x64) v33 q b) s
        (extractStridedSlice S256x64 ![0, 320] v7 slices_S256x512_o0_320_S256x64) := rfl

/-- Head 43's piece is the head of its slices. -/
theorem piece43_eq (v3 v7 v33 q b s) : k0_pay118 (F := Ideal) v7 (k0_pay115 (F := Ideal) v3 v33 q b) s (k0_pay116 (F := Ideal) v3 v33 q b) (k0_pay117 (F := Ideal) s)
    = head (scores (extractStridedSlice S256x64 ![0, 320] v3 slices_S256x512_o0_320_S256x64) v33 q b) s
        (extractStridedSlice S256x64 ![0, 320] v7 slices_S256x512_o0_320_S256x64) := rfl

/-- Head 42's piece is the head of its slices. -/
theorem piece42_eq (v3 v7 v33 q b s) : k0_pay114 (F := Ideal) v7 v33 (k0_pay113 (F := Ideal) v3 q) b s
    = head (scores (extractStridedSlice S256x64 ![0, 320] v3 slices_S256x512_o0_320_S256x64) v33 q b) s
        (extractStridedSlice S256x64 ![0, 320] v7 slices_S256x512_o0_320_S256x64) := rfl

/-- Head 41's piece is the head of its slices. -/
theorem piece41_eq (v3 v7 v33 q b s) : k0_pay112 (F := Ideal) v3 v7 v33 q b s
    = head (scores (extractStridedSlice S256x64 ![0, 320] v3 slices_S256x512_o0_320_S256x64) v33 q b) s
        (extractStridedSlice S256x64 ![0, 320] v7 slices_S256x512_o0_320_S256x64) := rfl

/-- Head 40's piece is the head of its slices. -/
theorem piece40_eq (v3 v7 v33 q b s) : k0_pay111 (F := Ideal) v3 v7 v33 q b s
    = head (scores (extractStridedSlice S256x64 ![0, 320] v3 slices_S256x512_o0_320_S256x64) v33 q b) s
        (extractStridedSlice S256x64 ![0, 320] v7 slices_S256x512_o0_320_S256x64) := rfl

/-- Head 39's piece is the head of its slices. -/
theorem piece39_eq (v3 v7 v33 q b s) : k0_pay110 (F := Ideal) v7 (k0_pay106 (F := Ideal) v3 v33 q b s) (k0_pay107 (F := Ideal) v3 v33 q b s) (k0_pay108 (F := Ideal) v3 v33 q b s) (k0_pay109 (F := Ideal) s)
    = head (scores (extractStridedSlice S256x64 ![0, 256] v3 slices_S256x512_o0_256_S256x64) v33 q b) s
        (extractStridedSlice S256x64 ![0, 256] v7 slices_S256x512_o0_256_S256x64) := rfl

/-- Head 38's piece is the head of its slices. -/
theorem piece38_eq (v3 v7 v33 q b s) : k0_pay104 (F := Ideal) v7 (k0_pay103 (F := Ideal) v3 v33 q b) s
    = head (scores (extractStridedSlice S256x64 ![0, 256] v3 slices_S256x512_o0_256_S256x64) v33 q b) s
        (extractStridedSlice S256x64 ![0, 256] v7 slices_S256x512_o0_256_S256x64) := rfl

/-- Head 37's piece is the head of its slices. -/
theorem piece37_eq (v3 v7 v33 q b s) : k0_pay102 (F := Ideal) v3 v7 v33 (k0_pay101 (F := Ideal) q) b s
    = head (scores (extractStridedSlice S256x64 ![0, 256] v3 slices_S256x512_o0_256_S256x64) v33 q b) s
        (extractStridedSlice S256x64 ![0, 256] v7 slices_S256x512_o0_256_S256x64) := rfl

/-- Head 36's piece is the head of its slices. -/
theorem piece36_eq (v3 v7 v33 q b s) : k0_pay100 (F := Ideal) v3 v7 v33 q b s
    = head (scores (extractStridedSlice S256x64 ![0, 256] v3 slices_S256x512_o0_256_S256x64) v33 q b) s
        (extractStridedSlice S256x64 ![0, 256] v7 slices_S256x512_o0_256_S256x64) := rfl

/-- Head 35's piece is the head of its slices. -/
theorem piece35_eq (v3 v7 v33 q b s) : k0_pay99 (F := Ideal) (k0_pay97 (F := Ideal) v3 v7 v33 q b s) (k0_pay98 (F := Ideal) v3 v33 q b s)
    = head (scores (extractStridedSlice S256x64 ![0, 256] v3 slices_S256x512_o0_256_S256x64) v33 q b) s
        (extractStridedSlice S256x64 ![0, 256] v7 slices_S256x512_o0_256_S256x64) := rfl

/-- Head 34's piece is the head of its slices. -/
theorem piece34_eq (v3 v7 v33 q b s) : k0_pay93 (F := Ideal) v7 s (k0_pay91 (F := Ideal) v3 v33 q b s) (k0_pay92 (F := Ideal) v3 v33 q b s)
    = head (scores (extractStridedSlice S256x64 ![0, 256] v3 slices_S256x512_o0_256_S256x64) v33 q b) s
        (extractStridedSlice S256x64 ![0, 256] v7 slices_S256x512_o0_256_S256x64) := rfl

/-- Head 33's piece is the head of its slices. -/
theorem piece33_eq (v3 v7 v33 q b s) : k0_pay89 (F := Ideal) v7 v33 (k0_pay87 (F := Ideal) v3 q) (k0_pay88 (F := Ideal) b) s
    = head (scores (extractStridedSlice S256x64 ![0, 256] v3 slices_S256x512_o0_256_S256x64) v33 q b) s
        (extractStridedSlice S256x64 ![0, 256] v7 slices_S256x512_o0_256_S256x64) := rfl

/-- Head 32's piece is the head of its slices. -/
theorem piece32_eq (v3 v7 v33 q b s) : k0_pay86 (F := Ideal) v3 v7 v33 q b s
    = head (scores (extractStridedSlice S256x64 ![0, 256] v3 slices_S256x512_o0_256_S256x64) v33 q b) s
        (extractStridedSlice S256x64 ![0, 256] v7 slices_S256x512_o0_256_S256x64) := rfl

/-- Head 31's piece is the head of its slices. -/
theorem piece31_eq (v3 v7 v33 q b s) : k0_pay85 (F := Ideal) v3 v7 v33 q b s
    = head (scores (extractStridedSlice S256x64 ![0, 192] v3 slices_S256x512_o0_192_S256x64) v33 q b) s
        (extractStridedSlice S256x64 ![0, 192] v7 slices_S256x512_o0_192_S256x64) := rfl

/-- Head 30's piece is the head of its slices. -/
theorem piece30_eq (v3 v7 v33 q b s) : k0_pay84 (F := Ideal) v7 (k0_pay82 (F := Ideal) v3 v33 q b s) (k0_pay83 (F := Ideal) v3 v33 q b s)
    = head (scores (extractStridedSlice S256x64 ![0, 192] v3 slices_S256x512_o0_192_S256x64) v33 q b) s
        (extractStridedSlice S256x64 ![0, 192] v7 slices_S256x512_o0_192_S256x64) := rfl

/-- Head 29's piece is the head of its slices. -/
theorem piece29_eq (v3 v7 v33 q b s) : k0_pay79 (F := Ideal) v7 (k0_pay77 (F := Ideal) v3 v33 q b) s (k0_pay78 (F := Ideal) v3 v33 q b)
    = head (scores (extractStridedSlice S256x64 ![0, 192] v3 slices_S256x512_o0_192_S256x64) v33 q b) s
        (extractStridedSlice S256x64 ![0, 192] v7 slices_S256x512_o0_192_S256x64) := rfl

/-- Head 28's piece is the head of its slices. -/
theorem piece28_eq (v3 v7 v33 q b s) : k0_pay76 (F := Ideal) v7 v33 (k0_pay75 (F := Ideal) v3 q) b s
    = head (scores (extractStridedSlice S256x64 ![0, 192] v3 slices_S256x512_o0_192_S256x64) v33 q b) s
        (extractStridedSlice S256x64 ![0, 192] v7 slices_S256x512_o0_192_S256x64) := rfl

/-- Head 27's piece is the head of its slices. -/
theorem piece27_eq (v3 v7 v33 q b s) : k0_pay74 (F := Ideal) v3 v7 v33 q b s
    = head (scores (extractStridedSlice S256x64 ![0, 192] v3 slices_S256x512_o0_192_S256x64) v33 q b) s
        (extractStridedSlice S256x64 ![0, 192] v7 slices_S256x512_o0_192_S256x64) := rfl

/-- Head 26's piece is the head of its slices. -/
theorem piece26_eq (v3 v7 v33 q b s) : k0_pay73 (F := Ideal) v3 v7 v33 q b s
    = head (scores (extractStridedSlice S256x64 ![0, 192] v3 slices_S256x512_o0_192_S256x64) v33 q b) s
        (extractStridedSlice S256x64 ![0, 192] v7 slices_S256x512_o0_192_S256x64) := rfl

/-- Head 25's piece is the head of its slices. -/
theorem piece25_eq (v3 v7 v33 q b s) : k0_pay72 (F := Ideal) v7 s (k0_pay69 (F := Ideal) v3 v33 q b s) (k0_pay70 (F := Ideal) v3 v33 q b s) (k0_pay71 (F := Ideal) v3 v33 q b s)
    = head (scores (extractStridedSlice S256x64 ![0, 192] v3 slices_S256x512_o0_192_S256x64) v33 q b) s
        (extractStridedSlice S256x64 ![0, 192] v7 slices_S256x512_o0_192_S256x64) := rfl

/-- Head 24's piece is the head of its slices. -/
theorem piece24_eq (v3 v7 v33 q b s) : k0_pay67 (F := Ideal) v7 v33 (k0_pay65 (F := Ideal) v3 q b) k0_pay66 s
    = head (scores (extractStridedSlice S256x64 ![0, 192] v3 slices_S256x512_o0_192_S256x64) v33 q b) s
        (extractStridedSlice S256x64 ![0, 192] v7 slices_S256x512_o0_192_S256x64) := rfl

/-- Head 23's piece is the head of its slices. -/
theorem piece23_eq (v3 v7 v33 q b s) : k0_pay64 (F := Ideal) v3 v7 v33 q k0_pay63 b s
    = head (scores (extractStridedSlice S256x64 ![0, 128] v3 slices_S256x512_o0_128_S256x64) v33 q b) s
        (extractStridedSlice S256x64 ![0, 128] v7 slices_S256x512_o0_128_S256x64) := rfl

/-- Head 22's piece is the head of its slices. -/
theorem piece22_eq (v3 v7 v33 q b s) : k0_pay62 (F := Ideal) v3 v7 v33 q b s
    = head (scores (extractStridedSlice S256x64 ![0, 128] v3 slices_S256x512_o0_128_S256x64) v33 q b) s
        (extractStridedSlice S256x64 ![0, 128] v7 slices_S256x512_o0_128_S256x64) := rfl

/-- Head 21's piece is the head of its slices. -/
theorem piece21_eq (v3 v7 v33 q b s) : k0_pay61 (F := Ideal) (k0_pay58 (F := Ideal) v3 v33 q b s) (k0_pay59 (F := Ideal) v3 v33 q b s) (k0_pay60 (F := Ideal) v7) (constant S128x64 FTy.f32 0#32)
    = head (scores (extractStridedSlice S256x64 ![0, 128] v3 slices_S256x512_o0_128_S256x64) v33 q b) s
        (extractStridedSlice S256x64 ![0, 128] v7 slices_S256x512_o0_128_S256x64) := rfl

/-- Head 20's piece is the head of its slices. -/
theorem piece20_eq (v3 v7 v33 q b s) : k0_pay54 (F := Ideal) v7 (k0_pay52 (F := Ideal) v3 v33 q b) s (k0_pay53 (F := Ideal) v3 v33 q b s)
    = head (scores (extractStridedSlice S256x64 ![0, 128] v3 slices_S256x512_o0_128_S256x64) v33 q b) s
        (extractStridedSlice S256x64 ![0, 128] v7 slices_S256x512_o0_128_S256x64) := rfl

/-- Head 19's piece is the head of its slices. -/
theorem piece19_eq (v3 v7 v33 q b s) : k0_pay51 (F := Ideal) v7 v33 (k0_pay50 (F := Ideal) v3 q) b s
    = head (scores (extractStridedSlice S256x64 ![0, 128] v3 slices_S256x512_o0_128_S256x64) v33 q b) s
        (extractStridedSlice S256x64 ![0, 128] v7 slices_S256x512_o0_128_S256x64) := rfl

/-- Head 18's piece is the head of its slices. -/
theorem piece18_eq (v3 v7 v33 q b s) : k0_pay49 (F := Ideal) v3 v7 v33 q b s
    = head (scores (extractStridedSlice S256x64 ![0, 128] v3 slices_S256x512_o0_128_S256x64) v33 q b) s
        (extractStridedSlice S256x64 ![0, 128] v7 slices_S256x512_o0_128_S256x64) := rfl

/-- Head 17's piece is the head of its slices. -/
theorem piece17_eq (v3 v7 v33 q b s) : k0_pay48 (F := Ideal) v3 v7 v33 q b s
    = head (scores (extractStridedSlice S256x64 ![0, 128] v3 slices_S256x512_o0_128_S256x64) v33 q b) s
        (extractStridedSlice S256x64 ![0, 128] v7 slices_S256x512_o0_128_S256x64) := rfl

/-- Head 16's piece is the head of its slices. -/
theorem piece16_eq (v3 v7 v33 q b s) : k0_pay47 (F := Ideal) v7 (k0_pay44 (F := Ideal) v3 v33 q b s) (k0_pay45 (F := Ideal) v3 v33 q b s) (k0_pay46 (F := Ideal) v3 v33 q b s)
    = head (scores (extractStridedSlice S256x64 ![0, 128] v3 slices_S256x512_o0_128_S256x64) v33 q b) s
        (extractStridedSlice S256x64 ![0, 128] v7 slices_S256x512_o0_128_S256x64) := rfl

/-- Head 15's piece is the head of its slices. -/
theorem piece15_eq (v3 v7 v33 q b s) : k0_pay41 (F := Ideal) v7 (k0_pay40 (F := Ideal) v3 v33 q b) s
    = head (scores (extractStridedSlice S256x64 ![0, 64] v3 slices_S256x512_o0_64_S256x64) v33 q b) s
        (extractStridedSlice S256x64 ![0, 64] v7 slices_S256x512_o0_64_S256x64) := rfl

/-- Head 14's piece is the head of its slices. -/
theorem piece14_eq (v3 v7 v33 q b s) : k0_pay39 (F := Ideal) v7 v33 (k0_pay37 (F := Ideal) q) (k0_pay38 (F := Ideal) v3) b s
    = head (scores (extractStridedSlice S256x64 ![0, 64] v3 slices_S256x512_o0_64_S256x64) v33 q b) s
        (extractStridedSlice S256x64 ![0, 64] v7 slices_S256x512_o0_64_S256x64) := rfl

/-- Head 13's piece is the head of its slices. -/
theorem piece13_eq (v3 v7 v33 q b s) : k0_pay36 (F := Ideal) v3 v7 v33 q b s
    = head (scores (extractStridedSlice S256x64 ![0, 64] v3 slices_S256x512_o0_64_S256x64) v33 q b) s
        (extractStridedSlice S256x64 ![0, 64] v7 slices_S256x512_o0_64_S256x64) := rfl

/-- Head 12's piece is the head of its slices. -/
theorem piece12_eq (v3 v7 v33 q b s) : k0_pay35 (F := Ideal) (k0_pay34 (F := Ideal) v3 v7 v33 q b s)
    = head (scores (extractStridedSlice S256x64 ![0, 64] v3 slices_S256x512_o0_64_S256x64) v33 q b) s
        (extractStridedSlice S256x64 ![0, 64] v7 slices_S256x512_o0_64_S256x64) := rfl

/-- Head 11's piece is the head of its slices. -/
theorem piece11_eq (v3 v7 v33 q b s) : k0_pay33 (F := Ideal) v7 s (k0_pay31 (F := Ideal) v3 v33 q b s) (k0_pay32 (F := Ideal) v3 v33 q b s)
    = head (scores (extractStridedSlice S256x64 ![0, 64] v3 slices_S256x512_o0_64_S256x64) v33 q b) s
        (extractStridedSlice S256x64 ![0, 64] v7 slices_S256x512_o0_64_S256x64) := rfl

/-- Head 10's piece is the head of its slices. -/
theorem piece10_eq (v3 v7 v33 q b s) : k0_pay29 (F := Ideal) v7 v33 (k0_pay28 (F := Ideal) v3 q b) s
    = head (scores (extractStridedSlice S256x64 ![0, 64] v3 slices_S256x512_o0_64_S256x64) v33 q b) s
        (extractStridedSlice S256x64 ![0, 64] v7 slices_S256x512_o0_64_S256x64) := rfl

/-- Head 9's piece is the head of its slices. -/
theorem piece9_eq (v3 v7 v33 q b s) : k0_pay27 (F := Ideal) v3 v7 v33 q b s
    = head (scores (extractStridedSlice S256x64 ![0, 64] v3 slices_S256x512_o0_64_S256x64) v33 q b) s
        (extractStridedSlice S256x64 ![0, 64] v7 slices_S256x512_o0_64_S256x64) := rfl

/-- Head 8's piece is the head of its slices. -/
theorem piece8_eq (v3 v7 v33 q b s) : k0_pay26 (F := Ideal) v3 v7 v33 q b s
    = head (scores (extractStridedSlice S256x64 ![0, 64] v3 slices_S256x512_o0_64_S256x64) v33 q b) s
        (extractStridedSlice S256x64 ![0, 64] v7 slices_S256x512_o0_64_S256x64) := rfl

/-- Head 7's piece is the head of its slices. -/
theorem piece7_eq (v3 v7 v33 q b s) : k0_pay25 (F := Ideal) v7 (k0_pay23 (F := Ideal) v3 v33 q b s) (k0_pay24 (F := Ideal) v3 v33 q b s)
    = head (scores (extractStridedSlice S256x64 ![0, 0] v3 slices_S256x512_o0_0_S256x64) v33 q b) s
        (extractStridedSlice S256x64 ![0, 0] v7 slices_S256x512_o0_0_S256x64) := rfl

/-- Head 6's piece is the head of its slices. -/
theorem piece6_eq (v3 v7 v33 q b s) : k0_pay19 (F := Ideal) v7 (k0_pay17 (F := Ideal) v3 v33 q b) s (k0_pay18 (F := Ideal) v3 v33 q b)
    = head (scores (extractStridedSlice S256x64 ![0, 0] v3 slices_S256x512_o0_0_S256x64) v33 q b) s
        (extractStridedSlice S256x64 ![0, 0] v7 slices_S256x512_o0_0_S256x64) := rfl

/-- Head 5's piece is the head of its slices. -/
theorem piece5_eq (v3 v7 v33 q b s) : k0_pay16 (F := Ideal) v7 v33 (k0_pay15 (F := Ideal) v3 q) b s
    = head (scores (extractStridedSlice S256x64 ![0, 0] v3 slices_S256x512_o0_0_S256x64) v33 q b) s
        (extractStridedSlice S256x64 ![0, 0] v7 slices_S256x512_o0_0_S256x64) := rfl

/-- Head 4's piece is the head of its slices. -/
theorem piece4_eq (v3 v7 v33 q b s) : k0_pay14 (F := Ideal) v3 v7 v33 q b s
    = head (scores (extractStridedSlice S256x64 ![0, 0] v3 slices_S256x512_o0_0_S256x64) v33 q b) s
        (extractStridedSlice S256x64 ![0, 0] v7 slices_S256x512_o0_0_S256x64) := rfl

/-- Head 3's piece is the head of its slices. -/
theorem piece3_eq (v3 v7 v33 q b s) : k0_pay13 (F := Ideal) v3 v7 v33 q b s
    = head (scores (extractStridedSlice S256x64 ![0, 0] v3 slices_S256x512_o0_0_S256x64) v33 q b) s
        (extractStridedSlice S256x64 ![0, 0] v7 slices_S256x512_o0_0_S256x64) := rfl

/-- Head 2's piece is the head of its slices. -/
theorem piece2_eq (v3 v7 v33 q b s) : k0_pay12 (F := Ideal) v7 s (k0_pay9 (F := Ideal) v3 v33 q b s) (k0_pay10 (F := Ideal) v3 v33 q b s) (k0_pay11 (F := Ideal) v3 v33 q b s)
    = head (scores (extractStridedSlice S256x64 ![0, 0] v3 slices_S256x512_o0_0_S256x64) v33 q b) s
        (extractStridedSlice S256x64 ![0, 0] v7 slices_S256x512_o0_0_S256x64) := rfl

/-- Head 1's piece is the head of its slices. -/
theorem piece1_eq (v3 v7 v33 q b s) : k0_pay7 (F := Ideal) v7 (k0_pay6 (F := Ideal) v3 v33 q b) s
    = head (scores (extractStridedSlice S256x64 ![0, 0] v3 slices_S256x512_o0_0_S256x64) v33 q b) s
        (extractStridedSlice S256x64 ![0, 0] v7 slices_S256x512_o0_0_S256x64) := rfl

/-- Head 0's piece is the head of its slices. -/
theorem piece0_eq (v3 v7 v33 q b s) : k0_pay5 (F := Ideal) v3 v7 v33 (k0_pay4 (F := Ideal) q) b s
    = head (scores (extractStridedSlice S256x64 ![0, 0] v3 slices_S256x512_o0_0_S256x64) v33 q b) s
        (extractStridedSlice S256x64 ![0, 0] v7 slices_S256x512_o0_0_S256x64) := rfl

end Cert.KernelIdeal.RefValue
-- ==== Proof.Point.lean ====
module
public import proofs.«01_k».proof.Proof.Gen.KernelIdeal.Value
public import proofs.«01_k».proof.Proof.RefAttn
public import proofs.«01_k».proof.Proof.Soft
public import proofs.«01_k».proof.Proof.Bucket
public import proofs.«01_k».proof.Proof.BiasTable
public import proofs.«01_k».proof.Proof.Head1
public import proofs.«01_k».proof.Proof.Tile
public import proofs.«01_k».proof.Proof.Pieces
public import Idealize.ShloMosaic.Lib.Pipeline.ValueKit
public import Idealize.ShloMosaic.Lib.Pointwise
@[expose] public section

/-! A point of the attention's grid as a whole. -/

set_option maxRecDepth 16384
noncomputable section
open Idealize.ShloMosaic Idealize.ShloMosaic.TcCoe Idealize.SL.Sem
open Idealize.ShloMosaic.Pipeline (Dat)
namespace Cert.KernelIdeal.RefValue
open Cert.KernelIdeal Cert.KernelIdeal.Gen
variable (m : (ℓ : Loc nD τ sig) → Buf (Elt Ideal) ℓ)

set_option maxHeartbeats 0 in
/-- A point of the grid stores the reference's attention at the rows of its block. -/
theorem point (c : Dev nD) (t : Fin cfg0.N) (n : Fin 64) (en : n.val = t.val)
    (pA : ∀ (i : Fin 8320) (j : Fin 5120), i.val < 8192 → j.val < 4608 → Soft.Proper (m ((c.tc : Thread nD τ).loc main_arg0) (ix2 i j)))
    (pS : ∀ i : Fin 64, Soft.Proper (m ((c.tc : Thread nD τ).loc main_arg1) (ix1 i)))
    (pR : ∀ (i : Fin 32) (j : Fin 64), Soft.Proper (m ((c.tc : Thread nD τ).loc main_arg2) (ix2 i j)))
    (y : S128x4096.Idx) :
    (dats m 0 c).after 7 t y = Cert.ReferenceIdeal.Parts.attention (m ((c.tc : Thread nD τ).loc main_arg0)) (m ((c.tc : Thread nD τ).loc main_arg1))
          (m ((c.tc : Thread nD τ).loc main_arg2))
          (ix2 ⟨n.val * 128 + (y 0).val, by have : (y 0).val < 128 := (y 0).isLt; omega⟩ ⟨(y 1).val, by have : (y 1).val < 4096 := (y 1).isLt; exact this⟩) := by
  rw [after0_7]
  unfold outsAt0
  frame_out
  canon_tiles x h
  case piece0 =>
    refine (congrFun (piece63_eq _ _ _ _ _ _) x).trans (tile m c t n en pA pS pR ⟨63, by decide⟩ 448 4032 rfl rfl slices_S256x512_o0_448_S256x64 x y h0 h1 _ _ _ ?_ ?_ ?_)
    · intro r d; pointwise
    · intro r d; pointwise
    · pointwise
  case piece1 =>
    refine (congrFun (piece62_eq _ _ _ _ _ _) x).trans (tile m c t n en pA pS pR ⟨62, by decide⟩ 448 3968 rfl rfl slices_S256x512_o0_448_S256x64 x y h0 h1 _ _ _ ?_ ?_ ?_)
    · intro r d; pointwise
    · intro r d; pointwise
    · pointwise
  case piece2 =>
    refine (congrFun (piece61_eq _ _ _ _ _ _) x).trans (tile m c t n en pA pS pR ⟨61, by decide⟩ 448 3904 rfl rfl slices_S256x512_o0_448_S256x64 x y h0 h1 _ _ _ ?_ ?_ ?_)
    · intro r d; pointwise
    · intro r d; pointwise
    · pointwise
  case piece3 =>
    refine (congrFun (piece60_eq _ _ _ _ _ _) x).trans (tile m c t n en pA pS pR ⟨60, by decide⟩ 448 3840 rfl rfl slices_S256x512_o0_448_S256x64 x y h0 h1 _ _ _ ?_ ?_ ?_)
    · intro r d; pointwise
    · intro r d; pointwise
    · pointwise
  case piece4 =>
    refine (congrFun (piece59_eq _ _ _ _ _ _) x).trans (tile m c t n en pA pS pR ⟨59, by decide⟩ 448 3776 rfl rfl slices_S256x512_o0_448_S256x64 x y h0 h1 _ _ _ ?_ ?_ ?_)
    · intro r d; pointwise
    · intro r d; pointwise
    · pointwise
  case piece5 =>
    refine (congrFun (piece58_eq _ _ _ _ _ _) x).trans (tile m c t n en pA pS pR ⟨58, by decide⟩ 448 3712 rfl rfl slices_S256x512_o0_448_S256x64 x y h0 h1 _ _ _ ?_ ?_ ?_)
    · intro r d; pointwise
    · intro r d; pointwise
    · pointwise
  case piece6 =>
    refine (congrFun (piece57_eq _ _ _ _ _ _) x).trans (tile m c t n en pA pS pR ⟨57, by decide⟩ 448 3648 rfl rfl slices_S256x512_o0_448_S256x64 x y h0 h1 _ _ _ ?_ ?_ ?_)
    · intro r d; pointwise
    · intro r d; pointwise
    · pointwise
  case piece7 =>
    refine (congrFun (piece56_eq _ _ _ _ _ _) x).trans (tile m c t n en pA pS pR ⟨56, by decide⟩ 448 3584 rfl rfl slices_S256x512_o0_448_S256x64 x y h0 h1 _ _ _ ?_ ?_ ?_)
    · intro r d; pointwise
    · intro r d; pointwise
    · pointwise
  case piece8 =>
    refine (congrFun (piece55_eq _ _ _ _ _ _) x).trans (tile m c t n en pA pS pR ⟨55, by decide⟩ 384 3520 rfl rfl slices_S256x512_o0_384_S256x64 x y h0 h1 _ _ _ ?_ ?_ ?_)
    · intro r d; pointwise
    · intro r d; pointwise
    · pointwise
  case piece9 =>
    refine (congrFun (piece54_eq _ _ _ _ _ _) x).trans (tile m c t n en pA pS pR ⟨54, by decide⟩ 384 3456 rfl rfl slices_S256x512_o0_384_S256x64 x y h0 h1 _ _ _ ?_ ?_ ?_)
    · intro r d; pointwise
    · intro r d; pointwise
    · pointwise
  case piece10 =>
    refine (congrFun (piece53_eq _ _ _ _ _ _) x).trans (tile m c t n en pA pS pR ⟨53, by decide⟩ 384 3392 rfl rfl slices_S256x512_o0_384_S256x64 x y h0 h1 _ _ _ ?_ ?_ ?_)
    · intro r d; pointwise
    · intro r d; pointwise
    · pointwise
  case piece11 =>
    refine (congrFun (piece52_eq _ _ _ _ _ _) x).trans (tile m c t n en pA pS pR ⟨52, by decide⟩ 384 3328 rfl rfl slices_S256x512_o0_384_S256x64 x y h0 h1 _ _ _ ?_ ?_ ?_)
    · intro r d; pointwise
    · intro r d; pointwise
    · pointwise
  case piece12 =>
    refine (congrFun (piece51_eq _ _ _ _ _ _) x).trans (tile m c t n en pA pS pR ⟨51, by decide⟩ 384 3264 rfl rfl slices_S256x512_o0_384_S256x64 x y h0 h1 _ _ _ ?_ ?_ ?_)
    · intro r d; pointwise
    · intro r d; pointwise
    · pointwise
  case piece13 =>
    refine (congrFun (piece50_eq _ _ _ _ _ _) x).trans (tile m c t n en pA pS pR ⟨50, by decide⟩ 384 3200 rfl rfl slices_S256x512_o0_384_S256x64 x y h0 h1 _ _ _ ?_ ?_ ?_)
    · intro r d; pointwise
    · intro r d; pointwise
    · pointwise
  case piece14 =>
    refine (congrFun (piece49_eq _ _ _ _ _ _) x).trans (tile m c t n en pA pS pR ⟨49, by decide⟩ 384 3136 rfl rfl slices_S256x512_o0_384_S256x64 x y h0 h1 _ _ _ ?_ ?_ ?_)
    · intro r d; pointwise
    · intro r d; pointwise
    · pointwise
  case piece15 =>
    refine (congrFun (piece48_eq _ _ _ _ _ _) x).trans (tile m c t n en pA pS pR ⟨48, by decide⟩ 384 3072 rfl rfl slices_S256x512_o0_384_S256x64 x y h0 h1 _ _ _ ?_ ?_ ?_)
    · intro r d; pointwise
    · intro r d; pointwise
    · pointwise
  case piece16 =>
    refine (congrFun (piece47_eq _ _ _ _ _ _) x).trans (tile m c t n en pA pS pR ⟨47, by decide⟩ 320 3008 rfl rfl slices_S256x512_o0_320_S256x64 x y h0 h1 _ _ _ ?_ ?_ ?_)
    · intro r d; pointwise
    · intro r d; pointwise
    · pointwise
  case piece17 =>
    refine (congrFun (piece46_eq _ _ _ _ _ _) x).trans (tile m c t n en pA pS pR ⟨46, by decide⟩ 320 2944 rfl rfl slices_S256x512_o0_320_S256x64 x y h0 h1 _ _ _ ?_ ?_ ?_)
    · intro r d; pointwise
    · intro r d; pointwise
    · pointwise
  case piece18 =>
    refine (congrFun (piece45_eq _ _ _ _ _ _) x).trans (tile m c t n en pA pS pR ⟨45, by decide⟩ 320 2880 rfl rfl slices_S256x512_o0_320_S256x64 x y h0 h1 _ _ _ ?_ ?_ ?_)
    · intro r d; pointwise
    · intro r d; pointwise
    · pointwise
  case piece19 =>
    refine (congrFun (piece44_eq _ _ _ _ _ _) x).trans (tile m c t n en pA pS pR ⟨44, by decide⟩ 320 2816 rfl rfl slices_S256x512_o0_320_S256x64 x y h0 h1 _ _ _ ?_ ?_ ?_)
    · intro r d; pointwise
    · intro r d; pointwise
    · pointwise
  case piece20 =>
    refine (congrFun (piece43_eq _ _ _ _ _ _) x).trans (tile m c t n en pA pS pR ⟨43, by decide⟩ 320 2752 rfl rfl slices_S256x512_o0_320_S256x64 x y h0 h1 _ _ _ ?_ ?_ ?_)
    · intro r d; pointwise
    · intro r d; pointwise
    · pointwise
  case piece21 =>
    refine (congrFun (piece42_eq _ _ _ _ _ _) x).trans (tile m c t n en pA pS pR ⟨42, by decide⟩ 320 2688 rfl rfl slices_S256x512_o0_320_S256x64 x y h0 h1 _ _ _ ?_ ?_ ?_)
    · intro r d; pointwise
    · intro r d; pointwise
    · pointwise
  case piece22 =>
    refine (congrFun (piece41_eq _ _ _ _ _ _) x).trans (tile m c t n en pA pS pR ⟨41, by decide⟩ 320 2624 rfl rfl slices_S256x512_o0_320_S256x64 x y h0 h1 _ _ _ ?_ ?_ ?_)
    · intro r d; pointwise
    · intro r d; pointwise
    · pointwise
  case piece23 =>
    refine (congrFun (piece40_eq _ _ _ _ _ _) x).trans (tile m c t n en pA pS pR ⟨40, by decide⟩ 320 2560 rfl rfl slices_S256x512_o0_320_S256x64 x y h0 h1 _ _ _ ?_ ?_ ?_)
    · intro r d; pointwise
    · intro r d; pointwise
    · pointwise
  case piece24 =>
    refine (congrFun (piece39_eq _ _ _ _ _ _) x).trans (tile m c t n en pA pS pR ⟨39, by decide⟩ 256 2496 rfl rfl slices_S256x512_o0_256_S256x64 x y h0 h1 _ _ _ ?_ ?_ ?_)
    · intro r d; pointwise
    · intro r d; pointwise
    · pointwise
  case piece25 =>
    refine (congrFun (piece38_eq _ _ _ _ _ _) x).trans (tile m c t n en pA pS pR ⟨38, by decide⟩ 256 2432 rfl rfl slices_S256x512_o0_256_S256x64 x y h0 h1 _ _ _ ?_ ?_ ?_)
    · intro r d; pointwise
    · intro r d; pointwise
    · pointwise
  case piece26 =>
    refine (congrFun (piece37_eq _ _ _ _ _ _) x).trans (tile m c t n en pA pS pR ⟨37, by decide⟩ 256 2368 rfl rfl slices_S256x512_o0_256_S256x64 x y h0 h1 _ _ _ ?_ ?_ ?_)
    · intro r d; pointwise
    · intro r d; pointwise
    · pointwise
  case piece27 =>
    refine (congrFun (piece36_eq _ _ _ _ _ _) x).trans (tile m c t n en pA pS pR ⟨36, by decide⟩ 256 2304 rfl rfl slices_S256x512_o0_256_S256x64 x y h0 h1 _ _ _ ?_ ?_ ?_)
    · intro r d; pointwise
    · intro r d; pointwise
    · pointwise
  case piece28 =>
    refine (congrFun (piece35_eq _ _ _ _ _ _) x).trans (tile m c t n en pA pS pR ⟨35, by decide⟩ 256 2240 rfl rfl slices_S256x512_o0_256_S256x64 x y h0 h1 _ _ _ ?_ ?_ ?_)
    · intro r d; pointwise
    · intro r d; pointwise
    · pointwise
  case piece29 =>
    refine (congrFun (piece34_eq _ _ _ _ _ _) x).trans (tile m c t n en pA pS pR ⟨34, by decide⟩ 256 2176 rfl rfl slices_S256x512_o0_256_S256x64 x y h0 h1 _ _ _ ?_ ?_ ?_)
    · intro r d; pointwise
    · intro r d; pointwise
    · pointwise
  case piece30 =>
    refine (congrFun (piece33_eq _ _ _ _ _ _) x).trans (tile m c t n en pA pS pR ⟨33, by decide⟩ 256 2112 rfl rfl slices_S256x512_o0_256_S256x64 x y h0 h1 _ _ _ ?_ ?_ ?_)
    · intro r d; pointwise
    · intro r d; pointwise
    · pointwise
  case piece31 =>
    refine (congrFun (piece32_eq _ _ _ _ _ _) x).trans (tile m c t n en pA pS pR ⟨32, by decide⟩ 256 2048 rfl rfl slices_S256x512_o0_256_S256x64 x y h0 h1 _ _ _ ?_ ?_ ?_)
    · intro r d; pointwise
    · intro r d; pointwise
    · pointwise
  case piece32 =>
    refine (congrFun (piece31_eq _ _ _ _ _ _) x).trans (tile m c t n en pA pS pR ⟨31, by decide⟩ 192 1984 rfl rfl slices_S256x512_o0_192_S256x64 x y h0 h1 _ _ _ ?_ ?_ ?_)
    · intro r d; pointwise
    · intro r d; pointwise
    · pointwise
  case piece33 =>
    refine (congrFun (piece30_eq _ _ _ _ _ _) x).trans (tile m c t n en pA pS pR ⟨30, by decide⟩ 192 1920 rfl rfl slices_S256x512_o0_192_S256x64 x y h0 h1 _ _ _ ?_ ?_ ?_)
    · intro r d; pointwise
    · intro r d; pointwise
    · pointwise
  case piece34 =>
    refine (congrFun (piece29_eq _ _ _ _ _ _) x).trans (tile m c t n en pA pS pR ⟨29, by decide⟩ 192 1856 rfl rfl slices_S256x512_o0_192_S256x64 x y h0 h1 _ _ _ ?_ ?_ ?_)
    · intro r d; pointwise
    · intro r d; pointwise
    · pointwise
  case piece35 =>
    refine (congrFun (piece28_eq _ _ _ _ _ _) x).trans (tile m c t n en pA pS pR ⟨28, by decide⟩ 192 1792 rfl rfl slices_S256x512_o0_192_S256x64 x y h0 h1 _ _ _ ?_ ?_ ?_)
    · intro r d; pointwise
    · intro r d; pointwise
    · pointwise
  case piece36 =>
    refine (congrFun (piece27_eq _ _ _ _ _ _) x).trans (tile m c t n en pA pS pR ⟨27, by decide⟩ 192 1728 rfl rfl slices_S256x512_o0_192_S256x64 x y h0 h1 _ _ _ ?_ ?_ ?_)
    · intro r d; pointwise
    · intro r d; pointwise
    · pointwise
  case piece37 =>
    refine (congrFun (piece26_eq _ _ _ _ _ _) x).trans (tile m c t n en pA pS pR ⟨26, by decide⟩ 192 1664 rfl rfl slices_S256x512_o0_192_S256x64 x y h0 h1 _ _ _ ?_ ?_ ?_)
    · intro r d; pointwise
    · intro r d; pointwise
    · pointwise
  case piece38 =>
    refine (congrFun (piece25_eq _ _ _ _ _ _) x).trans (tile m c t n en pA pS pR ⟨25, by decide⟩ 192 1600 rfl rfl slices_S256x512_o0_192_S256x64 x y h0 h1 _ _ _ ?_ ?_ ?_)
    · intro r d; pointwise
    · intro r d; pointwise
    · pointwise
  case piece39 =>
    refine (congrFun (piece24_eq _ _ _ _ _ _) x).trans (tile m c t n en pA pS pR ⟨24, by decide⟩ 192 1536 rfl rfl slices_S256x512_o0_192_S256x64 x y h0 h1 _ _ _ ?_ ?_ ?_)
    · intro r d; pointwise
    · intro r d; pointwise
    · pointwise
  case piece40 =>
    refine (congrFun (piece23_eq _ _ _ _ _ _) x).trans (tile m c t n en pA pS pR ⟨23, by decide⟩ 128 1472 rfl rfl slices_S256x512_o0_128_S256x64 x y h0 h1 _ _ _ ?_ ?_ ?_)
    · intro r d; pointwise
    · intro r d; pointwise
    · pointwise
  case piece41 =>
    refine (congrFun (piece22_eq _ _ _ _ _ _) x).trans (tile m c t n en pA pS pR ⟨22, by decide⟩ 128 1408 rfl rfl slices_S256x512_o0_128_S256x64 x y h0 h1 _ _ _ ?_ ?_ ?_)
    · intro r d; pointwise
    · intro r d; pointwise
    · pointwise
  case piece42 =>
    refine (congrFun (piece21_eq _ _ _ _ _ _) x).trans (tile m c t n en pA pS pR ⟨21, by decide⟩ 128 1344 rfl rfl slices_S256x512_o0_128_S256x64 x y h0 h1 _ _ _ ?_ ?_ ?_)
    · intro r d; pointwise
    · intro r d; pointwise
    · pointwise
  case piece43 =>
    refine (congrFun (piece20_eq _ _ _ _ _ _) x).trans (tile m c t n en pA pS pR ⟨20, by decide⟩ 128 1280 rfl rfl slices_S256x512_o0_128_S256x64 x y h0 h1 _ _ _ ?_ ?_ ?_)
    · intro r d; pointwise
    · intro r d; pointwise
    · pointwise
  case piece44 =>
    refine (congrFun (piece19_eq _ _ _ _ _ _) x).trans (tile m c t n en pA pS pR ⟨19, by decide⟩ 128 1216 rfl rfl slices_S256x512_o0_128_S256x64 x y h0 h1 _ _ _ ?_ ?_ ?_)
    · intro r d; pointwise
    · intro r d; pointwise
    · pointwise
  case piece45 =>
    refine (congrFun (piece18_eq _ _ _ _ _ _) x).trans (tile m c t n en pA pS pR ⟨18, by decide⟩ 128 1152 rfl rfl slices_S256x512_o0_128_S256x64 x y h0 h1 _ _ _ ?_ ?_ ?_)
    · intro r d; pointwise
    · intro r d; pointwise
    · pointwise
  case piece46 =>
    refine (congrFun (piece17_eq _ _ _ _ _ _) x).trans (tile m c t n en pA pS pR ⟨17, by decide⟩ 128 1088 rfl rfl slices_S256x512_o0_128_S256x64 x y h0 h1 _ _ _ ?_ ?_ ?_)
    · intro r d; pointwise
    · intro r d; pointwise
    · pointwise
  case piece47 =>
    refine (congrFun (piece16_eq _ _ _ _ _ _) x).trans (tile m c t n en pA pS pR ⟨16, by decide⟩ 128 1024 rfl rfl slices_S256x512_o0_128_S256x64 x y h0 h1 _ _ _ ?_ ?_ ?_)
    · intro r d; pointwise
    · intro r d; pointwise
    · pointwise
  case piece48 =>
    refine (congrFun (piece15_eq _ _ _ _ _ _) x).trans (tile m c t n en pA pS pR ⟨15, by decide⟩ 64 960 rfl rfl slices_S256x512_o0_64_S256x64 x y h0 h1 _ _ _ ?_ ?_ ?_)
    · intro r d; pointwise
    · intro r d; pointwise
    · pointwise
  case piece49 =>
    refine (congrFun (piece14_eq _ _ _ _ _ _) x).trans (tile m c t n en pA pS pR ⟨14, by decide⟩ 64 896 rfl rfl slices_S256x512_o0_64_S256x64 x y h0 h1 _ _ _ ?_ ?_ ?_)
    · intro r d; pointwise
    · intro r d; pointwise
    · pointwise
  case piece50 =>
    refine (congrFun (piece13_eq _ _ _ _ _ _) x).trans (tile m c t n en pA pS pR ⟨13, by decide⟩ 64 832 rfl rfl slices_S256x512_o0_64_S256x64 x y h0 h1 _ _ _ ?_ ?_ ?_)
    · intro r d; pointwise
    · intro r d; pointwise
    · pointwise
  case piece51 =>
    refine (congrFun (piece12_eq _ _ _ _ _ _) x).trans (tile m c t n en pA pS pR ⟨12, by decide⟩ 64 768 rfl rfl slices_S256x512_o0_64_S256x64 x y h0 h1 _ _ _ ?_ ?_ ?_)
    · intro r d; pointwise
    · intro r d; pointwise
    · pointwise
  case piece52 =>
    refine (congrFun (piece11_eq _ _ _ _ _ _) x).trans (tile m c t n en pA pS pR ⟨11, by decide⟩ 64 704 rfl rfl slices_S256x512_o0_64_S256x64 x y h0 h1 _ _ _ ?_ ?_ ?_)
    · intro r d; pointwise
    · intro r d; pointwise
    · pointwise
  case piece53 =>
    refine (congrFun (piece10_eq _ _ _ _ _ _) x).trans (tile m c t n en pA pS pR ⟨10, by decide⟩ 64 640 rfl rfl slices_S256x512_o0_64_S256x64 x y h0 h1 _ _ _ ?_ ?_ ?_)
    · intro r d; pointwise
    · intro r d; pointwise
    · pointwise
  case piece54 =>
    refine (congrFun (piece9_eq _ _ _ _ _ _) x).trans (tile m c t n en pA pS pR ⟨9, by decide⟩ 64 576 rfl rfl slices_S256x512_o0_64_S256x64 x y h0 h1 _ _ _ ?_ ?_ ?_)
    · intro r d; pointwise
    · intro r d; pointwise
    · pointwise
  case piece55 =>
    refine (congrFun (piece8_eq _ _ _ _ _ _) x).trans (tile m c t n en pA pS pR ⟨8, by decide⟩ 64 512 rfl rfl slices_S256x512_o0_64_S256x64 x y h0 h1 _ _ _ ?_ ?_ ?_)
    · intro r d; pointwise
    · intro r d; pointwise
    · pointwise
  case piece56 =>
    refine (congrFun (piece7_eq _ _ _ _ _ _) x).trans (tile m c t n en pA pS pR ⟨7, by decide⟩ 0 448 rfl rfl slices_S256x512_o0_0_S256x64 x y h0 h1 _ _ _ ?_ ?_ ?_)
    · intro r d; pointwise
    · intro r d; pointwise
    · pointwise
  case piece57 =>
    refine (congrFun (piece6_eq _ _ _ _ _ _) x).trans (tile m c t n en pA pS pR ⟨6, by decide⟩ 0 384 rfl rfl slices_S256x512_o0_0_S256x64 x y h0 h1 _ _ _ ?_ ?_ ?_)
    · intro r d; pointwise
    · intro r d; pointwise
    · pointwise
  case piece58 =>
    refine (congrFun (piece5_eq _ _ _ _ _ _) x).trans (tile m c t n en pA pS pR ⟨5, by decide⟩ 0 320 rfl rfl slices_S256x512_o0_0_S256x64 x y h0 h1 _ _ _ ?_ ?_ ?_)
    · intro r d; pointwise
    · intro r d; pointwise
    · pointwise
  case piece59 =>
    refine (congrFun (piece4_eq _ _ _ _ _ _) x).trans (tile m c t n en pA pS pR ⟨4, by decide⟩ 0 256 rfl rfl slices_S256x512_o0_0_S256x64 x y h0 h1 _ _ _ ?_ ?_ ?_)
    · intro r d; pointwise
    · intro r d; pointwise
    · pointwise
  case piece60 =>
    refine (congrFun (piece3_eq _ _ _ _ _ _) x).trans (tile m c t n en pA pS pR ⟨3, by decide⟩ 0 192 rfl rfl slices_S256x512_o0_0_S256x64 x y h0 h1 _ _ _ ?_ ?_ ?_)
    · intro r d; pointwise
    · intro r d; pointwise
    · pointwise
  case piece61 =>
    refine (congrFun (piece2_eq _ _ _ _ _ _) x).trans (tile m c t n en pA pS pR ⟨2, by decide⟩ 0 128 rfl rfl slices_S256x512_o0_0_S256x64 x y h0 h1 _ _ _ ?_ ?_ ?_)
    · intro r d; pointwise
    · intro r d; pointwise
    · pointwise
  case piece62 =>
    refine (congrFun (piece1_eq _ _ _ _ _ _) x).trans (tile m c t n en pA pS pR ⟨1, by decide⟩ 0 64 rfl rfl slices_S256x512_o0_0_S256x64 x y h0 h1 _ _ _ ?_ ?_ ?_)
    · intro r d; pointwise
    · intro r d; pointwise
    · pointwise
  case piece63 =>
    refine (congrFun (piece0_eq _ _ _ _ _ _) x).trans (tile m c t n en pA pS pR ⟨0, by decide⟩ 0 0 rfl rfl slices_S256x512_o0_0_S256x64 x y h0 (h1.trans (Nat.zero_add _).symm) _ _ _ ?_ ?_ ?_)
    · intro r d; pointwise
    · intro r d; pointwise
    · pointwise

end Cert.KernelIdeal.RefValue
-- ==== Proof.Prec.lean ====
module
public import proofs.«01_k».proof.Defs
public import proofs.«01_k».proof.Proof.Soft
public import Idealize.ShloMosaic.Lib.Pointwise
@[expose] public section

/-! The preconditions of the attention programs, read: every entry they name is a real number. -/

set_option maxRecDepth 16384
noncomputable section
open Idealize.ShloMosaic

/-- The shapes of the prompt's precondition. -/
instance Cert.Pre_finite_prompt.shapes : Cert.Pre_finite_prompt.Facts where
  slices_S8320x5120_S8192x4608_0_0 := by decide
  bcast_S_S8192x4608 := by decide
  bcast_S_S64 := by decide
  bcast_S_S32x64 := by decide

namespace Cert.Prec
open Cert.Pre_finite_prompt

/-- An entry between the infinities is a real number. -/
theorem proper_of (x : EReal)
    (h : IntOp.andi (BitVec.ofBool (decide (Ideal.ofBits .f32 0xFF800000#32 < x)))
      (BitVec.ofBool (decide (x < Ideal.ofBits .f32 0x7F800000#32))) = 1#1) : Soft.Proper x := by
  have b : Ideal.ofBits .f32 0xFF800000#32 = ⊥ := by simp [Ideal.ofBits, Ideal.ieee]
  have t : Ideal.ofBits .f32 0x7F800000#32 = ⊤ := by simp [Ideal.ofBits, Ideal.ieee]
  rw [b, t] at h
  have k : ∀ p q : Bool, IntOp.andi (BitVec.ofBool p) (BitVec.ofBool q) = 1#1 → p = true ∧ q = true := by decide
  obtain ⟨p, q⟩ := k _ _ h
  exact ⟨(of_decide_eq_true q).ne, (of_decide_eq_true p).ne'⟩

/-- The queries and keys of the prompt are real numbers. -/
theorem rows_real (A : FVec Ideal S8320x5120 .f32) (Sk : FVec Ideal S64 .f32) (R : FVec Ideal S32x64 .f32)
    (h : (fn (F := Ideal) A Sk R).1 = fun _ => 1#1) (i : Fin 8320) (j : Fin 5120) (hi : i.val < 8192) (hj : j.val < 4608) :
    Soft.Proper (A (ix2 i j)) := by
  refine proper_of _ (Eq.trans ?_ (congrFun h (ix2 (⟨i.val, hi⟩ : Fin 8192) (⟨j.val, hj⟩ : Fin 4608))))
  symm
  show andi _ _ _ = _
  pointwise

/-- The sinks are real numbers. -/
theorem sinks_real (A : FVec Ideal S8320x5120 .f32) (Sk : FVec Ideal S64 .f32) (R : FVec Ideal S32x64 .f32)
    (h : (fn (F := Ideal) A Sk R).2.1 = fun _ => 1#1) (i : Fin 64) : Soft.Proper (Sk (ix1 i)) := by
  refine proper_of _ (Eq.trans ?_ (congrFun h (ix1 i)))
  symm
  show andi _ _ _ = _
  pointwise

/-- The biases are real numbers. -/
theorem table_real (A : FVec Ideal S8320x5120 .f32) (Sk : FVec Ideal S64 .f32) (R : FVec Ideal S32x64 .f32)
    (h : (fn (F := Ideal) A Sk R).2.2 = fun _ => 1#1) (i : Fin 32) (j : Fin 64) : Soft.Proper (R (ix2 i j)) := by
  refine proper_of _ (Eq.trans ?_ (congrFun h (ix2 i j)))
  symm
  show andi _ _ _ = _
  pointwise

end Cert.Prec
end
-- ==== Proof.Attn.lean ====
module
public import proofs.«01_k».proof.Proof.Gen.KernelIdeal.Value
public import proofs.«01_k».proof.Proof.RefAttn
public import proofs.«01_k».proof.Proof.Soft
public import proofs.«01_k».proof.Proof.Bucket
public import proofs.«01_k».proof.Proof.BiasTable
public import proofs.«01_k».proof.Proof.Head1
public import proofs.«01_k».proof.Proof.Tile
public import proofs.«01_k».proof.Proof.Point
public import proofs.«01_k».proof.Proof.Prec
public import Idealize.ShloMosaic.Lib.Pipeline.ValueKit
public import Idealize.ShloMosaic.Lib.Pointwise
@[expose] public section

/-! The value of the prompt's attention. -/

set_option maxRecDepth 16384
noncomputable section
open Idealize.ShloMosaic Idealize.ShloMosaic.TcCoe Idealize.SL.Sem
open Idealize.ShloMosaic.Pipeline (Dat)
namespace Cert.KernelIdeal.RefValue
open Cert.KernelIdeal Cert.KernelIdeal.Gen
variable (m : (ℓ : Loc nD τ sig) → Buf (Elt Ideal) ℓ)

/-- At the end of the grid the result is the reference's attention. -/
theorem final (c : Dev nD)
    (pA : ∀ (i : Fin 8320) (j : Fin 5120), i.val < 8192 → j.val < 4608 → Soft.Proper (m ((c.tc : Thread nD τ).loc main_arg0) (ix2 i j)))
    (pS : ∀ i : Fin 64, Soft.Proper (m ((c.tc : Thread nD τ).loc main_arg1) (ix1 i)))
    (pR : ∀ (i : Fin 32) (j : Fin 64), Soft.Proper (m ((c.tc : Thread nD τ).loc main_arg2) (ix2 i j))) :
    (dats m 0 c).arrAt 7 (cfgs 0).N
      = Cert.ReferenceIdeal.Parts.attention (m ((c.tc : Thread nD τ).loc main_arg0)) (m ((c.tc : Thread nD τ).loc main_arg1))
          (m ((c.tc : Thread nD τ).loc main_arg2)) := by
  refine (dats m 0 c).arrAt_eq_of_covers 7 _ (by decide +kernel) fun t hf y => ?_
  blk_simp
  refine (point m c t ⟨t.val, t_lt t⟩ rfl pA pS pR y).trans ?_
  blk_ext [blocks_at t]

/-- From finite queries, keys, sinks and biases the reference ends with the kernel's result. -/
theorem result (m' : (ℓ : Loc Cert.ReferenceIdeal.nD Cert.ReferenceIdeal.τ Cert.ReferenceIdeal.sig) → Buf (Elt Ideal) ℓ)
    (hpre : Cert.Pre_KernelIdeal_finite_prompt m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (c : Dev nD) :
    Cert.ReferenceIdeal.Value.res_out0 m' c = (dats m 0 c).arrAt 7 (cfgs 0).N := by
  obtain ⟨a0, a1, a2⟩ := hagree c
  obtain ⟨p0, p1, p2⟩ := hpre c
  rw [final m c (Prec.rows_real _ _ _ p0) (Prec.sinks_real _ _ _ p1) (Prec.table_real _ _ _ p2),
    Cert.ReferenceIdeal.Parts.res_eq]
  rw [← a0, ← a1, ← a2]

end Cert.KernelIdeal.RefValue
-- ==== Proof.RefSample.lean ====
module
public import proofs.«01_k».proof.Proof.Gen.Reference6Ideal.Run
public import proofs.«01_k».proof.Proof.Bucket
public import Idealize.ShloMosaic.Lib.Pointwise
@[expose] public section

/-! The reference's attention of the sample group, and its entries. -/

set_option maxRecDepth 16384

noncomputable section
open Idealize.ShloMosaic Idealize.ShloMosaic.TcCoe Idealize.SL.Sem

namespace Cert.Reference6Ideal.Parts
open Cert.Reference6Ideal Cert.Reference6Ideal.Gen

/-- The distance from a kept or new key to a new query. -/
def dist : IVec S4x132 32 :=
  subi (broadcastInDim S4x132 ![0, 1] bcast_S4x1_S4x132_0_1
      (addi (broadcastInDim S4x1 ![0] bcast_S4_S4x1_0 (iotaInDim S4 32 0))
        (broadcastInDim S4x1 ![] bcast_S_S4x1 (constantI S_ 32 128#32))))
    (broadcastInDim S4x132 ![0, 1] bcast_S1x132_S4x132_0_1
      (broadcastInDim S1x132 ![1] bcast_S132_S1x132_1 (iotaInDim S132 32 0)))

/-- The keys that a query sees: none after it, none further back than the window. -/
def mask : IVec S32x64x4x132 1 :=
  broadcastInDim S32x64x4x132 ![2, 3] bcast_S4x132_S32x64x4x132_2_3
    (andi (cmpi .sge dist (broadcastInDim S4x132 ![] bcast_S_S4x132 (constantI S_ 32 0#32)))
      (cmpi .slt dist (broadcastInDim S4x132 ![] bcast_S_S4x132 (constantI S_ 32 128#32))))

/-- The distance held between 0 and 127. -/
def near : IVec S4x132 32 :=
  minsi (broadcastInDim S4x132 ![] bcast_S_S4x132 (id (constantI S_ 32 127#32)))
    (maxsi (broadcastInDim S4x132 ![] bcast_S_S4x132 (id (constantI S_ 32 0#32))) dist)

/-- The bucket of every distance. -/
def bucket (d : IVec S4x132 32) : IVec S4x132 32 :=
  select (cmpi .slt d (broadcastInDim S4x132 ![] bcast_S_S4x132 (constantI S_ 32 16#32))) d
    (minsi
      (addi (broadcastInDim S4x132 ![] bcast_S_S4x132 (constantI S_ 32 16#32))
        (fptosi 32
          (mulf
            (Host.divf
              (Host.log
                (Host.divf
                  (sitofp (F := Ideal) .f32 (maxsi d (broadcastInDim S4x132 ![] bcast_S_S4x132 (constantI S_ 32 16#32))))
                  (broadcastInDim S4x132 ![] bcast_S_S4x132 (constant S_ .f32 0x41800000#32))))
              (broadcastInDim S4x132 ![] bcast_S_S4x132 (constant S_ .f32 0x40051592#32)))
            (broadcastInDim S4x132 ![] bcast_S_S4x132 (constant S_ .f32 0x41800000#32)))))
      (broadcastInDim S4x132 ![] bcast_S_S4x132 (constantI S_ 32 31#32)))

/-- A negative row number counts from the end. -/
def wrap (d : IVec S4x132 32) : IVec S4x132 32 :=
  select (cmpi .slt d (broadcastInDim S4x132 ![] bcast_S_S4x132 (constantI S_ 32 0#32)))
    (addi d (broadcastInDim S4x132 ![] bcast_S_S4x132 (constantI S_ 32 32#32))) d

/-- The bias of every head, query and key. -/
def bias (rel : FVec Ideal S32x64 .f32) : FVec Ideal S64x4x132 .f32 :=
  transpose S64x4x132 [2, 0, 1]
    (Host.gather gather_S32x64_S4x132x1_S4x132x64_2_0_n_n_0_2_164 rel
      (broadcastInDim S4x132x1 ![0, 1] bcast_S4x132_S4x132x1_0_1 (wrap (bucket near))))
    transposes_S4x132x64_S64x4x132_2_0_1

/-- The rows of the sample group. -/
def rows (qkv : FVec Ideal S8320x5120 .f32) : FVec Ideal S128x5120 .f32 :=
  extractStridedSlice S128x5120 ![8192, 0] qkv slices_S8320x5120_S128x5120_8192_0

/-- The kept keys and then the new ones, each head standing for its eight query heads. -/
def joined (cache : FVec Ideal S32x128x8x64 .f32) (new : FVec Ideal S128x512 .f32) : FVec Ideal S32x132x64x64 .f32 :=
  shapeCast S32x132x64x64
    (broadcastInDim S32x132x8x8x64 ![0, 1, 2, 4] bcast_S32x132x8x64_S32x132x8x8x64_0_1_2_4
      (concatenate S32x132x8x64 1
        [⟨S32x128x8x64, cache⟩, ⟨S32x4x8x64, shapeCast S32x4x8x64 new shapeCasts_S128x512_S32x4x8x64⟩]
        concatenates_S32x128x8x64_S32x4x8x64_S32x132x8x64_d1))
    shapeCasts_S32x132x8x8x64_S32x132x64x64

/-- The queries by sequence, token and head. -/
def queries (qkv : FVec Ideal S8320x5120 .f32) : FVec Ideal S32x4x64x64 .f32 :=
  shapeCast S32x4x64x64
    (extractStridedSlice S128x4096 ![0, 0] (rows qkv) slices_S128x5120_S128x4096_0_0)
    shapeCasts_S128x4096_S32x4x64x64

/-- All the keys of every sequence. -/
def keys (qkv : FVec Ideal S8320x5120 .f32) (cache : FVec Ideal S32x128x8x64 .f32) : FVec Ideal S32x132x64x64 .f32 :=
  joined cache (extractStridedSlice S128x512 ![0, 4096] (rows qkv) slices_S128x5120_S128x512_0_4096)

/-- All the values of every sequence. -/
def vals (qkv : FVec Ideal S8320x5120 .f32) (cache : FVec Ideal S32x128x8x64 .f32) : FVec Ideal S32x132x64x64 .f32 :=
  joined cache (extractStridedSlice S128x512 ![0, 4608] (rows qkv) slices_S128x5120_S128x512_0_4608)

/-- The scores: the scaled products of queries and keys and the bias, masked. -/
def scores (q : FVec Ideal S32x4x64x64 .f32) (k : FVec Ideal S32x132x64x64 .f32)
    (b : FVec Ideal S64x4x132 .f32) : FVec Ideal S32x64x4x132 .f32 :=
  select mask
    (addf
      (mulf (Host.dotGeneral dot_S32x4x64x64_S32x132x64x64_S32x64x4x132_3_3_1_1_02_02 none q k)
        (broadcastInDim S32x64x4x132 ![] bcast_S_S32x64x4x132 (constant S_ .f32 0x3E000000#32)))
      (broadcastInDim S32x64x4x132 ![0, 1, 2, 3] bcast_S1x64x4x132_S32x64x4x132_0_1_2_3
        (broadcastInDim S1x64x4x132 ![1, 2, 3] bcast_S64x4x132_S1x64x4x132_1_2_3 b)))
    (broadcastInDim S32x64x4x132 ![] bcast_S_S32x64x4x132 (id (constant S_ .f32 0xFF800000#32)))

/-- The sinks by head. -/
def sinkRows (sinks : FVec Ideal S64 .f32) : FVec Ideal S32x64x4x1 .f32 :=
  broadcastInDim S32x64x4x1 ![0, 1, 2, 3] bcast_S1x64x1x1_S32x64x4x1_0_1_2_3
    (broadcastInDim S1x64x1x1 ![1, 2, 3] bcast_S64x1x1_S1x64x1x1_1_2_3
      (broadcastInDim S64x1x1 ![0] bcast_S64_S64x1x1_0 sinks))

/-- The greatest of a row's scores. -/
def rowMax (s : FVec Ideal S32x64x4x132 .f32) : FVec Ideal S32x64x4 .f32 :=
  Host.reduce FloatOps.maximumf s (constant S_ .f32 0xFF800000#32) reducesTo_S32x64x4x132_S32x64x4_d3 h_S_

/-- The greater of a row's scores and its sink. -/
def peak (s : FVec Ideal S32x64x4x132 .f32) (sk : FVec Ideal S64 .f32) : FVec Ideal S32x64x4x1 .f32 :=
  maximumf (broadcastInDim S32x64x4x1 ![0, 1, 2] bcast_S32x64x4_S32x64x4x1_0_1_2 (rowMax s)) (sinkRows sk)

/-- The exponentials of the scores below their peak. -/
def raised (s : FVec Ideal S32x64x4x132 .f32) (sk : FVec Ideal S64 .f32) : FVec Ideal S32x64x4x132 .f32 :=
  Host.exp (subf s
    (broadcastInDim S32x64x4x132 ![0, 1, 2, 3] bcast_S32x64x4x1_S32x64x4x132_0_1_2_3 (peak s sk)))

/-- The sum of a row's exponentials and of its sink's. -/
def mass (s : FVec Ideal S32x64x4x132 .f32) (sk : FVec Ideal S64 .f32) : FVec Ideal S32x64x4x1 .f32 :=
  addf
    (broadcastInDim S32x64x4x1 ![0, 1, 2] bcast_S32x64x4_S32x64x4x1_0_1_2
      (Host.reduceAdd (raised s sk) (constant S_ .f32 0x00000000#32) reducesTo_S32x64x4x132_S32x64x4_d3 h_S_))
    (Host.exp (subf (sinkRows sk) (peak s sk)))

/-- The weights of the softmax with a sink. -/
def weights (s : FVec Ideal S32x64x4x132 .f32) (sk : FVec Ideal S64 .f32) : FVec Ideal S32x64x4x132 .f32 :=
  Host.divf (raised s sk)
    (broadcastInDim S32x64x4x132 ![0, 1, 2, 3] bcast_S32x64x4x1_S32x64x4x132_0_1_2_3 (mass s sk))

/-- The weighted values, by sequence, key head, and query head and token. -/
def mix (w : FVec Ideal S32x64x4x132 .f32) (v : FVec Ideal S32x132x64x64 .f32) : FVec Ideal S32x8x32x64 .f32 :=
  shapeCast S32x8x32x64
    (transpose S32x64x4x64 [0, 2, 1, 3]
      (transpose S32x4x64x64 [0, 3, 1, 2]
        (Host.dotGeneral dot_S32x132x64x64_S32x64x4x132_S32x64x64x4_1_3_3_2_02_01 none v w)
        transposes_S32x64x64x4_S32x4x64x64_0_3_1_2)
      transposes_S32x4x64x64_S32x64x4x64_0_2_1_3)
    shapeCasts_S32x64x4x64_S32x8x32x64

/-- The reference's attention of the sample group. -/
def attention (qkv : FVec Ideal S8320x5120 .f32) (ck cv : FVec Ideal S32x128x8x64 .f32) (sinks : FVec Ideal S64 .f32)
    (rel : FVec Ideal S32x64 .f32) : FVec Ideal S32x8x32x64 .f32 :=
  mix (weights (scores (queries qkv) (keys qkv ck) (bias rel)) sinks) (vals qkv cv)

/-- The reference's result is its attention of the five inputs. -/
theorem res_eq (m : (ℓ : Loc nD τ sig) → Buf (Elt Ideal) ℓ) (c : Dev nD) :
    Cert.Reference6Ideal.Value.res_out0 m c
      = attention (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  rfl

/-- A query of the reference is the entry of its row and head. -/
theorem queries_at (qkv : FVec Ideal S8320x5120 .f32) (n : Fin 32) (t : Fin 4) (h e : Fin 64) :
    queries qkv (ix4 n t h e) = qkv (ix2 ⟨8192 + (n.val * 4 + t.val), by omega⟩ ⟨h.val * 64 + e.val, by omega⟩) := by
  pointwise [queries, rows]

/-- A key: a kept one for the first 128, else a new one. -/
theorem keys_at (qkv : FVec Ideal S8320x5120 .f32) (ck : FVec Ideal S32x128x8x64 .f32) (n : Fin 32) (x : Fin 132) (h e : Fin 64) :
    keys qkv ck (ix4 n x h e) = (if hx : x.val < 128 then ck (ix4 n ⟨x.val, hx⟩ ⟨h.val / 8, by omega⟩ e)
      else qkv (ix2 ⟨8192 + (n.val * 4 + (x.val - 128)), by omega⟩ ⟨4096 + (h.val / 8 * 64 + e.val), by omega⟩)) := by
  pointwise [keys, joined, rows]

/-- A value, as a key. -/
theorem vals_at (qkv : FVec Ideal S8320x5120 .f32) (cv : FVec Ideal S32x128x8x64 .f32) (n : Fin 32) (x : Fin 132) (h e : Fin 64) :
    vals qkv cv (ix4 n x h e) = (if hx : x.val < 128 then cv (ix4 n ⟨x.val, hx⟩ ⟨h.val / 8, by omega⟩ e)
      else qkv (ix2 ⟨8192 + (n.val * 4 + (x.val - 128)), by omega⟩ ⟨4608 + (h.val / 8 * 64 + e.val), by omega⟩)) := by
  pointwise [vals, joined, rows]

/-- An entry of the mask, by the distance of the key. -/
theorem mask_at (n : Fin 32) (h : Fin 64) (t : Fin 4) (x : Fin 132) :
    mask (ix4 n h t x) = IntOp.andi
      (IntOp.cmpi .sge (IntOp.subi (IntOp.addi (BitVec.ofNat 32 t.val) 128#32) (BitVec.ofNat 32 x.val)) 0#32)
      (IntOp.cmpi .slt (IntOp.subi (IntOp.addi (BitVec.ofNat 32 t.val) 128#32) (BitVec.ofNat 32 x.val)) 128#32) := by
  pointwise [mask, dist]

/-- A score: the scaled product of a query and a key and their bias, where the mask lets it stand. -/
theorem scores_at (q k b) (n : Fin 32) (h : Fin 64) (t : Fin 4) (x : Fin 132) :
    scores q k b (ix4 n h t x) = Scalar.select (mask (ix4 n h t x))
      ((∑ d, q (ix4 n t h d) * k (ix4 n x h d)) * Ideal.ofBits .f32 0x3E000000#32 + b (ix3 h t x))
      (Ideal.ofBits .f32 0xFF800000#32) := by
  pointwise [scores]
  rfl

/-- The greatest of a row's scores. -/
theorem rowMax_at (s : FVec Ideal S32x64x4x132 .f32) (n : Fin 32) (h : Fin 64) (t : Fin 4) :
    rowMax s (ix3 n h t)
      = (Finset.univ : Finset (Fin 132)).fold max (Ideal.ofBits .f32 0xFF800000#32) (fun x => s (ix4 n h t x)) := by
  have hb : Shape.Idx.first h_S_ = ix0 := funext fun a => a.elim0
  unfold rowMax
  rw [Host.reduce_eq_fold, Shape.ReducesTo.fold_fiber_r4_a3, hb]
  exact Finset.fold_congr fun x _ => rfl

/-- A row's sink is its head's. -/
theorem sinkRows_at (sk : FVec Ideal S64 .f32) (n : Fin 32) (h : Fin 64) (t : Fin 4) : sinkRows sk (ix4 n h t 0) = sk (ix1 h) := by
  pointwise [sinkRows]

/-- The greater of two vectors, entry by entry. -/
theorem max_at (a b : FVec Ideal S32x64x4x1 .f32) (i : S32x64x4x1.Idx) : maximumf a b i = max (a i) (b i) := rfl

/-- The peak of a row. -/
theorem peak_at (s : FVec Ideal S32x64x4x132 .f32) (sk : FVec Ideal S64 .f32) (n : Fin 32) (h : Fin 64) (t : Fin 4) :
    peak s sk (ix4 n h t 0) = max (rowMax s (ix3 n h t)) (sinkRows sk (ix4 n h t 0)) := by
  unfold peak
  rw [max_at]
  pointwise

/-- An exponential of a score below its row's peak. -/
theorem raised_at (s : FVec Ideal S32x64x4x132 .f32) (sk : FVec Ideal S64 .f32) (n : Fin 32) (h : Fin 64) (t : Fin 4) (x : Fin 132) :
    raised s sk (ix4 n h t x) = Ideal.exp (s (ix4 n h t x) - peak s sk (ix4 n h t 0)) := by
  pointwise [raised]

/-- The mass of a row. -/
theorem mass_at (s : FVec Ideal S32x64x4x132 .f32) (sk : FVec Ideal S64 .f32) (n : Fin 32) (h : Fin 64) (t : Fin 4) :
    mass s sk (ix4 n h t 0) = ∑ x, raised s sk (ix4 n h t x) + Ideal.exp (sinkRows sk (ix4 n h t 0) - peak s sk (ix4 n h t 0)) := by
  pointwise [mass]

/-- A weight is an exponential's share of its row's mass. -/
theorem weights_at (s : FVec Ideal S32x64x4x132 .f32) (sk : FVec Ideal S64 .f32) (n : Fin 32) (h : Fin 64) (t : Fin 4) (x : Fin 132) :
    weights s sk (ix4 n h t x) = Ideal.div (raised s sk (ix4 n h t x)) (mass s sk (ix4 n h t 0)) := by
  pointwise [weights]

/-- A result: the weighted values of its sequence, head and token. -/
theorem mix_at (w : FVec Ideal S32x64x4x132 .f32) (v : FVec Ideal S32x132x64x64 .f32) (n : Fin 32) (g : Fin 8) (r : Fin 32) (e : Fin 64) :
    mix w v (ix4 n g r e)
      = ∑ x, v (ix4 n x ⟨g.val * 8 + r.val / 4, by omega⟩ e) * w (ix4 n ⟨g.val * 8 + r.val / 4, by omega⟩ ⟨r.val % 4, by omega⟩ x) := by
  pointwise [mix]

/-- A gathered row of the bias table: the row is the index read signed and held inside the table. -/
theorem gather_at (rel : FVec Ideal S32x64 .f32) (idx : IVec S4x132x1 32) (h : Fin 64) (t : Fin 4) (x : Fin 132) :
    Host.gather gather_S32x64_S4x132x1_S4x132x64_2_0_n_n_0_2_164 rel idx (ix3 t x h)
      = rel (ix2 ⟨min (idx (ix3 t x 0)).toInt.toNat 31, by omega⟩ h) := by
  unfold Host.gather
  congr 1
  funext a
  rcases (by decide : ∀ a : Fin 2, a = 0 ∨ a = 1) a with rfl | rfl
  · apply Fin.ext
    simp only [GatherDims.operandIdx]
    rw [GatherDims.batchCoord_eq_zero _ _ _ (by decide), GatherDims.offCoord_eq_zero _ _ _ (by decide)]
    rw [GatherDims.start, dif_pos (by decide)]
    have h0 : gather_S32x64_S4x132x1_S4x132x64_2_0_n_n_0_2_164.siIdx (ix3 t x h) ⟨0, by decide⟩ = ix3 t x 0 := by
      funext b
      rcases (by decide : ∀ a : Fin 3, a = 0 ∨ a = 1 ∨ a = 2) b with rfl | rfl | rfl <;> exact Fin.ext rfl
    exact congrArg (fun z => min (idx z).toInt.toNat 31) h0
  · apply Fin.ext
    simp only [GatherDims.operandIdx]
    rw [GatherDims.batchCoord_eq_zero _ _ _ (by decide)]
    rw [GatherDims.start, dif_neg (by decide)]
    rw [GatherDims.offCoord, dif_pos (by decide)]
    rw [Nat.zero_add]
    rfl

/-- The rows of indices stand as a column of starts. -/
theorem starts_at (z : IVec S4x132 32) (t : Fin 4) (x : Fin 132) :
    broadcastInDim S4x132x1 ![0, 1] bcast_S4x132_S4x132x1_0_1 z (ix3 t x 0) = z (ix2 t x) := by pointwise

/-- The heads come first. -/
theorem heads_at (z : FVec Ideal S4x132x64 .f32) (h : Fin 64) (t : Fin 4) (x : Fin 132) :
    transpose S64x4x132 [2, 0, 1] z transposes_S4x132x64_S64x4x132_2_0_1 (ix3 h t x) = z (ix3 t x h) := by pointwise

/-- The row of the table is that of the clipped distance's bucket. -/
theorem near_at (t : Fin 4) (x : Fin 132) :
    wrap (bucket near) (ix2 t x)
      = Bucket.rowOf (Bucket.held
          (IntOp.subi (IntOp.addi (BitVec.ofNat 32 t.val) 128#32) (BitVec.ofNat 32 x.val))) := by
  pointwise [wrap, bucket, near, dist]
  rfl

/-- The bias of a head for a query and a key: the row of the clipped distance's bucket. -/
theorem bias_at (rel : FVec Ideal S32x64 .f32) (h : Fin 64) (t : Fin 4) (x : Fin 132) :
    bias rel (ix3 h t x)
      = rel (ix2 ⟨min (Bucket.rowOf (Bucket.held
          (IntOp.subi (IntOp.addi (BitVec.ofNat 32 t.val) 128#32) (BitVec.ofNat 32 x.val)))).toInt.toNat 31, by omega⟩ h) := by
  unfold bias
  rw [heads_at, gather_at]
  exact congrArg (fun q : BitVec 32 => rel (ix2 ⟨min q.toInt.toNat 31, by omega⟩ h)) ((starts_at _ t x).trans (near_at t x))

end Cert.Reference6Ideal.Parts
end
-- ==== Proof.SampleBias.lean ====
module
public import proofs.«01_k».proof.Proof.Gen.Kernel6Ideal.Value
public import proofs.«01_k».proof.Proof.RefSample
public import proofs.«01_k».proof.Proof.Bucket
public import Idealize.ShloMosaic.Lib.Pipeline.ValueKit
public import Idealize.ShloMosaic.Lib.Pointwise
@[expose] public section

/-! What the host computes for the kernel of the sample group: its biases, queries, padded new keys and values, and sinks. -/

set_option maxRecDepth 16384
noncomputable section
open Idealize.ShloMosaic Idealize.ShloMosaic.TcCoe Idealize.SL.Sem
open Idealize.ShloMosaic.Pipeline (Dat)
namespace Cert.Kernel6Ideal.RefValue
open Cert.Kernel6Ideal Cert.Kernel6Ideal.Gen
variable (m : (ℓ : Loc nD τ sig) → Buf (Elt Ideal) ℓ)

/-- The bucket of every clipped distance. -/
def buckets : IVec S128 32 :=
  select (cmpi .slt (iotaInDim S128 32 0) (broadcastInDim S128 ![] bcast_S_S128 (constantI S_ 32 16#32)))
    (iotaInDim S128 32 0)
    (minsi
      (addi (broadcastInDim S128 ![] bcast_S_S128 (constantI S_ 32 16#32))
        (fptosi 32
          (mulf
            (Host.divf
              (Host.log
                (Host.divf
                  (sitofp FTy.f32
                    (maxsi (iotaInDim S128 32 0) (broadcastInDim S128 ![] bcast_S_S128 (constantI S_ 32 16#32))))
                  (broadcastInDim S128 ![] bcast_S_S128 (constant (F := Ideal) S_ FTy.f32 1098907648#32))))
              (broadcastInDim S128 ![] bcast_S_S128 (constant S_ FTy.f32 1074075026#32)))
            (broadcastInDim S128 ![] bcast_S_S128 (constant S_ FTy.f32 1098907648#32)))))
      (broadcastInDim S128 ![] bcast_S_S128 (constantI S_ 32 31#32)))

/-- An index below zero counts from the end of the 32 buckets. -/
def fromEnd (d : IVec S128 32) : IVec S128 32 :=
  select (cmpi .slt d (broadcastInDim S128 ![] bcast_S_S128 (constantI S_ 32 0#32)))
    (addi d (broadcastInDim S128 ![] bcast_S_S128 (constantI S_ 32 32#32))) d

/-- The bias of every head and clipped distance. -/
def table (rel : FVec Ideal S32x64 .f32) : FVec Ideal S64x128 .f32 :=
  transpose S64x128 [1, 0]
    (Host.gather gather_S32x64_S128x1_S128x64_1_0_n_n_0_1_164 rel
      (broadcastInDim S128x1 ![0] bcast_S128_S128x1_0 (fromEnd buckets)))
    transposes_S128x64_S64x128_1_0

/-- The clipped distance from every token to every kept key. -/
def clipA : IVec S4x128 32 :=
  minsi (broadcastInDim S4x128 ![] bcast_S_S4x128 (id (constantI S_ 32 127#32)))
    (maxsi (broadcastInDim S4x128 ![] bcast_S_S4x128 (id (constantI S_ 32 0#32)))
      (subi
        (broadcastInDim S4x128 ![0, 1] bcast_S4x1_S4x128_0_1
          (addi (broadcastInDim S4x1 ![0] bcast_S4_S4x1_0 (iotaInDim S4 32 0))
            (broadcastInDim S4x1 ![] bcast_S_S4x1 (constantI S_ 32 128#32))))
        (broadcastInDim S4x128 ![0, 1] bcast_S1x128_S4x128_0_1
          (broadcastInDim S1x128 ![1] bcast_S128_S1x128_1 (iotaInDim S128 32 0)))))

/-- The clipped distance from every token to every place of the new keys. -/
def clipB : IVec S4x16 32 :=
  minsi (broadcastInDim S4x16 ![] bcast_S_S4x16 (id (constantI S_ 32 127#32)))
    (maxsi (broadcastInDim S4x16 ![] bcast_S_S4x16 (id (constantI S_ 32 0#32)))
      (subi
        (broadcastInDim S4x16 ![0, 1] bcast_S4x1_S4x16_0_1 (broadcastInDim S4x1 ![0] bcast_S4_S4x1_0 (iotaInDim S4 32 0)))
        (broadcastInDim S4x16 ![0, 1] bcast_S1x16_S4x16_0_1
          (broadcastInDim S1x16 ![1] bcast_S16_S1x16_1 (iotaInDim S16 32 0)))))

/-- A distance below zero counts from the end of the table, for the kept keys. -/
def wrapA (d : IVec S4x128 32) : IVec S4x128 32 :=
  select (cmpi .slt d (broadcastInDim S4x128 ![] bcast_S_S4x128 (constantI S_ 32 0#32)))
    (addi d (broadcastInDim S4x128 ![] bcast_S_S4x128 (constantI S_ 32 128#32))) d

/-- A distance below zero counts from the end of the table, for the new keys. -/
def wrapB (d : IVec S4x16 32) : IVec S4x16 32 :=
  select (cmpi .slt d (broadcastInDim S4x16 ![] bcast_S_S4x16 (constantI S_ 32 0#32)))
    (addi d (broadcastInDim S4x16 ![] bcast_S_S4x16 (constantI S_ 32 128#32))) d

/-- The bias of every head, token and kept key. -/
def biasA (rel : FVec Ideal S32x64 .f32) : FVec Ideal S64x4x128 .f32 :=
  Host.gather gather_S64x128_S4x128x1_S64x4x128_0_1_n_n_1_2_641 (table rel)
    (broadcastInDim S4x128x1 ![0, 1] bcast_S4x128_S4x128x1_0_1 (wrapA clipA))

/-- The bias of every head, token and place of the new keys. -/
def biasB (rel : FVec Ideal S32x64 .f32) : FVec Ideal S64x4x16 .f32 :=
  Host.gather gather_S64x128_S4x16x1_S64x4x16_0_1_n_n_1_2_641 (table rel)
    (broadcastInDim S4x16x1 ![0, 1] bcast_S4x16_S4x16x1_0_1 (wrapB clipB))

/-- The clipped distance of a token and a kept key. -/
theorem clipA_at (t : Fin 4) (x : Fin 128) : clipA (ix2 t x)
    = Bucket.held (IntOp.subi (IntOp.addi (BitVec.ofNat 32 t.val) 128#32) (BitVec.ofNat 32 x.val)) := by
  pointwise [clipA]
  rfl
/-- The clipped distance of a token and a new key. -/
theorem clipB_at (t : Fin 4) (x : Fin 16) : clipB (ix2 t x)
    = Bucket.held (IntOp.subi (BitVec.ofNat 32 t.val) (BitVec.ofNat 32 x.val)) := by
  pointwise [clipB]
  rfl
/-- A negative index into the buckets counts from the end. -/
theorem fromEnd_at (d : IVec S128 32) (n : Fin 128) : fromEnd d (ix1 n) = Scalar.select (IntOp.cmpi .slt (d (ix1 n)) 0#32) (IntOp.addi (d (ix1 n)) 32#32) (d (ix1 n)) := by
  pointwise [fromEnd]
/-- A negative distance counts from the end, for the kept keys. -/
theorem wrapA_at (d : IVec S4x128 32) (r : Fin 4) (c : Fin 128) : wrapA d (ix2 r c) = Scalar.select (IntOp.cmpi .slt (d (ix2 r c)) 0#32) (IntOp.addi (d (ix2 r c)) 128#32) (d (ix2 r c)) := by
  pointwise [wrapA]
/-- A negative distance counts from the end, for the new keys. -/
theorem wrapB_at (d : IVec S4x16 32) (r : Fin 4) (c : Fin 16) : wrapB d (ix2 r c) = Scalar.select (IntOp.cmpi .slt (d (ix2 r c)) 0#32) (IntOp.addi (d (ix2 r c)) 128#32) (d (ix2 r c)) := by
  pointwise [wrapB]
/-- The bucket of each distance. -/
theorem buckets_at (n : Fin 128) : buckets (ix1 n) = Bucket.bucketOf (BitVec.ofNat 32 n.val) := by
  pointwise [buckets]
  rfl
/-- The start indices of the first lookup are the buckets. -/
theorem start_at (z : IVec S128 32) (n : Fin 128) :
    broadcastInDim S128x1 ![0] bcast_S128_S128x1_0 z (ix2 n 0) = z (ix1 n) := by
  pointwise []
/-- The start indices of the lookup for the kept keys are the distances. -/
theorem startA_at (z : IVec S4x128 32) (r : Fin 4) (c : Fin 128) :
    broadcastInDim S4x128x1 ![0, 1] bcast_S4x128_S4x128x1_0_1 z (ix3 r c 0) = z (ix2 r c) := by
  pointwise []
/-- The start indices of the lookup for the new keys are the distances. -/
theorem startB_at (z : IVec S4x16 32) (r : Fin 4) (c : Fin 16) :
    broadcastInDim S4x16x1 ![0, 1] bcast_S4x16_S4x16x1_0_1 z (ix3 r c 0) = z (ix2 r c) := by
  pointwise []
/-- The turned table at a head and a distance. -/
theorem turn_at (z : FVec Ideal S128x64 .f32) (h : Fin 64) (n : Fin 128) :
    transpose S64x128 [1, 0] z transposes_S128x64_S64x128_1_0 (ix2 h n) = z (ix2 n h) := by
  pointwise []
/-- The first lookup: head h at distance n reads the row of the bias table that the index names. -/
theorem gather_at (rel : FVec Ideal S32x64 .f32) (idx : IVec S128x1 32) (h : Fin 64) (n : Fin 128) :
    Host.gather gather_S32x64_S128x1_S128x64_1_0_n_n_0_1_164 rel idx (ix2 n h)
      = rel (ix2 ⟨min (idx (ix2 n 0)).toInt.toNat 31, by omega⟩ h) := by
  unfold Host.gather
  congr 1
  funext a
  rcases (by decide : ∀ a : Fin 2, a = 0 ∨ a = 1) a with rfl | rfl
  · apply Fin.ext
    simp only [GatherDims.operandIdx]
    rw [GatherDims.batchCoord_eq_zero _ _ _ (by decide), GatherDims.offCoord_eq_zero _ _ _ (by decide)]
    rw [GatherDims.start, dif_pos (by decide)]
    have h0 : gather_S32x64_S128x1_S128x64_1_0_n_n_0_1_164.siIdx (ix2 n h) ⟨0, by decide⟩ = ix2 n 0 := by
      funext b
      rcases (by decide : ∀ a : Fin 2, a = 0 ∨ a = 1) b with rfl | rfl <;> exact Fin.ext rfl
    exact congrArg (fun z => min (idx z).toInt.toNat 31) h0
  · apply Fin.ext
    simp only [GatherDims.operandIdx]
    rw [GatherDims.batchCoord_eq_zero _ _ _ (by decide)]
    rw [GatherDims.start, dif_neg (by decide)]
    rw [GatherDims.offCoord, dif_pos (by decide)]
    rw [Nat.zero_add]
    rfl
/-- The lookup for the kept keys: head h reads the distance that the index names. -/
theorem gatherA_at (tab : FVec Ideal S64x128 .f32) (idx : IVec S4x128x1 32) (h : Fin 64) (r : Fin 4) (c : Fin 128) :
    Host.gather gather_S64x128_S4x128x1_S64x4x128_0_1_n_n_1_2_641 tab idx (ix3 h r c)
      = tab (ix2 h ⟨min (idx (ix3 r c 0)).toInt.toNat 127, by omega⟩) := by
  unfold Host.gather
  congr 1
  funext a
  rcases (by decide : ∀ a : Fin 2, a = 0 ∨ a = 1) a with rfl | rfl
  · apply Fin.ext
    simp only [GatherDims.operandIdx]
    rw [GatherDims.batchCoord_eq_zero _ _ _ (by decide)]
    rw [GatherDims.start, dif_neg (by decide)]
    rw [GatherDims.offCoord, dif_pos (by decide)]
    rw [Nat.zero_add]
    rfl
  · apply Fin.ext
    simp only [GatherDims.operandIdx]
    rw [GatherDims.batchCoord_eq_zero _ _ _ (by decide), GatherDims.offCoord_eq_zero _ _ _ (by decide)]
    rw [GatherDims.start, dif_pos (by decide)]
    have h0 : gather_S64x128_S4x128x1_S64x4x128_0_1_n_n_1_2_641.siIdx (ix3 h r c) ⟨0, by decide⟩ = ix3 r c 0 := by
      funext b
      rcases (by decide : ∀ a : Fin 3, a = 0 ∨ a = 1 ∨ a = 2) b with rfl | rfl | rfl <;> exact Fin.ext rfl
    exact congrArg (fun z => min (idx z).toInt.toNat 127) h0
/-- The lookup for the new keys: head h reads the distance that the index names. -/
theorem gatherB_at (tab : FVec Ideal S64x128 .f32) (idx : IVec S4x16x1 32) (h : Fin 64) (r : Fin 4) (c : Fin 16) :
    Host.gather gather_S64x128_S4x16x1_S64x4x16_0_1_n_n_1_2_641 tab idx (ix3 h r c)
      = tab (ix2 h ⟨min (idx (ix3 r c 0)).toInt.toNat 127, by omega⟩) := by
  unfold Host.gather
  congr 1
  funext a
  rcases (by decide : ∀ a : Fin 2, a = 0 ∨ a = 1) a with rfl | rfl
  · apply Fin.ext
    simp only [GatherDims.operandIdx]
    rw [GatherDims.batchCoord_eq_zero _ _ _ (by decide)]
    rw [GatherDims.start, dif_neg (by decide)]
    rw [GatherDims.offCoord, dif_pos (by decide)]
    rw [Nat.zero_add]
    rfl
  · apply Fin.ext
    simp only [GatherDims.operandIdx]
    rw [GatherDims.batchCoord_eq_zero _ _ _ (by decide), GatherDims.offCoord_eq_zero _ _ _ (by decide)]
    rw [GatherDims.start, dif_pos (by decide)]
    have h0 : gather_S64x128_S4x16x1_S64x4x16_0_1_n_n_1_2_641.siIdx (ix3 h r c) ⟨0, by decide⟩ = ix3 r c 0 := by
      funext b
      rcases (by decide : ∀ a : Fin 3, a = 0 ∨ a = 1 ∨ a = 2) b with rfl | rfl | rfl <;> exact Fin.ext rfl
    exact congrArg (fun z => min (idx z).toInt.toNat 127) h0

/-- The table of biases holds each distance's bucket row. -/
theorem table_at (rel : FVec Ideal S32x64 .f32) (h : Fin 64) (n : Fin 128) :
    table rel (ix2 h n) = rel (ix2 ⟨min (Bucket.rowOf (BitVec.ofNat 32 n.val)).toInt.toNat 31, by omega⟩ h) := by
  unfold table
  rw [turn_at, gather_at]
  have e : broadcastInDim S128x1 ![0] bcast_S128_S128x1_0 (fromEnd buckets) (ix2 n 0)
      = Bucket.rowOf (BitVec.ofNat 32 n.val) := by
    rw [start_at, fromEnd_at, buckets_at]
    rfl
  exact congrArg (fun q : BitVec 32 => rel (ix2 ⟨min q.toInt.toNat 31, by omega⟩ h)) e

/-- The index of a kept key's entry in the table is its clipped distance. -/
theorem indexA_at (r : Fin 4) (c : Fin 128) :
    broadcastInDim S4x128x1 ![0, 1] bcast_S4x128_S4x128x1_0_1 (wrapA clipA) (ix3 r c 0)
      = Scalar.select
          (IntOp.cmpi .slt (Bucket.held (IntOp.subi (IntOp.addi (BitVec.ofNat 32 r.val) 128#32) (BitVec.ofNat 32 c.val))) 0#32)
          (IntOp.addi (Bucket.held (IntOp.subi (IntOp.addi (BitVec.ofNat 32 r.val) 128#32) (BitVec.ofNat 32 c.val))) 128#32)
          (Bucket.held (IntOp.subi (IntOp.addi (BitVec.ofNat 32 r.val) 128#32) (BitVec.ofNat 32 c.val))) := by
  rw [startA_at, wrapA_at, clipA_at]

/-- The index of a new key's entry in the table is its clipped distance. -/
theorem indexB_at (r : Fin 4) (c : Fin 16) :
    broadcastInDim S4x16x1 ![0, 1] bcast_S4x16_S4x16x1_0_1 (wrapB clipB) (ix3 r c 0)
      = Scalar.select
          (IntOp.cmpi .slt (Bucket.held (IntOp.subi (BitVec.ofNat 32 r.val) (BitVec.ofNat 32 c.val))) 0#32)
          (IntOp.addi (Bucket.held (IntOp.subi (BitVec.ofNat 32 r.val) (BitVec.ofNat 32 c.val))) 128#32)
          (Bucket.held (IntOp.subi (BitVec.ofNat 32 r.val) (BitVec.ofNat 32 c.val))) := by
  rw [startB_at, wrapB_at, clipB_at]

/-- The kernel's bias for a kept key, read from the table by distance, is the reference's. -/
theorem biasA_eq (rel : FVec Ideal S32x64 .f32) (h : Fin 64) (t : Fin 4) (x : Fin 128) :
    biasA rel (ix3 h t x) = Cert.Reference6Ideal.Parts.bias rel (ix3 h t ⟨x.val, by omega⟩) := by
  unfold biasA
  rw [gatherA_at, table_at, Cert.Reference6Ideal.Parts.bias_at]
  have e := (congrArg (fun z : BitVec 32 => BitVec.ofNat 32 (min z.toInt.toNat 127)) (indexA_at t x)).trans (Bucket.pick _)
  exact congrArg (fun q : BitVec 32 => rel (ix2 ⟨min (Bucket.rowOf q).toInt.toNat 31, by omega⟩ h)) e

/-- A new key stands as far from a token in either count. -/
theorem dist_new : ∀ (t x : Fin 4), IntOp.subi (BitVec.ofNat 32 t.val) (BitVec.ofNat 32 x.val)
    = IntOp.subi (IntOp.addi (BitVec.ofNat 32 t.val) 128#32) (BitVec.ofNat 32 (128 + x.val)) := by decide

/-- The kernel's bias for a new key, read from the table by distance, is the reference's. -/
theorem biasB_eq (rel : FVec Ideal S32x64 .f32) (h : Fin 64) (t : Fin 4) (x : Fin 16) (hx : x.val < 4) :
    biasB rel (ix3 h t x) = Cert.Reference6Ideal.Parts.bias rel (ix3 h t ⟨128 + x.val, by omega⟩) := by
  unfold biasB
  rw [gatherB_at, table_at, Cert.Reference6Ideal.Parts.bias_at]
  have e := ((congrArg (fun z : BitVec 32 => BitVec.ofNat 32 (min z.toInt.toNat 127)) (indexB_at t x)).trans (Bucket.pick _)).trans
    (congrArg Bucket.held (dist_new t ⟨x.val, hx⟩))
  exact congrArg (fun q : BitVec 32 => rel (ix2 ⟨min (Bucket.rowOf q).toInt.toNat 31, by omega⟩ h)) e

/-- The queries by sequence, key head, and query head and token. -/
def qs (A : FVec Ideal S8320x5120 .f32) : FVec Ideal S32x8x32x64 .f32 :=
  shapeCast S32x8x32x64
    (transpose S32x8x8x4x64 [0, 2, 3, 1, 4]
      (shapeCast S32x4x8x8x64 (extractStridedSlice S128x4096 ![8192, 0] A slices_S8320x5120_S128x4096_8192_0)
        shapeCasts_S128x4096_S32x4x8x8x64)
      transposes_S32x4x8x8x64_S32x8x8x4x64_0_2_3_1_4)
    shapeCasts_S32x8x8x4x64_S32x8x32x64

/-- New keys or values, padded to sixteen rows. -/
def padded (Z : FVec Ideal S128x512 .f32) : FVec Ideal S32x16x512 .f32 :=
  pad S32x16x512 ![0, 0, 0] ![0, 12, 0] ![0, 0, 0] (shapeCast S32x4x512 Z shapeCasts_S128x512_S32x4x512)
    (sitofp .f32 (constantI S_ 32 0#32)) pads_S32x4x512_S32x16x512_000_0120_000 h_S_

/-- The sinks by key head, and query head and token. -/
def sinks (Sk : FVec Ideal S64 .f32) : FVec Ideal S8x32x1 .f32 :=
  shapeCast S8x32x1 (shapeCast S256 (broadcastInDim S64x4 ![0] bcast_S64_S64x4_0 Sk) shapeCasts_S64x4_S256) shapeCasts_S256_S8x32x1

/-- A query is the entry of its token's row and its head's column. -/
theorem qs_at (A : FVec Ideal S8320x5120 .f32) (n : Fin 32) (g : Fin 8) (r : Fin 32) (d : Fin 64) :
    qs A (ix4 n g r d) = A (ix2 ⟨8192 + (n.val * 4 + r.val % 4), by omega⟩ ⟨(g.val * 8 + r.val / 4) * 64 + d.val, by omega⟩) := by
  pointwise [qs]
  exact congrArg A (by congr 1; exact Fin.ext (by simp only []; omega))

/-- The first four rows of the padded array are the new ones. -/
theorem padded_at (Z : FVec Ideal S128x512 .f32) (n : Fin 32) (x : Fin 16) (j : Fin 512) (hx : x.val < 4) :
    padded Z (ix3 n x j) = Z (ix2 ⟨n.val * 4 + x.val, by omega⟩ j) := by
  pointwise [padded]
  exact dif_pos hx

/-- The sink of a row is its query head's. -/
theorem sinks_at (Sk : FVec Ideal S64 .f32) (g : Fin 8) (r : Fin 32) :
    sinks Sk (ix3 g r 0) = Sk (ix1 ⟨g.val * 8 + r.val / 4, by omega⟩) := by
  pointwise [sinks]

end Cert.Kernel6Ideal.RefValue
-- ==== Proof.SoftTwo.lean ====
module
public import proofs.«01_k».proof.Proof.Soft
@[expose] public section

/-! The softmax with a sink over two groups of keys, 128 kept ones and sixteen places for new ones of which
four are filled, against the softmax over the 132 keys. -/

noncomputable section
open Idealize.ShloMosaic

namespace Cert.Soft

/-- A sum over the two groups is the sum over all the keys, where the empty places count nothing. -/
theorem sum_two (f : Fin 132 → EReal) (a : Fin 128 → EReal) (b : Fin 16 → EReal)
    (ha : ∀ x : Fin 128, a x = f ⟨x.val, by omega⟩)
    (hb : ∀ x : Fin 16, b x = if h : x.val < 4 then f ⟨128 + x.val, by omega⟩ else 0) :
    (∑ x, a x) + ∑ x, b x = ∑ x, f x := by
  have e := Fin.sum_univ_add (a := 128) (b := 4) f
  refine Eq.trans ?_ e.symm
  have e1 : (∑ x, a x) = ∑ i : Fin 128, f (Fin.castAdd 4 i) := Finset.sum_congr rfl fun x _ => ha x
  have e2 : (∑ x, b x) = ∑ i : Fin 4, f (Fin.natAdd 128 i) := by
    refine (Fin.sum_univ_add (a := 4) (b := 12) b).trans ?_
    have z : (∑ i : Fin 12, b (Fin.natAdd 4 i)) = 0 := Finset.sum_eq_zero fun i _ => by
      rw [hb, dif_neg (by simp)]
    rw [z, add_zero]
    refine Finset.sum_congr rfl fun i _ => ?_
    rw [hb, dif_pos (by simp)]
    rfl
  rw [e1, e2]

/-- The greatest of the two groups is the greatest of all the keys, where the empty places are minus infinity. -/
theorem max_two (f : Fin 132 → EReal) (a : Fin 128 → EReal) (b : Fin 16 → EReal)
    (ha : ∀ x : Fin 128, a x = f ⟨x.val, by omega⟩)
    (hb : ∀ x : Fin 16, b x = if h : x.val < 4 then f ⟨128 + x.val, by omega⟩ else ⊥) :
    max ((Finset.univ : Finset (Fin 128)).fold max ⊥ a) ((Finset.univ : Finset (Fin 16)).fold max ⊥ b)
      = (Finset.univ : Finset (Fin 132)).fold max ⊥ f := by
  apply le_antisymm
  · refine max_le ?_ ?_
    · rw [Finset.fold_max_le]
      exact ⟨bot_le, fun x _ => (ha x).le.trans ((Finset.le_fold_max _).mpr (.inr ⟨_, Finset.mem_univ _, le_rfl⟩))⟩
    · rw [Finset.fold_max_le]
      refine ⟨bot_le, fun x _ => ?_⟩
      rw [hb]
      split_ifs with h
      · exact (Finset.le_fold_max _).mpr (.inr ⟨_, Finset.mem_univ _, le_rfl⟩)
      · exact bot_le
  · rw [Finset.fold_max_le]
    refine ⟨bot_le, fun x _ => ?_⟩
    by_cases h : x.val < 128
    · exact le_max_of_le_left ((Finset.le_fold_max _).mpr (.inr ⟨⟨x.val, h⟩, Finset.mem_univ _, (ha ⟨x.val, h⟩).ge⟩))
    · refine le_max_of_le_right ((Finset.le_fold_max _).mpr (.inr ⟨⟨x.val - 128, by omega⟩, Finset.mem_univ _, ?_⟩))
      rw [hb, dif_pos (show x.val - 128 < 4 by omega)]
      exact (congrArg f (Fin.ext (show x.val = 128 + (x.val - 128) by omega))).le

/-- The softmax over the two groups, divided once, is the softmax over all the keys, every weight divided. -/
theorem attend_two (s v : Fin 132 → EReal) (a va : Fin 128 → EReal) (b vb : Fin 16 → EReal) (sk : EReal)
    (ha : ∀ x : Fin 128, a x = s ⟨x.val, by omega⟩)
    (hb : ∀ x : Fin 16, b x = if h : x.val < 4 then s ⟨128 + x.val, by omega⟩ else ⊥)
    (hva : ∀ x : Fin 128, va x = v ⟨x.val, by omega⟩)
    (hvb : ∀ x : Fin 16, ∀ h : x.val < 4, vb x = v ⟨128 + x.val, by omega⟩)
    (hs : ∀ c, s c ≠ ⊤) (h₁ : sk ≠ ⊤) (h₂ : sk ≠ ⊥) (mx : EReal)
    (hm : mx = max (max ((Finset.univ : Finset (Fin 128)).fold max ⊥ a) ((Finset.univ : Finset (Fin 16)).fold max ⊥ b)) sk) :
    Ideal.div ((∑ x, Ideal.exp (a x - mx) * va x) + ∑ x, Ideal.exp (b x - mx) * vb x)
        (((∑ x, Ideal.exp (a x - mx)) + ∑ x, Ideal.exp (b x - mx)) + Ideal.exp (sk - mx))
      = ∑ c, v c * Ideal.div (Ideal.exp (s c - max (Finset.univ.fold max ⊥ s) sk))
          ((∑ c, Ideal.exp (s c - max (Finset.univ.fold max ⊥ s) sk)) + Ideal.exp (sk - max (Finset.univ.fold max ⊥ s) sk)) := by
  rw [max_two s a b ha hb] at hm
  subst hm
  have z : ∀ y : EReal, Ideal.exp (⊥ - y) = 0 := fun y => by rw [EReal.bot_sub]; rfl
  rw [sum_two (fun c => Ideal.exp (s c - max (Finset.univ.fold max ⊥ s) sk) * v c) _ _ (fun x => by rw [ha, hva]) (fun x => by
      rw [hb]; split_ifs with h
      · rw [hvb x h]
      · rw [z, zero_mul]),
    sum_two (fun c => Ideal.exp (s c - max (Finset.univ.fold max ⊥ s) sk)) _ _ (fun x => by rw [ha]) (fun x => by
      rw [hb]; split_ifs
      · rfl
      · rw [z])]
  rw [attend s v v sk hs h₁ h₂ fun _ _ => rfl]
  exact Finset.sum_congr rfl fun c _ => mul_comm _ _

end Cert.Soft
-- ==== Proof.SampleHead.lean ====
module
public import proofs.«01_k».proof.Proof.Gen.Kernel6Ideal.Value
public import proofs.«01_k».proof.Proof.RefSample
public import proofs.«01_k».proof.Proof.Soft
public import proofs.«01_k».proof.Proof.SoftTwo
public import Idealize.ShloMosaic.Lib.Pipeline.ValueKit
public import Idealize.ShloMosaic.Lib.Pointwise
@[expose] public section

/-! One head of the kernel's sample attention: its two groups of scores and its result. -/

set_option maxRecDepth 16384
noncomputable section
open Idealize.ShloMosaic Idealize.ShloMosaic.TcCoe Idealize.SL.Sem
open Idealize.ShloMosaic.Pipeline (Dat)
namespace Cert.Kernel6Ideal.RefValue
open Cert.Kernel6Ideal Cert.Kernel6Ideal.Gen

/-- The scale is one eighth. -/
theorem lit_eighth : Ideal.ofBits .f32 0x3E000000#32 = (((1 : ℝ) / 8 : ℝ) : EReal) := by
  simp [Ideal.ofBits, Ideal.ieee]
  rw [← EReal.coe_mul]
  norm_num
/-- The reference's literal is minus infinity. -/
theorem lit_bot : Ideal.ofBits .f32 0xFF800000#32 = ⊥ := by
  simp [Ideal.ofBits, Ideal.ieee]
/-- The kernel's named mask value stands for minus infinity. -/
theorem lit_mask : Named.named (F := Ideal) κ "mask" (φ := .f32) 0xF149F2CA#32 = ⊥ :=
  IdealRules.named_const.ideal_named_scalar _ _ _ _ rfl
/-- A selection by one bit. -/
theorem select_one (b : BitVec 1) (x y : EReal) : Scalar.select b x y = if b = 1#1 then x else y := rfl

/-- The queries, scaled. -/
def scaled (q : FVec Ideal S1x1x32x64 .f32) : FVec Ideal S32x64 .bf16 :=
  truncf .bf16 (mulf (shapeCast S32x64 q shapeCasts_S1x1x32x64_S32x64) (broadcast S32x64 (Scalar.ofBits .f32 0x3E000000#32)))
    bitsLt_bf16_f32

/-- The masked scores against the kept keys. -/
def kept (kS : FVec Ideal S128x64 .bf16) (mask : IVec S32x128 1) (q : FVec Ideal S1x1x32x64 .f32)
    (bias : FVec Ideal S1x32x128 .f32) : FVec Ideal S32x128 .f32 :=
  select mask
    (addf (matmul dot_S32x64_S128x64_S32x128_1_1_0_0_n_n none (scaled q) kS (constant S32x128 .f32 0x00000000#32))
      (shapeCast S32x128 bias shapeCasts_S1x32x128_S32x128))
    (broadcast S32x128 (Named.named κ "mask" 0xF149F2CA#32))

/-- The masked scores against the new keys. -/
def fresh (kS : FVec Ideal S16x64 .bf16) (mask : IVec S32x16 1) (q : FVec Ideal S1x1x32x64 .f32)
    (bias : FVec Ideal S1x32x16 .f32) : FVec Ideal S32x16 .f32 :=
  select mask
    (addf (matmul dot_S32x64_S16x64_S32x16_1_1_0_0_n_n none (scaled q) kS (constant S32x16 .f32 0x00000000#32))
      (shapeCast S32x16 bias shapeCasts_S1x32x16_S32x16))
    (broadcast S32x16 (Named.named κ "mask" 0xF149F2CA#32))

/-- The greatest of a row's scores of both groups and its sink. -/
def peak (a : FVec Ideal S32x128 .f32) (b : FVec Ideal S32x16 .f32) (sk : FVec Ideal S1x32x1 .f32) : FVec Ideal S32x1 .f32 :=
  maximumf
    (maximumf
      (shapeCast S32x1 (multiReduction .maximumf [1] S32 a 0xFF800000#32 reduces_S32x128_S32 (.inl rfl) rfl) shapeCasts_S32_S32x1)
      (shapeCast S32x1 (multiReduction .maximumf [1] S32 b 0xFF800000#32 reduces_S32x16_S32 (.inl rfl) rfl) shapeCasts_S32_S32x1))
    (shapeCast S32x1 sk shapeCasts_S1x32x1_S32x1)

/-- The exponentials of the kept keys' scores below the peak. -/
def upA (a : FVec Ideal S32x128 .f32) (p : FVec Ideal S32x1 .f32) : FVec Ideal S32x128 .f32 :=
  exp (subf a (broadcastTo S32x128 p broadcasts_S32x1_S32x128))

/-- The exponentials of the new keys' scores below the peak. -/
def upB (b : FVec Ideal S32x16 .f32) (p : FVec Ideal S32x1 .f32) : FVec Ideal S32x16 .f32 :=
  exp (subf b (broadcastTo S32x16 p broadcasts_S32x1_S32x16))

/-- One head's result from its scores, its sinks and the sliced values of both groups. -/
def head (a : FVec Ideal S32x128 .f32) (b : FVec Ideal S32x16 .f32) (sk : FVec Ideal S1x32x1 .f32)
    (vA : FVec Ideal S128x64 .bf16) (vB : FVec Ideal S16x64 .bf16) : FVec Ideal S1x1x32x64 .f32 :=
  shapeCast S1x1x32x64
    (divf
      (addf
        (matmul dot_S32x128_S128x64_S32x64_1_0_0_1_n_n none (truncf .bf16 (upA a (peak a b sk)) bitsLt_bf16_f32) vA
          (constant S32x64 .f32 0x00000000#32))
        (matmul dot_S32x16_S16x64_S32x64_1_0_0_1_n_n none (truncf .bf16 (upB b (peak a b sk)) bitsLt_bf16_f32) vB
          (constant S32x64 .f32 0x00000000#32)))
      (broadcastTo S32x64
        (addf
          (addf
            (shapeCast S32x1 (multiReduction .add [1] S32 (upA a (peak a b sk)) 0x00000000#32 reduces_S32x128_S32 (.inl rfl) rfl)
              shapeCasts_S32_S32x1)
            (shapeCast S32x1 (multiReduction .add [1] S32 (upB b (peak a b sk)) 0x00000000#32 reduces_S32x16_S32 (.inl rfl) rfl)
              shapeCasts_S32_S32x1))
          (exp (subf (shapeCast S32x1 sk shapeCasts_S1x32x1_S32x1) (peak a b sk))))
        broadcasts_S32x1_S32x64))
    shapeCasts_S32x64_S1x1x32x64

/-- A score against a kept key. -/
theorem kept_at (kS mask q bias) (r : Fin 32) (c : Fin 128) :
    kept kS mask q bias (ix2 r c) = Scalar.select (mask (ix2 r c))
      ((∑ x, q (ix4 0 0 r x) * Ideal.ofBits .f32 0x3E000000#32 * kS (ix2 c x)) + bias (ix3 0 r c))
      (Named.named κ "mask" 0xF149F2CA#32) := by
  pointwise [kept, scaled]

/-- A score against a new key. -/
theorem fresh_at (kS mask q bias) (r : Fin 32) (c : Fin 16) :
    fresh kS mask q bias (ix2 r c) = Scalar.select (mask (ix2 r c))
      ((∑ x, q (ix4 0 0 r x) * Ideal.ofBits .f32 0x3E000000#32 * kS (ix2 c x)) + bias (ix3 0 r c))
      (Named.named κ "mask" 0xF149F2CA#32) := by
  pointwise [fresh, scaled]

/-- The peak of a row of both groups. -/
theorem peak_at (a b sk) (r : Fin 32) :
    peak a b sk (ix2 r 0) = max (max ((Finset.univ : Finset (Fin 128)).fold max (Ideal.ofBits .f32 0xFF800000#32) fun x => a (ix2 r x))
        ((Finset.univ : Finset (Fin 16)).fold max (Ideal.ofBits .f32 0xFF800000#32) fun x => b (ix2 r x))) (sk (ix3 0 r 0)) := by
  pointwise [peak]

/-- An exponential of a kept key's score. -/
theorem upA_at (a p) (r : Fin 32) (x : Fin 128) : upA a p (ix2 r x) = Ideal.exp (a (ix2 r x) - p (ix2 r 0)) := by
  pointwise [upA]

/-- An exponential of a new key's score. -/
theorem upB_at (b p) (r : Fin 32) (x : Fin 16) : upB b p (ix2 r x) = Ideal.exp (b (ix2 r x) - p (ix2 r 0)) := by
  pointwise [upB]

/-- An entry of one head's result. -/
theorem head_at (a b sk vA vB) (r : Fin 32) (e : Fin 64) :
    head a b sk vA vB (ix4 0 0 r e) =
      Ideal.div ((∑ x, upA a (peak a b sk) (ix2 r x) * vA (ix2 x e)) + ∑ x, upB b (peak a b sk) (ix2 r x) * vB (ix2 x e))
        (((∑ x, upA a (peak a b sk) (ix2 r x)) + ∑ x, upB b (peak a b sk) (ix2 r x))
          + Ideal.exp (sk (ix3 0 r 0) - peak a b sk (ix2 r 0))) := by
  pointwise [head]

/-- An entry of the reference's weighted values, spelt by the scores. -/
theorem mix_weights_at (s : FVec Ideal Cert.Reference6Ideal.S32x64x4x132 .f32) (sk : FVec Ideal Cert.Reference6Ideal.S64 .f32)
    (v : FVec Ideal Cert.Reference6Ideal.S32x132x64x64 .f32) (n : Fin 32) (g : Fin 8) (r : Fin 32) (e : Fin 64)
    (h : Fin 64) (t : Fin 4) (eh : h.val = g.val * 8 + r.val / 4) (et : t.val = r.val % 4) :
    Cert.Reference6Ideal.Parts.mix (Cert.Reference6Ideal.Parts.weights s sk) v (ix4 n g r e)
      = ∑ x, v (ix4 n x h e) *
          Ideal.div (Ideal.exp (s (ix4 n h t x) - max ((Finset.univ : Finset (Fin 132)).fold max (Ideal.ofBits .f32 0xFF800000#32) fun x => s (ix4 n h t x)) (sk (ix1 h))))
        ((∑ x, Ideal.exp (s (ix4 n h t x) - max ((Finset.univ : Finset (Fin 132)).fold max (Ideal.ofBits .f32 0xFF800000#32) fun x => s (ix4 n h t x)) (sk (ix1 h))))
          + Ideal.exp (sk (ix1 h) - max ((Finset.univ : Finset (Fin 132)).fold max (Ideal.ofBits .f32 0xFF800000#32) fun x => s (ix4 n h t x)) (sk (ix1 h)))) := by
  have e₁ : (⟨g.val * 8 + r.val / 4, by omega⟩ : Fin 64) = h := Fin.ext eh.symm
  have e₂ : (⟨r.val % 4, by omega⟩ : Fin 4) = t := Fin.ext et.symm
  rw [Cert.Reference6Ideal.Parts.mix_at, e₁, e₂]
  refine Finset.sum_congr rfl fun x _ => ?_
  simp only [Cert.Reference6Ideal.Parts.weights_at, Cert.Reference6Ideal.Parts.raised_at, Cert.Reference6Ideal.Parts.mass_at,
    Cert.Reference6Ideal.Parts.peak_at, Cert.Reference6Ideal.Parts.rowMax_at, Cert.Reference6Ideal.Parts.sinkRows_at]

/-- The reference's queries of real rows are real. -/
theorem queries_proper (A : FVec Ideal S8320x5120 .f32)
    (hA : ∀ (i : Fin 8320) (j : Fin 5120), 8192 ≤ i.val → j.val < 4608 → Soft.Proper (A (ix2 i j)))
    (n : Fin 32) (t : Fin 4) (h e : Fin 64) : Soft.Proper (Cert.Reference6Ideal.Parts.queries A (ix4 n t h e)) := by
  rw [Cert.Reference6Ideal.Parts.queries_at]
  exact hA _ _ (by show 8192 ≤ 8192 + (n.val * 4 + t.val); omega) (by show h.val * 64 + e.val < 4608; omega)

/-- The reference's keys of real rows and a real store are real. -/
theorem keys_proper (A : FVec Ideal S8320x5120 .f32) (C : FVec Ideal S32x128x8x64 .f32)
    (hA : ∀ (i : Fin 8320) (j : Fin 5120), 8192 ≤ i.val → j.val < 4608 → Soft.Proper (A (ix2 i j)))
    (hC : ∀ (i : Fin 32) (j : Fin 128) (k : Fin 8) (l : Fin 64), Soft.Proper (C (ix4 i j k l)))
    (n : Fin 32) (x : Fin 132) (h e : Fin 64) : Soft.Proper (Cert.Reference6Ideal.Parts.keys A C (ix4 n x h e)) := by
  rw [Cert.Reference6Ideal.Parts.keys_at]
  split_ifs
  · exact hC _ _ _ _
  · exact hA _ _ (by show 8192 ≤ 8192 + (n.val * 4 + (x.val - 128)); omega)
      (by show 4096 + (h.val / 8 * 64 + e.val) < 4608; omega)

/-- The reference's biases are entries of its table. -/
theorem bias_proper (R : FVec Ideal S32x64 .f32) (hR : ∀ (i : Fin 32) (j : Fin 64), Soft.Proper (R (ix2 i j)))
    (h : Fin 64) (t : Fin 4) (x : Fin 132) : Soft.Proper (Cert.Reference6Ideal.Parts.bias R (ix3 h t x)) := by
  rw [Cert.Reference6Ideal.Parts.bias_at]
  exact hR _ _

/-- One head of the kernel is the reference's attention of the same sequence, head and token. -/
theorem piece (A : FVec Ideal S8320x5120 .f32) (C W : FVec Ideal S32x128x8x64 .f32) (Sk : FVec Ideal S64 .f32) (R : FVec Ideal S32x64 .f32)
    (hA : ∀ (i : Fin 8320) (j : Fin 5120), 8192 ≤ i.val → j.val < 4608 → Soft.Proper (A (ix2 i j)))
    (hC : ∀ (i : Fin 32) (j : Fin 128) (k : Fin 8) (l : Fin 64), Soft.Proper (C (ix4 i j k l)))
    (hS : ∀ i : Fin 64, Soft.Proper (Sk (ix1 i)))
    (hR : ∀ (i : Fin 32) (j : Fin 64), Soft.Proper (R (ix2 i j)))
    (n : Fin 32) (g : Fin 8) (kA vA : FVec Ideal S128x64 .bf16) (kB vB : FVec Ideal S16x64 .bf16)
    (mA : IVec S32x128 1) (mB : IVec S32x16 1) (q : FVec Ideal S1x1x32x64 .f32)
    (bA : FVec Ideal S1x32x128 .f32) (bB : FVec Ideal S1x32x16 .f32) (sk : FVec Ideal S1x32x1 .f32) (r : Fin 32) (e : Fin 64)
    (h : Fin 64) (t : Fin 4) (eh : h.val = g.val * 8 + r.val / 4) (et : t.val = r.val % 4)
    (kq : ∀ d, q (ix4 0 0 r d) = Cert.Reference6Ideal.Parts.queries A (ix4 n t h d))
    (kmA : ∀ x : Fin 128, mA (ix2 r x) = Cert.Reference6Ideal.Parts.mask (ix4 n h t ⟨x.val, by omega⟩))
    (kmB : ∀ (x : Fin 16) (hx : x.val < 4), mB (ix2 r x) = Cert.Reference6Ideal.Parts.mask (ix4 n h t ⟨128 + x.val, by omega⟩))
    (kmZ : ∀ (x : Fin 16), ¬ x.val < 4 → mB (ix2 r x) = 0#1)
    (kkA : ∀ (x : Fin 128) d, kA (ix2 x d) = Cert.Reference6Ideal.Parts.keys A C (ix4 n ⟨x.val, by omega⟩ h d))
    (kkB : ∀ (x : Fin 16) (hx : x.val < 4) d, kB (ix2 x d) = Cert.Reference6Ideal.Parts.keys A C (ix4 n ⟨128 + x.val, by omega⟩ h d))
    (kvA : ∀ (x : Fin 128), vA (ix2 x e) = Cert.Reference6Ideal.Parts.vals A W (ix4 n ⟨x.val, by omega⟩ h e))
    (kvB : ∀ (x : Fin 16) (hx : x.val < 4), vB (ix2 x e) = Cert.Reference6Ideal.Parts.vals A W (ix4 n ⟨128 + x.val, by omega⟩ h e))
    (kbA : ∀ x : Fin 128, bA (ix3 0 r x) = Cert.Reference6Ideal.Parts.bias R (ix3 h t ⟨x.val, by omega⟩))
    (kbB : ∀ (x : Fin 16) (hx : x.val < 4), bB (ix3 0 r x) = Cert.Reference6Ideal.Parts.bias R (ix3 h t ⟨128 + x.val, by omega⟩))
    (ks : sk (ix3 0 r 0) = Sk (ix1 h)) :
    head (kept kA mA q bA) (fresh kB mB q bB) sk vA vB (ix4 0 0 r e)
      = Cert.Reference6Ideal.Parts.attention A C W Sk R (ix4 n g r e) := by
  unfold Cert.Reference6Ideal.Parts.attention
  rw [head_at, mix_weights_at _ _ _ n g r e h t eh et]
  simp only [upA_at, upB_at, ks, lit_bot]
  refine Soft.attend_two
    (fun x => Cert.Reference6Ideal.Parts.scores (Cert.Reference6Ideal.Parts.queries A) (Cert.Reference6Ideal.Parts.keys A C)
          (Cert.Reference6Ideal.Parts.bias R) (ix4 n h t x))
    (fun x => Cert.Reference6Ideal.Parts.vals A W (ix4 n x h e))
    (fun x => kept kA mA q bA (ix2 r x)) (fun x => vA (ix2 x e))
    (fun x => fresh kB mB q bB (ix2 r x)) (fun x => vB (ix2 x e)) (Sk (ix1 h)) ?_ ?_ kvA kvB ?_ (hS h).1 (hS h).2 _ ?_
  · intro x
    show kept kA mA q bA (ix2 r x) = Cert.Reference6Ideal.Parts.scores _ _ _ _
    rw [kept_at, Cert.Reference6Ideal.Parts.scores_at, kmA, lit_mask, lit_bot, select_one, select_one]
    split_ifs with hm
    · rw [kbA, lit_eighth, Soft.sum_mul_real _ _ (by norm_num)]
      refine congrArg (· + _) (Finset.sum_congr rfl fun d _ => ?_)
      rw [kq, kkA x d, mul_right_comm]
    · rfl
  · intro x
    show fresh kB mB q bB (ix2 r x) = _
    rw [fresh_at, lit_mask, select_one]
    by_cases hx : x.val < 4
    · rw [dif_pos hx]
      show _ = Cert.Reference6Ideal.Parts.scores _ _ _ _
      rw [Cert.Reference6Ideal.Parts.scores_at, kmB x hx, lit_bot, select_one]
      split_ifs with hm
      · rw [kbB x hx, lit_eighth, Soft.sum_mul_real _ _ (by norm_num)]
        refine congrArg (· + _) (Finset.sum_congr rfl fun d _ => ?_)
        rw [kq, kkB x hx d, mul_right_comm]
      · rfl
    · rw [dif_neg hx, kmZ x hx, if_neg (by decide)]
  · intro x
    show Cert.Reference6Ideal.Parts.scores _ _ _ _ ≠ ⊤
    rw [Cert.Reference6Ideal.Parts.scores_at, lit_bot, select_one]
    split_ifs with hm
    · refine (Soft.fin_add _ _ (Soft.fin_mul _ _ (Soft.fin_sum _ fun d => Soft.fin_mul _ _ (queries_proper A hA n t h d) (keys_proper A C hA hC n x h d)) ?_)
        (bias_proper R hR h t x)).1
      rw [lit_eighth]
      exact ⟨EReal.coe_ne_top _, EReal.coe_ne_bot _⟩
    · exact bot_ne_top
  · rw [peak_at, ks, lit_bot]

end Cert.Kernel6Ideal.RefValue
-- ==== Proof.SampleHost.lean ====
module
public import proofs.«01_k».proof.Proof.SampleBias
public import proofs.«01_k».proof.Proof.SampleHead
public import Idealize.ShloMosaic.Lib.Pipeline.ValueKit
public import Idealize.ShloMosaic.Lib.Pointwise
@[expose] public section

/-! The operands that the host leaves for the kernel of the sample group. -/

set_option maxRecDepth 16384
noncomputable section
open Idealize.ShloMosaic Idealize.ShloMosaic.TcCoe Idealize.SL.Sem
open Idealize.ShloMosaic.Pipeline (Dat)
namespace Cert.Kernel6Ideal.RefValue
open Cert.Kernel6Ideal Cert.Kernel6Ideal.Gen
variable (m : (ℓ : Loc nD τ sig) → Buf (Elt Ideal) ℓ)

set_option maxHeartbeats 4000000 in
/-- The host computes the biases for the kept keys. -/
theorem V_biasA (c : Dev nD) : V m c main_v67 = shapeCast S8x32x128 (biasA (m ((c.tc : Thread nD τ).loc main_arg4))) shapeCasts_S64x4x128_S8x32x128 := by
  show StableHlo.after _ _ _ = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  simp only [Idealize.ShloMosaic.StableHlo.after_cons, Idealize.ShloMosaic.StableHlo.after_nil]
  after_results_simp
  rfl

set_option maxHeartbeats 4000000 in
/-- The host computes the biases for the new keys. -/
theorem V_biasB (c : Dev nD) : V m c main_v75 = shapeCast S8x32x16 (biasB (m ((c.tc : Thread nD τ).loc main_arg4))) shapeCasts_S64x4x16_S8x32x16 := by
  show StableHlo.after _ _ _ = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  simp only [Idealize.ShloMosaic.StableHlo.after_cons, Idealize.ShloMosaic.StableHlo.after_nil]
  after_results_simp
  rfl

set_option maxHeartbeats 4000000 in
/-- The host lays the queries out by key head. -/
theorem V_qs (c : Dev nD) : V m c main_v79 = qs (m ((c.tc : Thread nD τ).loc main_arg0)) := by
  show StableHlo.after _ _ _ = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  simp only [Idealize.ShloMosaic.StableHlo.after_cons, Idealize.ShloMosaic.StableHlo.after_nil]
  after_results_simp
  rfl

set_option maxHeartbeats 4000000 in
/-- The host pads the new keys. -/
theorem V_newK (c : Dev nD) : V m c main_v87 = padded (extractStridedSlice S128x512 ![8192, 4096] (m ((c.tc : Thread nD τ).loc main_arg0)) slices_S8320x5120_S128x512_8192_4096) := by
  show StableHlo.after _ _ _ = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  simp only [Idealize.ShloMosaic.StableHlo.after_cons, Idealize.ShloMosaic.StableHlo.after_nil]
  after_results_simp
  rfl

set_option maxHeartbeats 4000000 in
/-- The host pads the new values. -/
theorem V_newV (c : Dev nD) : V m c main_v88 = padded (extractStridedSlice S128x512 ![8192, 4608] (m ((c.tc : Thread nD τ).loc main_arg0)) slices_S8320x5120_S128x512_8192_4608) := by
  show StableHlo.after _ _ _ = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  simp only [Idealize.ShloMosaic.StableHlo.after_cons, Idealize.ShloMosaic.StableHlo.after_nil]
  after_results_simp
  rfl

set_option maxHeartbeats 4000000 in
/-- The host flattens the heads of the kept keys. -/
theorem V_oldK (c : Dev nD) : V m c main_v89 = shapeCast S32x128x512 (m ((c.tc : Thread nD τ).loc main_arg1)) shapeCasts_S32x128x8x64_S32x128x512 := by
  show StableHlo.after _ _ _ = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  simp only [Idealize.ShloMosaic.StableHlo.after_cons, Idealize.ShloMosaic.StableHlo.after_nil]
  after_results_simp
  rfl

set_option maxHeartbeats 4000000 in
/-- The host flattens the heads of the kept values. -/
theorem V_oldV (c : Dev nD) : V m c main_v90 = shapeCast S32x128x512 (m ((c.tc : Thread nD τ).loc main_arg2)) shapeCasts_S32x128x8x64_S32x128x512 := by
  show StableHlo.after _ _ _ = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  simp only [Idealize.ShloMosaic.StableHlo.after_cons, Idealize.ShloMosaic.StableHlo.after_nil]
  after_results_simp
  rfl

set_option maxHeartbeats 4000000 in
/-- The host repeats every sink for its tokens. -/
theorem V_sinks (c : Dev nD) : V m c main_v86 = sinks (m ((c.tc : Thread nD τ).loc main_arg3)) := by
  show StableHlo.after _ _ _ = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  simp only [Idealize.ShloMosaic.StableHlo.after_cons, Idealize.ShloMosaic.StableHlo.after_nil]
  after_results_simp
  rfl

end Cert.Kernel6Ideal.RefValue
-- ==== Proof.SamplePieces.lean ====
module
public import proofs.«01_k».proof.Proof.SampleHost
public import Idealize.ShloMosaic.Lib.Pipeline.ValueKit
public import Idealize.ShloMosaic.Lib.Pointwise
@[expose] public section

/-! The eight pieces of a point's result, one per key head, and what they are made of. -/

set_option maxRecDepth 16384
noncomputable section
open Idealize.ShloMosaic Idealize.ShloMosaic.TcCoe Idealize.SL.Sem
open Idealize.ShloMosaic.Pipeline (Dat)
namespace Cert.Kernel6Ideal.RefValue
open Cert.Kernel6Ideal Cert.Kernel6Ideal.Gen
variable (m : (ℓ : Loc nD τ sig) → Buf (Elt Ideal) ℓ)

/-- Key head 0's piece is the head of its slices. -/
theorem piece0_eq (v2 v5 v8 v11 mA i j k q bA bB sk) : k0_pay16 (F := Ideal) v5 v11 (k0_pay11 (F := Ideal) v2 mA q bA) (k0_pay12 (F := Ideal) v8 i j k q bB) (k0_pay13 (F := Ideal) sk) (k0_pay14 (F := Ideal) v2 mA q bA) (k0_pay15 (F := Ideal) v8 i j k q bB)
    = head (kept (extractStridedSlice S128x64 ![0, 0] v2 slices_S128x512_o0_0_S128x64) mA q bA)
        (fresh (extractStridedSlice S16x64 ![0, 0] v8 slices_S16x512_o0_0_S16x64) (k0_pay9 i j k) q bB) sk
        (extractStridedSlice S128x64 ![0, 0] v5 slices_S128x512_o0_0_S128x64)
        (extractStridedSlice S16x64 ![0, 0] v11 slices_S16x512_o0_0_S16x64) := rfl

/-- Key head 1's piece is the head of its slices. -/
theorem piece1_eq (v2 v5 v8 v11 mA mB q bA bB sk) : k0_pay20 (F := Ideal) v5 v11 mA mB (k0_pay18 (F := Ideal) v2 q bA) (k0_pay19 (F := Ideal) v8 q) bB sk
    = head (kept (extractStridedSlice S128x64 ![0, 64] v2 slices_S128x512_o0_64_S128x64) mA q bA)
        (fresh (extractStridedSlice S16x64 ![0, 64] v8 slices_S16x512_o0_64_S16x64) mB q bB) sk
        (extractStridedSlice S128x64 ![0, 64] v5 slices_S128x512_o0_64_S128x64)
        (extractStridedSlice S16x64 ![0, 64] v11 slices_S16x512_o0_64_S16x64) := rfl

/-- Key head 2's piece is the head of its slices. -/
theorem piece2_eq (v2 v5 v8 v11 mA mB q bA bB sk) : k0_pay30 (F := Ideal) v5 v11 (k0_pay26 (F := Ideal) v2 v8 mA mB q bA bB sk) (k0_pay27 (F := Ideal) v2 v8 mA mB q bA bB sk) (k0_pay28 (F := Ideal) v2 v8 mA mB q bA bB sk) (k0_pay29 (F := Ideal) v2 v8 mA mB q bA bB sk)
    = head (kept (extractStridedSlice S128x64 ![0, 128] v2 slices_S128x512_o0_128_S128x64) mA q bA)
        (fresh (extractStridedSlice S16x64 ![0, 128] v8 slices_S16x512_o0_128_S16x64) mB q bB) sk
        (extractStridedSlice S128x64 ![0, 128] v5 slices_S128x512_o0_128_S128x64)
        (extractStridedSlice S16x64 ![0, 128] v11 slices_S16x512_o0_128_S16x64) := rfl

/-- Key head 3's piece is the head of its slices. -/
theorem piece3_eq (v2 v5 v8 v11 mA mB q bA bB sk) : k0_pay35 (F := Ideal) v5 v11 (k0_pay32 (F := Ideal) v2 mA q bA) (k0_pay33 (F := Ideal) v8 mB q bB) (k0_pay34 (F := Ideal) sk)
    = head (kept (extractStridedSlice S128x64 ![0, 192] v2 slices_S128x512_o0_192_S128x64) mA q bA)
        (fresh (extractStridedSlice S16x64 ![0, 192] v8 slices_S16x512_o0_192_S16x64) mB q bB) sk
        (extractStridedSlice S128x64 ![0, 192] v5 slices_S128x512_o0_192_S128x64)
        (extractStridedSlice S16x64 ![0, 192] v11 slices_S16x512_o0_192_S16x64) := rfl

/-- Key head 4's piece is the head of its slices. -/
theorem piece4_eq (v2 v5 v8 v11 mA mB q bA bB sk) : k0_pay39 (F := Ideal) (k0_pay38 (F := Ideal) v5 v8 v11 mA mB (k0_pay36 (F := Ideal) q) (k0_pay37 (F := Ideal) v2 q) bA bB sk)
    = head (kept (extractStridedSlice S128x64 ![0, 256] v2 slices_S128x512_o0_256_S128x64) mA q bA)
        (fresh (extractStridedSlice S16x64 ![0, 256] v8 slices_S16x512_o0_256_S16x64) mB q bB) sk
        (extractStridedSlice S128x64 ![0, 256] v5 slices_S128x512_o0_256_S128x64)
        (extractStridedSlice S16x64 ![0, 256] v11 slices_S16x512_o0_256_S16x64) := rfl

/-- Key head 5's piece is the head of its slices. -/
theorem piece5_eq (v2 v5 v8 v11 mA mB q bA bB sk) : k0_pay48 (F := Ideal) v5 v11 (k0_pay43 (F := Ideal) sk) (k0_pay44 (F := Ideal) v2 v8 mA mB q bA bB sk) (k0_pay45 (F := Ideal) v2 v8 mA mB q bA bB sk) (k0_pay46 (F := Ideal) v2 v8 mA mB q bA bB sk) (k0_pay47 (F := Ideal) v2 v8 mA mB q bA bB sk)
    = head (kept (extractStridedSlice S128x64 ![0, 320] v2 slices_S128x512_o0_320_S128x64) mA q bA)
        (fresh (extractStridedSlice S16x64 ![0, 320] v8 slices_S16x512_o0_320_S16x64) mB q bB) sk
        (extractStridedSlice S128x64 ![0, 320] v5 slices_S128x512_o0_320_S128x64)
        (extractStridedSlice S16x64 ![0, 320] v11 slices_S16x512_o0_320_S16x64) := rfl

/-- Key head 6's piece is the head of its slices. -/
theorem piece6_eq (v2 v5 v8 v11 mA mB q bA bB sk) : k0_pay53 (F := Ideal) v5 v11 mB (k0_pay50 (F := Ideal) v8 q bB) (k0_pay51 (F := Ideal) v2 mA q bA) (k0_pay52 (F := Ideal)) sk
    = head (kept (extractStridedSlice S128x64 ![0, 384] v2 slices_S128x512_o0_384_S128x64) mA q bA)
        (fresh (extractStridedSlice S16x64 ![0, 384] v8 slices_S16x512_o0_384_S16x64) mB q bB) sk
        (extractStridedSlice S128x64 ![0, 384] v5 slices_S128x512_o0_384_S128x64)
        (extractStridedSlice S16x64 ![0, 384] v11 slices_S16x512_o0_384_S16x64) := rfl

/-- Key head 7's piece is the head of its slices. -/
theorem piece7_eq (v2 v5 v8 v11 mA mB q bA bB sk) : k0_pay1 (F := Ideal) (k0_pay62 (F := Ideal) v8 mA mB (k0_pay54 (F := Ideal) q) (k0_pay55 (F := Ideal) v2) bA bB sk) (k0_pay63 (F := Ideal) v5 v8 mA mB (k0_pay54 (F := Ideal) q) (k0_pay55 (F := Ideal) v2) bA bB sk) (k0_pay64 (F := Ideal) v8 v11 mA mB (k0_pay54 (F := Ideal) q) (k0_pay55 (F := Ideal) v2) bA bB sk)
    = head (kept (extractStridedSlice S128x64 ![0, 448] v2 slices_S128x512_o0_448_S128x64) mA q bA)
        (fresh (extractStridedSlice S16x64 ![0, 448] v8 slices_S16x512_o0_448_S16x64) mB q bB) sk
        (extractStridedSlice S128x64 ![0, 448] v5 slices_S128x512_o0_448_S128x64)
        (extractStridedSlice S16x64 ![0, 448] v11 slices_S16x512_o0_448_S16x64) := rfl

/-- The grid has 32 points. -/
theorem t_lt (t : Fin cfg0.N) : t.val < 32 := lt_of_lt_of_eq t.isLt (by decide +kernel)

/-- Where every window's block stands at every point. -/
theorem blocks_at : ∀ t : Fin cfg0.N, win0_0.index t = ![t.val, 0, 0, 0] ∧ win0_1.index t = ![t.val, 0, 0] ∧ win0_2.index t = ![t.val, 0, 0]
    ∧ win0_3.index t = ![t.val, 0, 0] ∧ win0_4.index t = ![t.val, 0, 0] ∧ win0_5.index t = ![0, 0, 0]
    ∧ win0_6.index t = ![0, 0, 0] ∧ win0_7.index t = ![0, 0, 0] ∧ win0_8.index t = ![t.val, 0, 0, 0] :=
  (by decide +kernel : ∀ t : Fin grid0.N, _)

/-- Which kept keys a row sees, by the kernel's remainder, and by the distance. -/
theorem seenA : ∀ (r : Fin 32) (x : Fin 128), k0_pay6 (ix2 r x)
    = IntOp.andi
      (IntOp.cmpi .sge (IntOp.subi (IntOp.addi (BitVec.ofNat 32 (r.val % 4)) 128#32) (BitVec.ofNat 32 x.val)) 0#32)
      (IntOp.cmpi .slt (IntOp.subi (IntOp.addi (BitVec.ofNat 32 (r.val % 4)) 128#32) (BitVec.ofNat 32 x.val)) 128#32) := by
  intro r x
  pointwise [k0_pay6]
  revert r x
  decide +kernel

/-- The kernel's mask of the new keys. -/
abbrev maskB : IVec S32x16 1 := k0_pay9 (Scalar.select (Scalar.cmpi .eq 4#32 0#32) 1#32 4#32) k0_pay7 k0_pay8

/-- Which new keys a row sees, by the kernel's remainder, and by the distance. -/
theorem seenB : ∀ (r : Fin 32) (x : Fin 16), maskB (ix2 r x)
    = if x.val < 4 then IntOp.andi
      (IntOp.cmpi .sge (IntOp.subi (IntOp.addi (BitVec.ofNat 32 (r.val % 4)) 128#32) (BitVec.ofNat 32 (128 + x.val))) 0#32)
      (IntOp.cmpi .slt (IntOp.subi (IntOp.addi (BitVec.ofNat 32 (r.val % 4)) 128#32) (BitVec.ofNat 32 (128 + x.val))) 128#32)
      else 0#1 := by
  intro r x
  pointwise [maskB, k0_pay9, k0_pay7, k0_pay8]
  revert r x
  decide +kernel

set_option maxHeartbeats 4000000 in
/-- A point's queries. -/
theorem q_at (c : Dev nD) (t : Fin cfg0.N) (n : Fin 32) (en : n.val = t.val) (g : Fin 8) (r : Fin 32) (d : Fin 64) :
    iblk m c 0 t (ix4 0 g r d) = V m c main_v79 (ix4 n g r d) := by
  obtain rfl : n = ⟨t.val, t_lt t⟩ := Fin.ext en
  blk_point [iblk, blocks_at t]

set_option maxHeartbeats 4000000 in
/-- A point's new keys. -/
theorem newK_at (c : Dev nD) (t : Fin cfg0.N) (n : Fin 32) (en : n.val = t.val) (x : Fin 16) (j : Fin 512) :
    k0_pay4 (F := Ideal) (iblk m c 1 t) (ix2 x j) = V m c main_v87 (ix3 n x j) := by
  obtain rfl : n = ⟨t.val, t_lt t⟩ := Fin.ext en
  pointwise [k0_pay4]
  blk_point [iblk, blocks_at t]

set_option maxHeartbeats 4000000 in
/-- A point's new values. -/
theorem newV_at (c : Dev nD) (t : Fin cfg0.N) (n : Fin 32) (en : n.val = t.val) (x : Fin 16) (j : Fin 512) :
    k0_pay5 (F := Ideal) (iblk m c 2 t) (ix2 x j) = V m c main_v88 (ix3 n x j) := by
  obtain rfl : n = ⟨t.val, t_lt t⟩ := Fin.ext en
  pointwise [k0_pay5]
  blk_point [iblk, blocks_at t]

set_option maxHeartbeats 4000000 in
/-- A point's kept keys. -/
theorem oldK_at (c : Dev nD) (t : Fin cfg0.N) (n : Fin 32) (en : n.val = t.val) (x : Fin 128) (j : Fin 512) :
    k0_pay2 (F := Ideal) (iblk m c 3 t) (ix2 x j) = V m c main_v89 (ix3 n x j) := by
  obtain rfl : n = ⟨t.val, t_lt t⟩ := Fin.ext en
  pointwise [k0_pay2]
  blk_point [iblk, blocks_at t]

set_option maxHeartbeats 4000000 in
/-- A point's kept values. -/
theorem oldV_at (c : Dev nD) (t : Fin cfg0.N) (n : Fin 32) (en : n.val = t.val) (x : Fin 128) (j : Fin 512) :
    k0_pay3 (F := Ideal) (iblk m c 4 t) (ix2 x j) = V m c main_v90 (ix3 n x j) := by
  obtain rfl : n = ⟨t.val, t_lt t⟩ := Fin.ext en
  pointwise [k0_pay3]
  blk_point [iblk, blocks_at t]

set_option maxHeartbeats 4000000 in
/-- A point's biases for the kept keys. -/
theorem bA_at (c : Dev nD) (t : Fin cfg0.N) (g : Fin 8) (r : Fin 32) (x : Fin 128) :
    iblk m c 5 t (ix3 g r x) = V m c main_v67 (ix3 g r x) := by
  blk_point [iblk, blocks_at t]

set_option maxHeartbeats 4000000 in
/-- A point's biases for the new keys. -/
theorem bB_at (c : Dev nD) (t : Fin cfg0.N) (g : Fin 8) (r : Fin 32) (x : Fin 16) :
    iblk m c 6 t (ix3 g r x) = V m c main_v75 (ix3 g r x) := by
  blk_point [iblk, blocks_at t]

set_option maxHeartbeats 4000000 in
/-- A point's sinks. -/
theorem sk_at (c : Dev nD) (t : Fin cfg0.N) (g : Fin 8) (r : Fin 32) :
    iblk m c 7 t (ix3 g r 0) = V m c main_v86 (ix3 g r 0) := by
  blk_point [iblk, blocks_at t]

/-- A column slice of kept rows reads the columns from its offset on. -/
theorem sliceA_at (K : FVec Ideal S128x512 .bf16) (o : ℕ) (w : S128x512.Slices ![0, o] S128x64) (x : Fin 128) (d : Fin 64) (j : Fin 512)
    (hj : j.val = o + d.val) : extractStridedSlice S128x64 ![0, o] K w (ix2 x d) = K (ix2 x j) := by
  unfold extractStridedSlice
  refine congrArg K ?_
  funext a
  rcases (by decide : ∀ a : Fin 2, a = 0 ∨ a = 1) a with rfl | rfl
  · exact Fin.ext (by show 0 + x.val = x.val; omega)
  · exact Fin.ext (by show o + d.val = j.val; omega)

/-- A column slice of new rows reads the columns from its offset on. -/
theorem sliceB_at (K : FVec Ideal S16x512 .bf16) (o : ℕ) (w : S16x512.Slices ![0, o] S16x64) (x : Fin 16) (d : Fin 64) (j : Fin 512)
    (hj : j.val = o + d.val) : extractStridedSlice S16x64 ![0, o] K w (ix2 x d) = K (ix2 x j) := by
  unfold extractStridedSlice
  refine congrArg K ?_
  funext a
  rcases (by decide : ∀ a : Fin 2, a = 0 ∨ a = 1) a with rfl | rfl
  · exact Fin.ext (by show 0 + x.val = x.val; omega)
  · exact Fin.ext (by show o + d.val = j.val; omega)

/-- A flattened store of kept rows, by its heads. -/
theorem flat_at (C : FVec Ideal S32x128x8x64 .f32) (n : Fin 32) (x : Fin 128) (g : Fin 8) (d : Fin 64) :
    shapeCast S32x128x512 C shapeCasts_S32x128x8x64_S32x128x512 (ix3 n x ⟨64 * g.val + d.val, by omega⟩) = C (ix4 n x g d) := by
  pointwise

/-- The biases for the kept keys, row by row. -/
theorem rowsA_at (b : FVec Ideal S64x4x128 .f32) (g : Fin 8) (r : Fin 32) (x : Fin 128) :
    shapeCast S8x32x128 b shapeCasts_S64x4x128_S8x32x128 (ix3 g r x) = b (ix3 ⟨g.val * 8 + r.val / 4, by omega⟩ ⟨r.val % 4, by omega⟩ x) := by
  pointwise

/-- The biases for the new keys, row by row. -/
theorem rowsB_at (b : FVec Ideal S64x4x16 .f32) (g : Fin 8) (r : Fin 32) (x : Fin 16) :
    shapeCast S8x32x16 b shapeCasts_S64x4x16_S8x32x16 (ix3 g r x) = b (ix3 ⟨g.val * 8 + r.val / 4, by omega⟩ ⟨r.val % 4, by omega⟩ x) := by
  pointwise

/-- New keys cut from the rows of the sample group. -/
theorem cutK_at (A : FVec Ideal S8320x5120 .f32) (i : Fin 128) (j : Fin 512) :
    extractStridedSlice S128x512 ![8192, 4096] A slices_S8320x5120_S128x512_8192_4096 (ix2 i j)
      = A (ix2 ⟨8192 + i.val, by omega⟩ ⟨4096 + j.val, by omega⟩) := by
  pointwise

/-- New values cut from the rows of the sample group. -/
theorem cutV_at (A : FVec Ideal S8320x5120 .f32) (i : Fin 128) (j : Fin 512) :
    extractStridedSlice S128x512 ![8192, 4608] A slices_S8320x5120_S128x512_8192_4608 (ix2 i j)
      = A (ix2 ⟨8192 + i.val, by omega⟩ ⟨4608 + j.val, by omega⟩) := by
  pointwise

end Cert.Kernel6Ideal.RefValue
-- ==== Proof.SampleTile.lean ====
module
public import proofs.«01_k».proof.Proof.SamplePieces
public import Idealize.ShloMosaic.Lib.Pipeline.ValueKit
public import Idealize.ShloMosaic.Lib.Pointwise
@[expose] public section

/-! One piece of a point's result is the reference's attention of one key head. -/

set_option maxRecDepth 16384
noncomputable section
open Idealize.ShloMosaic Idealize.ShloMosaic.TcCoe Idealize.SL.Sem
open Idealize.ShloMosaic.Pipeline (Dat)
namespace Cert.Kernel6Ideal.RefValue
open Cert.Kernel6Ideal Cert.Kernel6Ideal.Gen
variable (m : (ℓ : Loc nD τ sig) → Buf (Elt Ideal) ℓ)

/-- A key head's piece of a point is the reference's attention of the point's sequence and that key head. -/
theorem tile (c : Dev nD) (t : Fin cfg0.N) (n : Fin 32) (en : n.val = t.val)
    (hA : ∀ (i : Fin 8320) (j : Fin 5120), 8192 ≤ i.val → j.val < 4608 → Soft.Proper (m ((c.tc : Thread nD τ).loc main_arg0) (ix2 i j)))
    (hC : ∀ (i : Fin 32) (j : Fin 128) (k : Fin 8) (l : Fin 64), Soft.Proper (m ((c.tc : Thread nD τ).loc main_arg1) (ix4 i j k l)))
    (hS : ∀ i : Fin 64, Soft.Proper (m ((c.tc : Thread nD τ).loc main_arg3) (ix1 i)))
    (hR : ∀ (i : Fin 32) (j : Fin 64), Soft.Proper (m ((c.tc : Thread nD τ).loc main_arg4) (ix2 i j)))
    (g : Fin 8) (o : ℕ) (ho : o = 64 * g.val) (w : S128x512.Slices ![0, o] S128x64) (w' : S16x512.Slices ![0, o] S16x64)
    (x : S1x1x32x64.Idx) (y : S1x8x32x64.Idx) (y1 : (y 1).val = g.val + (x 1).val) (y2 : (y 2).val = (x 2).val) (y3 : (y 3).val = (x 3).val)
    (q : FVec Ideal S1x1x32x64 .f32) (bA : FVec Ideal S1x32x128 .f32) (bB : FVec Ideal S1x32x16 .f32) (sk : FVec Ideal S1x32x1 .f32)
    (kq : ∀ (r : Fin 32) (d : Fin 64), q (ix4 0 0 r d) = iblk m c 0 t (ix4 0 g r d))
    (kA : ∀ (r : Fin 32) (z : Fin 128), bA (ix3 0 r z) = iblk m c 5 t (ix3 g r z))
    (kB : ∀ (r : Fin 32) (z : Fin 16), bB (ix3 0 r z) = iblk m c 6 t (ix3 g r z))
    (ks : ∀ (r : Fin 32), sk (ix3 0 r 0) = iblk m c 7 t (ix3 g r 0)) :
    head (kept (extractStridedSlice S128x64 ![0, o] (k0_pay2 (F := Ideal) (iblk m c 3 t)) w) k0_pay6 q bA)
        (fresh (extractStridedSlice S16x64 ![0, o] (k0_pay4 (F := Ideal) (iblk m c 1 t)) w') maskB q bB) sk
        (extractStridedSlice S128x64 ![0, o] (k0_pay3 (F := Ideal) (iblk m c 4 t)) w)
        (extractStridedSlice S16x64 ![0, o] (k0_pay5 (F := Ideal) (iblk m c 2 t)) w') x
      = Cert.Reference6Ideal.Parts.attention (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (ix4 n ⟨(y 1).val, (y 1).isLt⟩ ⟨(y 2).val, (y 2).isLt⟩ ⟨(y 3).val, (y 3).isLt⟩) := by
  obtain ⟨r, e, rfl⟩ : ∃ (r : Fin 32) (e : Fin 64), x = ix4 0 0 r e := by
    refine ⟨x 2, x 3, ?_⟩
    funext a
    rcases (by decide : ∀ a : Fin 4, a = 0 ∨ a = 1 ∨ a = 2 ∨ a = 3) a with rfl | rfl | rfl | rfl
    · exact Fin.ext (by have : (x 0).val < 1 := (x 0).isLt; show (x 0).val = 0; omega)
    · exact Fin.ext (by have : (x 1).val < 1 := (x 1).isLt; show (x 1).val = 0; omega)
    · rfl
    · rfl
  have z1 : (⟨(y 1).val, (y 1).isLt⟩ : Fin 8) = g := Fin.ext y1
  have z2 : (⟨(y 2).val, (y 2).isLt⟩ : Fin 32) = r := Fin.ext y2
  have z3 : (⟨(y 3).val, (y 3).isLt⟩ : Fin 64) = e := Fin.ext y3
  rw [show (ix4 n (⟨(y 1).val, (y 1).isLt⟩ : Fin 8) (⟨(y 2).val, (y 2).isLt⟩ : Fin 32) (⟨(y 3).val, (y 3).isLt⟩ : Fin 64)) = ix4 n g r e by
    rw [z1, z2, z3]]
  have eg : (g.val * 8 + r.val / 4) / 8 = g.val := by omega
  have eG : (⟨(g.val * 8 + r.val / 4) / 8, by omega⟩ : Fin 8) = g := Fin.ext eg
  refine piece _ _ _ _ _ hA hC hS hR n g _ _ _ _ _ _ _ _ _ _ r e ⟨g.val * 8 + r.val / 4, by omega⟩ ⟨r.val % 4, by omega⟩ rfl rfl
    ?_ ?_ ?_ ?_ ?_ ?_ ?_ ?_ ?_ ?_ ?_
  · intro d
    rw [kq, q_at m c t n en, V_qs, qs_at, Cert.Reference6Ideal.Parts.queries_at]
  · intro z
    rw [seenA, Cert.Reference6Ideal.Parts.mask_at]
  · intro z hz
    rw [seenB, if_pos hz, Cert.Reference6Ideal.Parts.mask_at]
  · intro z hz
    rw [seenB, if_neg hz]
  · intro z d
    rw [sliceA_at _ o w z d ⟨64 * g.val + d.val, by omega⟩ (by simp only []; omega), oldK_at m c t n en, V_oldK, flat_at,
      Cert.Reference6Ideal.Parts.keys_at, dif_pos (show (⟨z.val, by omega⟩ : Fin 132).val < 128 from z.isLt), eG]
  · intro z hz d
    rw [sliceB_at _ o w' z d ⟨64 * g.val + d.val, by omega⟩ (by simp only []; omega), newK_at m c t n en, V_newK, padded_at _ _ _ _ hz, cutK_at,
      Cert.Reference6Ideal.Parts.keys_at, dif_neg (show ¬ (128 + z.val) < 128 by omega)]
    exact congrArg _ (by congr 1 <;> exact Fin.ext (by simp only []; omega))
  · intro z
    rw [sliceA_at _ o w z e ⟨64 * g.val + e.val, by omega⟩ (by simp only []; omega), oldV_at m c t n en, V_oldV, flat_at,
      Cert.Reference6Ideal.Parts.vals_at, dif_pos (show (⟨z.val, by omega⟩ : Fin 132).val < 128 from z.isLt), eG]
  · intro z hz
    rw [sliceB_at _ o w' z e ⟨64 * g.val + e.val, by omega⟩ (by simp only []; omega), newV_at m c t n en, V_newV, padded_at _ _ _ _ hz, cutV_at,
      Cert.Reference6Ideal.Parts.vals_at, dif_neg (show ¬ (128 + z.val) < 128 by omega)]
    exact congrArg _ (by congr 1 <;> exact Fin.ext (by simp only []; omega))
  · intro z
    rw [kA, bA_at, V_biasA, rowsA_at, biasA_eq]
  · intro z hz
    rw [kB, bB_at, V_biasB, rowsB_at, biasB_eq _ _ _ _ hz]
  · rw [ks, sk_at, V_sinks, sinks_at]

end Cert.Kernel6Ideal.RefValue
-- ==== Proof.SamplePoint.lean ====
module
public import proofs.«01_k».proof.Proof.SampleTile
public import Idealize.ShloMosaic.Lib.Pipeline.ValueKit
public import Idealize.ShloMosaic.Lib.Pointwise
@[expose] public section

/-! A point of the sample attention's grid as a whole, and the array that the points leave. -/

set_option maxRecDepth 16384
noncomputable section
open Idealize.ShloMosaic Idealize.ShloMosaic.TcCoe Idealize.SL.Sem
open Idealize.ShloMosaic.Pipeline (Dat)
namespace Cert.Kernel6Ideal.RefValue
open Cert.Kernel6Ideal Cert.Kernel6Ideal.Gen
variable (m : (ℓ : Loc nD τ sig) → Buf (Elt Ideal) ℓ)

/-- The kept keys are read from their whole block. -/
theorem pay65 (x0 : Vec Ideal S1x8x32x64 .f32) (x1 : Vec Ideal S1x16x512 .f32) (x2 : Vec Ideal S1x16x512 .f32) (x3 : Vec Ideal S1x128x512 .f32) (x4 : Vec Ideal S1x128x512 .f32) (x5 : Vec Ideal S8x32x128 .f32) (x6 : Vec Ideal S8x32x16 .f32) (x7 : Vec Ideal S8x32x1 .f32) :
    k0_pay65 x0 x1 x2 x3 x4 x5 x6 x7 = k0_pay2 x3 := by
  show k0_pay2 (View.ld x3 r0_0) = _
  refine congrArg k0_pay2 (funext fun i => ?_)
  pointwise
  refine congrArg x3 (funext fun a => ?_)
  match a with
  | 0 => exact Subsingleton.elim (α := Fin 1) _ _
  | 1 => rfl
  | 2 => rfl

/-- The kept values are read from their whole block. -/
theorem pay66 (x0 : Vec Ideal S1x8x32x64 .f32) (x1 : Vec Ideal S1x16x512 .f32) (x2 : Vec Ideal S1x16x512 .f32) (x3 : Vec Ideal S1x128x512 .f32) (x4 : Vec Ideal S1x128x512 .f32) (x5 : Vec Ideal S8x32x128 .f32) (x6 : Vec Ideal S8x32x16 .f32) (x7 : Vec Ideal S8x32x1 .f32) :
    k0_pay66 x0 x1 x2 x3 x4 x5 x6 x7 = k0_pay3 x4 := by
  show k0_pay3 (View.ld x4 r0_0) = _
  refine congrArg k0_pay3 (funext fun i => ?_)
  pointwise
  refine congrArg x4 (funext fun a => ?_)
  match a with
  | 0 => exact Subsingleton.elim (α := Fin 1) _ _
  | 1 => rfl
  | 2 => rfl

/-- The new keys are read from their whole block. -/
theorem pay67 (x0 : Vec Ideal S1x8x32x64 .f32) (x1 : Vec Ideal S1x16x512 .f32) (x2 : Vec Ideal S1x16x512 .f32) (x3 : Vec Ideal S1x128x512 .f32) (x4 : Vec Ideal S1x128x512 .f32) (x5 : Vec Ideal S8x32x128 .f32) (x6 : Vec Ideal S8x32x16 .f32) (x7 : Vec Ideal S8x32x1 .f32) :
    k0_pay67 x0 x1 x2 x3 x4 x5 x6 x7 = k0_pay4 x1 := by
  show k0_pay4 (View.ld x1 r0_1) = _
  refine congrArg k0_pay4 (funext fun i => ?_)
  pointwise
  refine congrArg x1 (funext fun a => ?_)
  match a with
  | 0 => exact Subsingleton.elim (α := Fin 1) _ _
  | 1 => rfl
  | 2 => rfl

/-- The new values are read from their whole block. -/
theorem pay68 (x0 : Vec Ideal S1x8x32x64 .f32) (x1 : Vec Ideal S1x16x512 .f32) (x2 : Vec Ideal S1x16x512 .f32) (x3 : Vec Ideal S1x128x512 .f32) (x4 : Vec Ideal S1x128x512 .f32) (x5 : Vec Ideal S8x32x128 .f32) (x6 : Vec Ideal S8x32x16 .f32) (x7 : Vec Ideal S8x32x1 .f32) :
    k0_pay68 x0 x1 x2 x3 x4 x5 x6 x7 = k0_pay5 x2 := by
  show k0_pay5 (View.ld x2 r0_1) = _
  refine congrArg k0_pay5 (funext fun i => ?_)
  pointwise
  refine congrArg x2 (funext fun a => ?_)
  match a with
  | 0 => exact Subsingleton.elim (α := Fin 1) _ _
  | 1 => rfl
  | 2 => rfl

/-- The mask of the kept rows depends on no block. -/
theorem pay69 (x0 : Vec Ideal S1x8x32x64 .f32) (x1 : Vec Ideal S1x16x512 .f32) (x2 : Vec Ideal S1x16x512 .f32) (x3 : Vec Ideal S1x128x512 .f32) (x4 : Vec Ideal S1x128x512 .f32) (x5 : Vec Ideal S8x32x128 .f32) (x6 : Vec Ideal S8x32x16 .f32) (x7 : Vec Ideal S8x32x1 .f32) :
    k0_pay69 x0 x1 x2 x3 x4 x5 x6 x7 = k0_pay6 := rfl

/-- The mask of the new rows depends on no block. -/
theorem pay72 (x0 : Vec Ideal S1x8x32x64 .f32) (x1 : Vec Ideal S1x16x512 .f32) (x2 : Vec Ideal S1x16x512 .f32) (x3 : Vec Ideal S1x128x512 .f32) (x4 : Vec Ideal S1x128x512 .f32) (x5 : Vec Ideal S8x32x128 .f32) (x6 : Vec Ideal S8x32x16 .f32) (x7 : Vec Ideal S8x32x1 .f32) :
    k0_pay72 x0 x1 x2 x3 x4 x5 x6 x7 = maskB := rfl

/-- The queries of the first key head. -/
theorem pay73 (x0 : Vec Ideal S1x8x32x64 .f32) (x1 : Vec Ideal S1x16x512 .f32) (x2 : Vec Ideal S1x16x512 .f32) (x3 : Vec Ideal S1x128x512 .f32) (x4 : Vec Ideal S1x128x512 .f32) (x5 : Vec Ideal S8x32x128 .f32) (x6 : Vec Ideal S8x32x16 .f32) (x7 : Vec Ideal S8x32x1 .f32) :
    k0_pay73 x0 x1 x2 x3 x4 x5 x6 x7 = k0_pay54 (View.ld x0 r0_30) := rfl

/-- The kept keys of the first key head. -/
theorem pay74 (x0 : Vec Ideal S1x8x32x64 .f32) (x1 : Vec Ideal S1x16x512 .f32) (x2 : Vec Ideal S1x16x512 .f32) (x3 : Vec Ideal S1x128x512 .f32) (x4 : Vec Ideal S1x128x512 .f32) (x5 : Vec Ideal S8x32x128 .f32) (x6 : Vec Ideal S8x32x16 .f32) (x7 : Vec Ideal S8x32x1 .f32) :
    k0_pay74 x0 x1 x2 x3 x4 x5 x6 x7 = k0_pay55 (k0_pay2 x3) := congrArg k0_pay55 (pay65 x0 x1 x2 x3 x4 x5 x6 x7)

set_option maxHeartbeats 0 in
/-- A point of the grid stores the reference's attention of its sequence. -/
theorem point (c : Dev nD) (t : Fin cfg0.N) (n : Fin 32) (en : n.val = t.val)
    (pA : ∀ (i : Fin 8320) (j : Fin 5120), 8192 ≤ i.val → j.val < 4608 → Soft.Proper (m ((c.tc : Thread nD τ).loc main_arg0) (ix2 i j)))
    (pC : ∀ (i : Fin 32) (j : Fin 128) (k : Fin 8) (l : Fin 64), Soft.Proper (m ((c.tc : Thread nD τ).loc main_arg1) (ix4 i j k l)))
    (pS : ∀ i : Fin 64, Soft.Proper (m ((c.tc : Thread nD τ).loc main_arg3) (ix1 i)))
    (pR : ∀ (i : Fin 32) (j : Fin 64), Soft.Proper (m ((c.tc : Thread nD τ).loc main_arg4) (ix2 i j)))
    (y : S1x8x32x64.Idx) :
    (dats m 0 c).after 8 t y = Cert.Reference6Ideal.Parts.attention (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (ix4 n ⟨(y 1).val, (y 1).isLt⟩ ⟨(y 2).val, (y 2).isLt⟩ ⟨(y 3).val, (y 3).isLt⟩) := by
  rw [after0_8]
  frame_out
  canon_tiles x h
  case piece0 =>
    repeat first | rw [pay74] | rw [pay73] | rw [pay72] | rw [pay69] | rw [pay68] | rw [pay67] | rw [pay66] | rw [pay65]
    refine (congrFun (piece7_eq _ _ _ _ _ _ _ _ _ _) x).trans (tile m c t n en pA pC pS pR ⟨7, by decide⟩ 448 rfl slices_S128x512_o0_448_S128x64 slices_S16x512_o0_448_S16x64 x y h1 h2 h3 _ _ _ _ ?_ ?_ ?_ ?_)
    · intro r d; pointwise
    · intro r z; pointwise
    · intro r z; pointwise
    · intro r; pointwise
  case piece1 =>
    repeat first | rw [pay74] | rw [pay73] | rw [pay72] | rw [pay69] | rw [pay68] | rw [pay67] | rw [pay66] | rw [pay65]
    refine (congrFun (piece6_eq _ _ _ _ _ _ _ _ _ _) x).trans (tile m c t n en pA pC pS pR ⟨6, by decide⟩ 384 rfl slices_S128x512_o0_384_S128x64 slices_S16x512_o0_384_S16x64 x y h1 h2 h3 _ _ _ _ ?_ ?_ ?_ ?_)
    · intro r d; pointwise
    · intro r z; pointwise
    · intro r z; pointwise
    · intro r; pointwise
  case piece2 =>
    repeat first | rw [pay74] | rw [pay73] | rw [pay72] | rw [pay69] | rw [pay68] | rw [pay67] | rw [pay66] | rw [pay65]
    refine (congrFun (piece5_eq _ _ _ _ _ _ _ _ _ _) x).trans (tile m c t n en pA pC pS pR ⟨5, by decide⟩ 320 rfl slices_S128x512_o0_320_S128x64 slices_S16x512_o0_320_S16x64 x y h1 h2 h3 _ _ _ _ ?_ ?_ ?_ ?_)
    · intro r d; pointwise
    · intro r z; pointwise
    · intro r z; pointwise
    · intro r; pointwise
  case piece3 =>
    repeat first | rw [pay74] | rw [pay73] | rw [pay72] | rw [pay69] | rw [pay68] | rw [pay67] | rw [pay66] | rw [pay65]
    refine (congrFun (piece4_eq _ _ _ _ _ _ _ _ _ _) x).trans (tile m c t n en pA pC pS pR ⟨4, by decide⟩ 256 rfl slices_S128x512_o0_256_S128x64 slices_S16x512_o0_256_S16x64 x y h1 h2 h3 _ _ _ _ ?_ ?_ ?_ ?_)
    · intro r d; pointwise
    · intro r z; pointwise
    · intro r z; pointwise
    · intro r; pointwise
  case piece4 =>
    repeat first | rw [pay74] | rw [pay73] | rw [pay72] | rw [pay69] | rw [pay68] | rw [pay67] | rw [pay66] | rw [pay65]
    refine (congrFun (piece3_eq _ _ _ _ _ _ _ _ _ _) x).trans (tile m c t n en pA pC pS pR ⟨3, by decide⟩ 192 rfl slices_S128x512_o0_192_S128x64 slices_S16x512_o0_192_S16x64 x y h1 h2 h3 _ _ _ _ ?_ ?_ ?_ ?_)
    · intro r d; pointwise
    · intro r z; pointwise
    · intro r z; pointwise
    · intro r; pointwise
  case piece5 =>
    repeat first | rw [pay74] | rw [pay73] | rw [pay72] | rw [pay69] | rw [pay68] | rw [pay67] | rw [pay66] | rw [pay65]
    refine (congrFun (piece2_eq _ _ _ _ _ _ _ _ _ _) x).trans (tile m c t n en pA pC pS pR ⟨2, by decide⟩ 128 rfl slices_S128x512_o0_128_S128x64 slices_S16x512_o0_128_S16x64 x y h1 h2 h3 _ _ _ _ ?_ ?_ ?_ ?_)
    · intro r d; pointwise
    · intro r z; pointwise
    · intro r z; pointwise
    · intro r; pointwise
  case piece6 =>
    repeat first | rw [pay74] | rw [pay73] | rw [pay72] | rw [pay69] | rw [pay68] | rw [pay67] | rw [pay66] | rw [pay65]
    refine (congrFun (piece1_eq _ _ _ _ _ _ _ _ _ _) x).trans (tile m c t n en pA pC pS pR ⟨1, by decide⟩ 64 rfl slices_S128x512_o0_64_S128x64 slices_S16x512_o0_64_S16x64 x y h1 h2 h3 _ _ _ _ ?_ ?_ ?_ ?_)
    · intro r d; pointwise
    · intro r z; pointwise
    · intro r z; pointwise
    · intro r; pointwise
  case piece7 =>
    repeat first | rw [pay74] | rw [pay73] | rw [pay72] | rw [pay69] | rw [pay68] | rw [pay67] | rw [pay66] | rw [pay65]
    refine (congrFun (piece0_eq _ _ _ _ _ _ _ _ _ _ _ _) x).trans (tile m c t n en pA pC pS pR ⟨0, by decide⟩ 0 rfl slices_S128x512_o0_0_S128x64 slices_S16x512_o0_0_S16x64 x y (h1.trans (Nat.zero_add _).symm) h2 h3 _ _ _ _ ?_ ?_ ?_ ?_)
    · intro r d; pointwise
    · intro r z; pointwise
    · intro r z; pointwise
    · intro r; pointwise

/-- At the end of the grid the result is the reference's attention. -/
theorem final (c : Dev nD)
    (pA : ∀ (i : Fin 8320) (j : Fin 5120), 8192 ≤ i.val → j.val < 4608 → Soft.Proper (m ((c.tc : Thread nD τ).loc main_arg0) (ix2 i j)))
    (pC : ∀ (i : Fin 32) (j : Fin 128) (k : Fin 8) (l : Fin 64), Soft.Proper (m ((c.tc : Thread nD τ).loc main_arg1) (ix4 i j k l)))
    (pS : ∀ i : Fin 64, Soft.Proper (m ((c.tc : Thread nD τ).loc main_arg3) (ix1 i)))
    (pR : ∀ (i : Fin 32) (j : Fin 64), Soft.Proper (m ((c.tc : Thread nD τ).loc main_arg4) (ix2 i j))) :
    (dats m 0 c).arrAt 8 (cfgs 0).N
      = Cert.Reference6Ideal.Parts.attention (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  refine (dats m 0 c).arrAt_eq_of_covers 8 _ (by decide +kernel) fun t hf y => ?_
  blk_simp
  refine (point m c t ⟨t.val, t_lt t⟩ rfl pA pC pS pR y).trans ?_
  blk_ext [blocks_at t]

end Cert.Kernel6Ideal.RefValue
-- ==== Proof.SamplePrec.lean ====
module
public import proofs.«01_k».proof.Defs
public import proofs.«01_k».proof.Proof.Prec
public import Idealize.ShloMosaic.Lib.Pointwise
@[expose] public section

/-! The precondition of the sample group's attention, read: every entry it names is a real number. -/

set_option maxRecDepth 16384
noncomputable section
open Idealize.ShloMosaic

/-- The shapes of the sample group's precondition. -/
instance Cert.Pre_finite_sample.shapes : Cert.Pre_finite_sample.Facts where
  slices_S8320x5120_S128x4608_8192_0 := by decide
  bcast_S_S128x4608 := by decide
  bcast_S_S32x128x8x64 := by decide
  bcast_S_S64 := by decide
  bcast_S_S32x64 := by decide

namespace Cert.SamplePrec
open Cert.Pre_finite_sample Cert.Prec

/-- The queries and keys of the sample group are real numbers. -/
theorem rows_real (A : FVec Ideal S8320x5120 .f32) (K V : FVec Ideal S32x128x8x64 .f32) (Sk : FVec Ideal S64 .f32) (R : FVec Ideal S32x64 .f32)
    (h : (fn (F := Ideal) A K V Sk R).1 = fun _ => 1#1) (i : Fin 8320) (j : Fin 5120) (hi : 8192 ≤ i.val) (hj : j.val < 4608) :
    Soft.Proper (A (ix2 i j)) := by
  have e : A (ix2 i j) = A (ix2 (⟨8192 + (i.val - 8192), by omega⟩ : Fin 8320) j) :=
    congrArg (fun z : Fin 8320 => A (ix2 z j)) (Fin.ext (Nat.add_sub_of_le hi).symm)
  rw [e]
  refine proper_of _ (Eq.trans ?_ (congrFun h (ix2 (⟨i.val - 8192, by omega⟩ : Fin 128) (⟨j.val, hj⟩ : Fin 4608))))
  symm
  show andi _ _ _ = _
  pointwise

/-- The kept keys are real numbers. -/
theorem cache_real (A : FVec Ideal S8320x5120 .f32) (K V : FVec Ideal S32x128x8x64 .f32) (Sk : FVec Ideal S64 .f32) (R : FVec Ideal S32x64 .f32)
    (h : (fn (F := Ideal) A K V Sk R).2.1 = fun _ => 1#1) (i : Fin 32) (j : Fin 128) (k : Fin 8) (l : Fin 64) :
    Soft.Proper (K (ix4 i j k l)) := by
  refine proper_of _ (Eq.trans ?_ (congrFun h (ix4 i j k l)))
  symm
  show andi _ _ _ = _
  pointwise

/-- The sinks are real numbers. -/
theorem sinks_real (A : FVec Ideal S8320x5120 .f32) (K V : FVec Ideal S32x128x8x64 .f32) (Sk : FVec Ideal S64 .f32) (R : FVec Ideal S32x64 .f32)
    (h : (fn (F := Ideal) A K V Sk R).2.2.1 = fun _ => 1#1) (i : Fin 64) : Soft.Proper (Sk (ix1 i)) := by
  refine proper_of _ (Eq.trans ?_ (congrFun h (ix1 i)))
  symm
  show andi _ _ _ = _
  pointwise

/-- The biases are real numbers. -/
theorem table_real (A : FVec Ideal S8320x5120 .f32) (K V : FVec Ideal S32x128x8x64 .f32) (Sk : FVec Ideal S64 .f32) (R : FVec Ideal S32x64 .f32)
    (h : (fn (F := Ideal) A K V Sk R).2.2.2 = fun _ => 1#1) (i : Fin 32) (j : Fin 64) : Soft.Proper (R (ix2 i j)) := by
  refine proper_of _ (Eq.trans ?_ (congrFun h (ix2 i j)))
  symm
  show andi _ _ _ = _
  pointwise

end Cert.SamplePrec
end
-- ==== Proof.Sample.lean ====
module
public import proofs.«01_k».proof.Proof.Gen.Kernel6Ideal.Value
public import proofs.«01_k».proof.Proof.SamplePoint
public import proofs.«01_k».proof.Proof.SamplePrec
public import proofs.«01_k».proof.Proof.RefSample
@[expose] public section

/-! The value of the sample group's attention. -/

set_option maxRecDepth 16384
noncomputable section
open Idealize.ShloMosaic Idealize.ShloMosaic.TcCoe Idealize.SL.Sem
open Idealize.ShloMosaic.Pipeline (Dat)
namespace Cert.Kernel6Ideal.RefValue
open Cert.Kernel6Ideal Cert.Kernel6Ideal.Gen
variable (m : (ℓ : Loc nD τ sig) → Buf (Elt Ideal) ℓ)

/-- From finite queries, keys, sinks and biases the reference ends with the kernel's result. -/
theorem result (m' : (ℓ : Loc Cert.Reference6Ideal.nD Cert.Reference6Ideal.τ Cert.Reference6Ideal.sig) → Buf (Elt Ideal) ℓ)
    (hpre : Cert.Pre_Kernel6Ideal_finite_sample m)
    (hagree : ∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4))
    (c : Dev nD) :
    Cert.Reference6Ideal.Value.res_out0 m' c = (dats m 0 c).arrAt 8 (cfgs 0).N := by
  obtain ⟨a0, a1, a2, a3, a4⟩ := hagree c
  obtain ⟨p0, p1, p2, p3⟩ := hpre c
  rw [final m c (SamplePrec.rows_real _ _ _ _ _ p0) (SamplePrec.cache_real _ _ _ _ _ p1)
    (SamplePrec.sinks_real _ _ _ _ _ p2) (SamplePrec.table_real _ _ _ _ _ p3), Cert.Reference6Ideal.Parts.res_eq]
  rw [← a0, ← a1, ← a2, ← a3, ← a4]

end Cert.Kernel6Ideal.RefValue
-- ==== Proof.MixBits.lean ====
module
public import Idealize.ShloMosaic.Lib.Pointwise
@[expose] public section

/-! Comparisons of small numbers, and the sum over four rows of one sequence among 32. -/

set_option maxRecDepth 16384
noncomputable section
open Idealize.ShloMosaic

namespace Cert.Mixers

/-- One bit for a proposition. -/
def bit (p : Prop) [Decidable p] : BitVec 1 := if p then 1#1 else 0#1

/-- A choice by a bit of a proposition is a choice by the proposition. -/
theorem select_bit {α : Type} (p : Prop) [Decidable p] (a b : α) :
    Scalar.select (bit p) a b = if p then a else b := by
  unfold bit
  by_cases h : p
  · rw [if_pos h, if_pos h]; rfl
  · rw [if_neg h, if_neg h]; rfl

/-- A row is at or below the diagonal when its number is at least the column's. -/
theorem below : ∀ r s : Fin 128, IntOp.cmpi CmpIPredicate.sge (IntOp.addi (BitVec.ofNat 32 r.val) 0#32)
    (BitVec.ofNat 32 s.val) = bit (s.val ≤ r.val) := by decide +kernel

/-- Two sequences are the same when their numbers are. -/
theorem same : ∀ r s : Fin 32, IntOp.cmpi CmpIPredicate.eq (IntOp.addi (BitVec.ofNat 32 r.val) 0#32)
    (BitVec.ofNat 32 s.val) = bit (r.val = s.val) := by decide +kernel

/-- A row has two rows before it in its block. -/
theorem two : ∀ r : Fin 128, IntOp.cmpi CmpIPredicate.sge (BitVec.ofNat 32 r.val) 2#32 = bit (2 ≤ r.val) := by
  decide +kernel

/-- A row has one row before it in its block. -/
theorem one : ∀ r : Fin 128, IntOp.cmpi CmpIPredicate.sge (BitVec.ofNat 32 r.val) 1#32 = bit (1 ≤ r.val) := by
  decide +kernel

/-- A row is the second of its block. -/
theorem second : ∀ r : Fin 128, IntOp.cmpi CmpIPredicate.eq (BitVec.ofNat 32 r.val) 1#32 = bit (r.val = 1) := by
  decide +kernel

/-- The bit of a proposition as a number. -/
theorem number_bit (p : Prop) [Decidable p] :
    FloatOps.uitofp (F := Ideal) FTy.f32 (bit p) = if p then (1 : EReal) else 0 := by
  unfold bit
  by_cases h : p
  · rw [if_pos h, if_pos h]; show (((1#1 : BitVec 1).toNat : ℝ) : EReal) = 1; norm_num
  · rw [if_neg h, if_neg h]; show (((0#1 : BitVec 1).toNat : ℝ) : EReal) = 0; norm_num

/-- A sum over 128 rows that vanishes outside one sequence is the sum over its four rows. -/
theorem sum_four (f : Fin 128 → EReal) (n : Fin 32) (h : ∀ s : Fin 128, s.val / 4 ≠ n.val → f s = 0) :
    ∑ s, f s = ∑ x : Fin 4, f ⟨n.val * 4 + x.val, by omega⟩ := by
  rw [← (finProdFinEquiv : Fin 32 × Fin 4 ≃ Fin 128).sum_comp f, Fintype.sum_prod_type,
    Finset.sum_eq_single n]
  · refine Finset.sum_congr rfl fun x _ => congrArg f (Fin.ext ?_)
    show x.val + 4 * n.val = n.val * 4 + x.val
    omega
  · intro b _ hb
    refine Finset.sum_eq_zero fun x _ => h _ ?_
    show (x.val + 4 * b.val) / 4 ≠ n.val
    have := fun e : b.val = n.val => hb (Fin.ext e)
    omega
  · intro hn
    exact absurd (Finset.mem_univ n) hn

end Cert.Mixers
-- ==== Proof.RefMix.lean ====
module
public import proofs.«01_k».proof.Proof.Gen.Reference7Ideal.Run
public import proofs.«01_k».proof.Proof.MixBits
public import Idealize.ShloMosaic.Lib.Pointwise
@[expose] public section

/-! The reference's two mixers of an even layer, and their entries. -/

set_option maxRecDepth 16384

noncomputable section
open Idealize.ShloMosaic Idealize.ShloMosaic.TcCoe Idealize.SL.Sem

namespace Cert.Reference7Ideal.Parts
open Cert.Reference7Ideal Cert.Reference7Ideal.Gen

/-- The rows that the convolution reads: two zero rows, then the sequence. -/
def longPrompt (z : FVec Ideal S8320x2048 .f32) : FVec Ideal S4x2050x2048 .f32 :=
  pad S4x2050x2048 ![0, 2, 0] ![0, 0, 0] ![0, 0, 0] (shapeCast S4x2048x2048 (extractStridedSlice S8192x2048 ![0, 0] z slices_S8320x2048_S8192x2048_0_0) shapeCasts_S8192x2048_S4x2048x2048) (sitofp (F := Ideal) .f32 (constantI S_ 32 0#32)) pads_S4x2048x2048_S4x2050x2048_000_200_000 h_S_

/-- The rows that the convolution reads: the two kept rows, then the four new ones. -/
def longSample (z : FVec Ideal S8320x2048 .f32) (st : FVec Ideal S32x2x2048 .f32) : FVec Ideal S32x6x2048 .f32 :=
  concatenate S32x6x2048 1 [⟨S32x2x2048, st⟩, ⟨S32x4x2048, (shapeCast S32x4x2048 (extractStridedSlice S128x2048 ![8192, 0] z slices_S8320x2048_S128x2048_8192_0) shapeCasts_S128x2048_S32x4x2048)⟩] concatenates_S32x2x2048_S32x4x2048_S32x6x2048_d1

/-- The spatial gate of the prompt: the rows of a chunk mixed causally by the weights of each head, and the gate. -/
def gatePrompt (u : FVec Ideal S8320x2048 .f32) (v : FVec Ideal S8320x2048 .f32) (w : FVec Ideal S8x128x128 .f32) (b : FVec Ideal S8x128 .f32) : FVec Ideal S8192x2048 .f32 :=
  shapeCast S8192x2048 (mulf (shapeCast S64x128x2048 (extractStridedSlice S8192x2048 ![0, 0] u slices_S8320x2048_S8192x2048_0_0) shapeCasts_S8192x2048_S64x128x2048) (shapeCast S64x128x2048 (addf (transpose S64x128x8x256 [1, 3, 0, 2] (Host.dotGeneral dot_S64x128x8x256_S8x128x128_S8x64x256x128_1_2_03_1_2_0 none (shapeCast S64x128x8x256 (extractStridedSlice S8192x2048 ![0, 0] v slices_S8320x2048_S8192x2048_0_0) shapeCasts_S8192x2048_S64x128x8x256) (select (broadcastInDim S8x128x128 ![1, 2] bcast_S128x128_S8x128x128_1_2 (cmpi .sge (addi (iotaInDim S128x128 32 0) (broadcastInDim S128x128 ![] bcast_S_S128x128 (constantI S_ 32 0#32))) (iotaInDim S128x128 32 1))) w (broadcastInDim S8x128x128 ![] bcast_S_S8x128x128 (constant S_ .f32 0x00000000#32)))) transposes_S8x64x256x128_S64x128x8x256_1_3_0_2) (broadcastInDim S64x128x8x256 ![0, 1, 2, 3] bcast_S1x128x8x1_S64x128x8x256_0_1_2_3 (broadcastInDim S1x128x8x1 ![1, 2, 3] bcast_S128x8x1_S1x128x8x1_1_2_3 (broadcastInDim S128x8x1 ![0, 1] bcast_S128x8_S128x8x1_0_1 (transpose S128x8 [1, 0] b transposes_S8x128_S128x8_1_0))))) shapeCasts_S64x128x8x256_S64x128x2048)) shapeCasts_S64x128x2048_S8192x2048

/-- The gated short convolution of the prompt, with zeros before each sequence. -/
def convPrompt (z : FVec Ideal S8320x2048 .f32) (gb : FVec Ideal S8320x2048 .f32) (cw : FVec Ideal S3x2048 .f32) : FVec Ideal S8192x2048 .f32 :=
  shapeCast S8192x2048 (mulf (shapeCast S4x2048x2048 (extractStridedSlice S8192x2048 ![0, 0] gb slices_S8320x2048_S8192x2048_0_0) shapeCasts_S8192x2048_S4x2048x2048) (addf (addf (mulf (extractStridedSlice S4x2048x2048 ![0, 0, 0] (longPrompt z) slices_S4x2050x2048_S4x2048x2048_0_0_0) (broadcastInDim S4x2048x2048 ![0, 1, 2] bcast_S1x1x2048_S4x2048x2048_0_1_2 (broadcastInDim S1x1x2048 ![2] bcast_S2048_S1x1x2048_2 (shapeCast S2048 (extractStridedSlice S1x2048 ![0, 0] cw slices_S3x2048_S1x2048_0_0) shapeCasts_S1x2048_S2048)))) (mulf (extractStridedSlice S4x2048x2048 ![0, 1, 0] (longPrompt z) slices_S4x2050x2048_S4x2048x2048_0_1_0) (broadcastInDim S4x2048x2048 ![0, 1, 2] bcast_S1x1x2048_S4x2048x2048_0_1_2 (broadcastInDim S1x1x2048 ![2] bcast_S2048_S1x1x2048_2 (shapeCast S2048 (extractStridedSlice S1x2048 ![1, 0] cw slices_S3x2048_S1x2048_1_0) shapeCasts_S1x2048_S2048))))) (mulf (extractStridedSlice S4x2048x2048 ![0, 2, 0] (longPrompt z) slices_S4x2050x2048_S4x2048x2048_0_2_0) (broadcastInDim S4x2048x2048 ![0, 1, 2] bcast_S1x1x2048_S4x2048x2048_0_1_2 (broadcastInDim S1x1x2048 ![2] bcast_S2048_S1x1x2048_2 (shapeCast S2048 (extractStridedSlice S1x2048 ![2, 0] cw slices_S3x2048_S1x2048_2_0) shapeCasts_S1x2048_S2048)))))) shapeCasts_S4x2048x2048_S8192x2048

/-- The spatial gate of the sample group: four rows of a fresh chunk each. -/
def gateSample (u : FVec Ideal S8320x2048 .f32) (v : FVec Ideal S8320x2048 .f32) (w : FVec Ideal S8x128x128 .f32) (b : FVec Ideal S8x128 .f32) : FVec Ideal S128x2048 .f32 :=
  shapeCast S128x2048 (mulf (shapeCast S32x4x2048 (extractStridedSlice S128x2048 ![8192, 0] u slices_S8320x2048_S128x2048_8192_0) shapeCasts_S128x2048_S32x4x2048) (shapeCast S32x4x2048 (addf (transpose S32x4x8x256 [1, 3, 0, 2] (Host.dotGeneral dot_S32x4x8x256_S8x4x4_S8x32x256x4_1_2_03_1_2_0 none (shapeCast S32x4x8x256 (extractStridedSlice S128x2048 ![8192, 0] v slices_S8320x2048_S128x2048_8192_0) shapeCasts_S128x2048_S32x4x8x256) (select (broadcastInDim S8x4x4 ![1, 2] bcast_S4x4_S8x4x4_1_2 (cmpi .sge (addi (iotaInDim S4x4 32 0) (broadcastInDim S4x4 ![] bcast_S_S4x4 (constantI S_ 32 0#32))) (iotaInDim S4x4 32 1))) (extractStridedSlice S8x4x4 ![0, 0, 0] w slices_S8x128x128_S8x4x4_0_0_0) (broadcastInDim S8x4x4 ![] bcast_S_S8x4x4 (constant S_ .f32 0x00000000#32)))) transposes_S8x32x256x4_S32x4x8x256_1_3_0_2) (broadcastInDim S32x4x8x256 ![0, 1, 2, 3] bcast_S1x4x8x1_S32x4x8x256_0_1_2_3 (broadcastInDim S1x4x8x1 ![1, 2, 3] bcast_S4x8x1_S1x4x8x1_1_2_3 (broadcastInDim S4x8x1 ![0, 1] bcast_S4x8_S4x8x1_0_1 (transpose S4x8 [1, 0] (extractStridedSlice S8x4 ![0, 0] b slices_S8x128_S8x4_0_0) transposes_S8x4_S4x8_1_0))))) shapeCasts_S32x4x8x256_S32x4x2048)) shapeCasts_S32x4x2048_S128x2048

/-- The gated short convolution of the sample group, continued from the kept rows. -/
def convSample (z : FVec Ideal S8320x2048 .f32) (gb : FVec Ideal S8320x2048 .f32) (cw : FVec Ideal S3x2048 .f32) (st : FVec Ideal S32x2x2048 .f32) : FVec Ideal S128x2048 .f32 :=
  shapeCast S128x2048 (mulf (shapeCast S32x4x2048 (extractStridedSlice S128x2048 ![8192, 0] gb slices_S8320x2048_S128x2048_8192_0) shapeCasts_S128x2048_S32x4x2048) (addf (addf (mulf (extractStridedSlice S32x4x2048 ![0, 0, 0] (longSample z st) slices_S32x6x2048_S32x4x2048_0_0_0) (broadcastInDim S32x4x2048 ![0, 1, 2] bcast_S1x1x2048_S32x4x2048_0_1_2 (broadcastInDim S1x1x2048 ![2] bcast_S2048_S1x1x2048_2 (shapeCast S2048 (extractStridedSlice S1x2048 ![0, 0] cw slices_S3x2048_S1x2048_0_0) shapeCasts_S1x2048_S2048)))) (mulf (extractStridedSlice S32x4x2048 ![0, 1, 0] (longSample z st) slices_S32x6x2048_S32x4x2048_0_1_0) (broadcastInDim S32x4x2048 ![0, 1, 2] bcast_S1x1x2048_S32x4x2048_0_1_2 (broadcastInDim S1x1x2048 ![2] bcast_S2048_S1x1x2048_2 (shapeCast S2048 (extractStridedSlice S1x2048 ![1, 0] cw slices_S3x2048_S1x2048_1_0) shapeCasts_S1x2048_S2048))))) (mulf (extractStridedSlice S32x4x2048 ![0, 2, 0] (longSample z st) slices_S32x6x2048_S32x4x2048_0_2_0) (broadcastInDim S32x4x2048 ![0, 1, 2] bcast_S1x1x2048_S32x4x2048_0_1_2 (broadcastInDim S1x1x2048 ![2] bcast_S2048_S1x1x2048_2 (shapeCast S2048 (extractStridedSlice S1x2048 ![2, 0] cw slices_S3x2048_S1x2048_2_0) shapeCasts_S1x2048_S2048)))))) shapeCasts_S32x4x2048_S128x2048

/-- Both mixers of both groups, side by side. -/
def mixers (u : FVec Ideal S8320x2048 .f32) (v : FVec Ideal S8320x2048 .f32) (z : FVec Ideal S8320x2048 .f32) (gb : FVec Ideal S8320x2048 .f32) (w : FVec Ideal S8x128x128 .f32) (b : FVec Ideal S8x128 .f32) (cw : FVec Ideal S3x2048 .f32) (st : FVec Ideal S32x2x2048 .f32) : FVec Ideal S8320x4096 .bf16 :=
  truncf .bf16 (concatenate S8320x4096 0 [⟨S8192x4096, (concatenate S8192x4096 1 [⟨S8192x2048, (gatePrompt u v w b)⟩, ⟨S8192x2048, (convPrompt z gb cw)⟩] concatenates_S8192x2048_S8192x2048_S8192x4096_d1)⟩, ⟨S128x4096, (concatenate S128x4096 1 [⟨S128x2048, (gateSample u v w b)⟩, ⟨S128x2048, (convSample z gb cw st)⟩] concatenates_S128x2048_S128x2048_S128x4096_d1)⟩] concatenates_S8192x4096_S128x4096_S8320x4096_d0) bitsLt_bf16_f32

/-- The reference's result is the two mixers of its arguments. -/
theorem res_eq (m : (ℓ : Loc nD τ sig) → Buf (Elt Ideal) ℓ) (c : Dev nD) :
    Cert.Reference7Ideal.Value.res_out0 m c
      = mixers (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rfl

/-- An entry of the prompt's gate: the rows of its chunk up to it, weighed, plus the bias. -/
theorem gatePrompt_at (u v w b) (n : Fin 64) (r : Fin 128) (j : Fin 2048) :
    gatePrompt u v w b (ix2 ⟨n.val * 128 + r.val, by omega⟩ j)
      = (u (ix2 ⟨n.val * 128 + r.val, by omega⟩ j) : EReal) *
        ((∑ x : Fin 128, if x.val ≤ r.val then
            (v (ix2 ⟨n.val * 128 + x.val, by omega⟩ j) : EReal) * w (ix3 ⟨j.val / 256, by omega⟩ r x) else 0)
          + b (ix2 ⟨j.val / 256, by omega⟩ r)) := by
  pointwise [gatePrompt]
  simp only [Mixers.below, Mixers.select_bit]

/-- An entry of the sample's gate: the rows of its sequence up to it, weighed, plus the bias. -/
theorem gateSample_at (u v w b) (n : Fin 32) (t : Fin 4) (j : Fin 2048) :
    gateSample u v w b (ix2 ⟨n.val * 4 + t.val, by omega⟩ j)
      = (u (ix2 ⟨8192 + (n.val * 4 + t.val), by omega⟩ j) : EReal) *
        ((∑ x : Fin 4, if x.val ≤ t.val then
            (v (ix2 ⟨8192 + (n.val * 4 + x.val), by omega⟩ j) : EReal)
              * w (ix3 ⟨j.val / 256, by omega⟩ ⟨t.val, by omega⟩ ⟨x.val, by omega⟩) else 0)
          + b (ix2 ⟨j.val / 256, by omega⟩ ⟨t.val, by omega⟩)) := by
  have e : ∀ x : Fin 4, IntOp.cmpi CmpIPredicate.sge (IntOp.addi (BitVec.ofNat 32 t.val) 0#32)
      (BitVec.ofNat 32 x.val) = Mixers.bit (x.val ≤ t.val) :=
    fun x => Mixers.below ⟨t.val, by omega⟩ ⟨x.val, by omega⟩
  pointwise [gateSample]
  simp only [e, Mixers.select_bit]

set_option maxHeartbeats 4000000 in
/-- An entry of the prompt's convolution: the row and the two before it in its sequence. -/
theorem convPrompt_at (z gb cw) (i : Fin 8192) (j : Fin 2048) :
    convPrompt z gb cw (ix2 i j)
      = (gb (ix2 ⟨i.val, by omega⟩ j) : EReal) *
        ((if h : 2 ≤ i.val % 2048 then (z (ix2 ⟨i.val - 2, by omega⟩ j) : EReal) else 0) * cw (ix2 0 j)
          + (if h : 1 ≤ i.val % 2048 then (z (ix2 ⟨i.val - 1, by omega⟩ j) : EReal) else 0) * cw (ix2 1 j)
          + (z (ix2 ⟨i.val, by omega⟩ j) : EReal) * cw (ix2 2 j)) := by
  have e0 : (FloatOps.sitofp FTy.f32 (0#32 : BitVec 32) : Ideal FTy.f32) = (0 : EReal) := by
    show (((0#32 : BitVec 32).toInt : ℝ) : EReal) = 0; norm_num
  pointwise [convPrompt, longPrompt]
  have hi := i.isLt
  have h2 : ∀ k : ℕ, (k = i.val / 2048 * 2048 + (i.val % 2048 - 2)) → 2 ≤ i.val % 2048 → k = i.val - 2 := by omega
  have h1 : ∀ k : ℕ, (k = i.val / 2048 * 2048 + (1 + i.val % 2048 - 2)) → 1 ≤ i.val % 2048 → k = i.val - 1 := by omega
  have p2 : (i.val / 2048 < 4 ∧ 2 ≤ i.val % 2048 ∧ i.val % 2048 - 2 < 2048) ↔ 2 ≤ i.val % 2048 := by omega
  have p1 : (i.val / 2048 < 4 ∧ 2 ≤ 1 + i.val % 2048 ∧ 1 + i.val % 2048 - 2 < 2048) ↔ 1 ≤ i.val % 2048 := by omega
  have p0 : i.val / 2048 < 4 ∧ i.val % 2048 < 2048 := by omega
  rw [dif_pos p0]
  by_cases c2 : 2 ≤ i.val % 2048
  · have c1 : 1 ≤ i.val % 2048 := by omega
    simp only [dif_pos (p2.mpr c2), dif_pos (p1.mpr c1), dif_pos c2, dif_pos c1, h2 _ rfl c2, h1 _ rfl c1]
  · by_cases c1 : 1 ≤ i.val % 2048
    · simp only [dif_neg (fun q => c2 (p2.mp q)), dif_pos (p1.mpr c1), dif_neg c2, dif_pos c1, h1 _ rfl c1] <;> simp only [e0]
    · simp only [dif_neg (fun q => c2 (p2.mp q)), dif_neg (fun q => c1 (p1.mp q)), dif_neg c2, dif_neg c1] <;> simp only [e0]

/-- An entry of the sample's convolution: the row and the two before it, new or kept. -/
theorem convSample_at (z gb cw st) (n : Fin 32) (t : Fin 4) (j : Fin 2048) :
    convSample z gb cw st (ix2 ⟨n.val * 4 + t.val, by omega⟩ j)
      = (gb (ix2 ⟨8192 + (n.val * 4 + t.val), by omega⟩ j) : EReal) *
        ((if h : t.val < 2 then (st (ix3 n ⟨t.val, h⟩ j) : EReal)
            else z (ix2 ⟨8192 + (n.val * 4 + (t.val - 2)), by omega⟩ j)) * cw (ix2 0 j)
          + (if h : 1 + t.val < 2 then (st (ix3 n ⟨1 + t.val, h⟩ j) : EReal)
            else z (ix2 ⟨8192 + (n.val * 4 + (1 + t.val - 2)), by omega⟩ j)) * cw (ix2 1 j)
          + (z (ix2 ⟨8192 + (n.val * 4 + t.val), by omega⟩ j) : EReal) * cw (ix2 2 j)) := by
  pointwise [convSample, longSample]

/-- The four regions of the result. -/
theorem mixers_at (u v z gb w b cw st) (i : Fin 8320) (j : Fin 4096) :
    mixers u v z gb w b cw st (ix2 i j)
      = if h : i.val < 8192 then
          if h' : j.val < 2048 then gatePrompt u v w b (ix2 ⟨i.val, h⟩ ⟨j.val, h'⟩)
          else convPrompt z gb cw (ix2 ⟨i.val, h⟩ ⟨j.val - 2048, by omega⟩)
        else
          if h' : j.val < 2048 then gateSample u v w b (ix2 ⟨i.val - 8192, by omega⟩ ⟨j.val, h'⟩)
          else convSample z gb cw st (ix2 ⟨i.val - 8192, by omega⟩ ⟨j.val - 2048, by omega⟩) := by
  pointwise [mixers]

end Cert.Reference7Ideal.Parts
-- ==== Proof.MixOps.lean ====
module
public import proofs.«01_k».proof.Proof.Gen.Kernel7Ideal.Value
public import Idealize.ShloMosaic.Lib.Pipeline.ValueKit
public import proofs.«01_k».proof.Proof.MixBits
public import Idealize.ShloMosaic.Lib.Pointwise
@[expose] public section

/-! The even layer's mixers: the operands that the host prepares for the kernel. -/

set_option maxRecDepth 16384
noncomputable section
open Idealize.ShloMosaic Idealize.ShloMosaic.TcCoe Idealize.SL.Sem
open Idealize.ShloMosaic.Pipeline (Dat)
namespace Cert.Kernel7Ideal.RefValue
open Cert.Kernel7Ideal Cert.Kernel7Ideal.Gen
variable (m : (ℓ : Loc nD τ sig) → Buf (Elt Ideal) ℓ)

/-- The weights of every head at and below the diagonal, zeros above it. -/
def lower (w : FVec Ideal S8x128x128 .f32) : FVec Ideal S8x128x128 .f32 :=
  select (broadcastInDim S8x128x128 ![1, 2] bcast_S128x128_S8x128x128_1_2
      (cmpi .sge (addi (iotaInDim S128x128 32 0) (broadcastInDim S128x128 ![] bcast_S_S128x128 (constantI S_ 32 0#32)))
        (iotaInDim S128x128 32 1)))
    w (broadcastInDim S8x128x128 ![] bcast_S_S8x128x128 (constant S_ .f32 0x00000000#32))

/-- The first four rows and columns of the weights, at and below the diagonal. -/
def lower4 (w : FVec Ideal S8x128x128 .f32) : FVec Ideal S8x4x4 .f32 :=
  select (broadcastInDim S8x4x4 ![1, 2] bcast_S4x4_S8x4x4_1_2
      (cmpi .sge (addi (iotaInDim S4x4 32 0) (broadcastInDim S4x4 ![] bcast_S_S4x4 (constantI S_ 32 0#32)))
        (iotaInDim S4x4 32 1)))
    (extractStridedSlice S8x4x4 ![0, 0, 0] w slices_S8x128x128_S8x4x4_0_0_0)
    (broadcastInDim S8x4x4 ![] bcast_S_S8x4x4 (constant S_ .f32 0x00000000#32))

/-- The identity of the 32 sequences. -/
def eye : FVec Ideal S32x32 .f32 :=
  uitofp .f32 (cmpi .eq (addi (iotaInDim S32x32 32 0) (broadcastInDim S32x32 ![] bcast_S_S32x32 (constantI S_ 32 0#32)))
    (iotaInDim S32x32 32 1))

/-- The four-row weights along the diagonal, one square for each sequence. -/
def squares (w : FVec Ideal S8x128x128 .f32) : FVec Ideal S8x128x128 .f32 :=
  shapeCast S8x128x128
    (mulf
      (broadcastInDim S8x32x4x32x4 ![0, 1, 2, 3, 4] bcast_S1x32x1x32x1_S8x32x4x32x4_0_1_2_3_4
        (broadcastInDim S1x32x1x32x1 ![1, 3] bcast_S32x32_S1x32x1x32x1_1_3 eye))
      (broadcastInDim S8x32x4x32x4 ![0, 1, 2, 3, 4] bcast_S8x1x4x1x4_S8x32x4x32x4_0_1_2_3_4
        (broadcastInDim S8x1x4x1x4 ![0, 2, 4] bcast_S8x4x4_S8x1x4x1x4_0_2_4 (lower4 w))))
    shapeCasts_S8x32x4x32x4_S8x128x128

/-- The weights of the prompt's blocks and of the sample's block. -/
def weights (w : FVec Ideal S8x128x128 .f32) : FVec Ideal S2x8x128x128 .bf16 :=
  truncf .bf16
    (concatenate S2x8x128x128 0
      [⟨S1x8x128x128, broadcastInDim S1x8x128x128 ![1, 2, 3] bcast_S8x128x128_S1x8x128x128_1_2_3 (lower w)⟩,
       ⟨S1x8x128x128, broadcastInDim S1x8x128x128 ![1, 2, 3] bcast_S8x128x128_S1x8x128x128_1_2_3 (squares w)⟩]
      concatenates_S1x8x128x128_S1x8x128x128_S2x8x128x128_d0)
    bitsLt_bf16_f32

/-- The biases of the prompt's blocks and of the sample's block. -/
def biases (b : FVec Ideal S8x128 .f32) : FVec Ideal S2x128x8 .f32 :=
  concatenate S2x128x8 0
    [⟨S1x128x8, broadcastInDim S1x128x8 ![1, 2] bcast_S128x8_S1x128x8_1_2
        (transpose S128x8 [1, 0] b transposes_S8x128_S128x8_1_0)⟩,
     ⟨S1x128x8, broadcastInDim S1x128x8 ![1, 2] bcast_S128x8_S1x128x8_1_2
        (shapeCast S128x8
          (broadcastInDim S32x4x1x8 ![0, 1, 2, 3] bcast_S1x4x1x8_S32x4x1x8_0_1_2_3
            (shapeCast S1x4x1x8
              (transpose S4x8 [1, 0] (extractStridedSlice S8x4 ![0, 0] b slices_S8x128_S8x4_0_0) transposes_S8x4_S4x8_1_0)
              shapeCasts_S4x8_S1x4x1x8))
          shapeCasts_S32x4x1x8_S128x8)⟩]
    concatenates_S1x128x8_S1x128x8_S2x128x8_d0

/-- Zeros in the place of one kept row of every sequence. -/
def noRow : FVec Ideal S32x1x2048 .f32 :=
  broadcastInDim S32x1x2048 ![] bcast_S_S32x1x2048 (constant S_ .f32 0x00000000#32)

/-- The kept rows where a row of the sample reaches back one and two rows past its start. -/
def kept (st : FVec Ideal S32x2x2048 .f32) : FVec Ideal S2x128x2048 .f32 :=
  concatenate S2x128x2048 0
    [⟨S1x128x2048, broadcastInDim S1x128x2048 ![1, 2] bcast_S128x2048_S1x128x2048_1_2
        (shapeCast S128x2048
          (concatenate S32x4x2048 1
            [⟨S32x1x2048, extractStridedSlice S32x1x2048 ![0, 1, 0] st slices_S32x2x2048_S32x1x2048_0_1_0⟩,
             ⟨S32x1x2048, noRow⟩, ⟨S32x1x2048, noRow⟩, ⟨S32x1x2048, noRow⟩]
            concatenates_S32x1x2048_S32x1x2048_S32x1x2048_S32x1x2048_S32x4x2048_d1)
          shapeCasts_S32x4x2048_S128x2048)⟩,
     ⟨S1x128x2048, broadcastInDim S1x128x2048 ![1, 2] bcast_S128x2048_S1x128x2048_1_2
        (shapeCast S128x2048
          (concatenate S32x4x2048 1
            [⟨S32x1x2048, extractStridedSlice S32x1x2048 ![0, 0, 0] st slices_S32x2x2048_S32x1x2048_0_0_0⟩,
             ⟨S32x1x2048, extractStridedSlice S32x1x2048 ![0, 1, 0] st slices_S32x2x2048_S32x1x2048_0_1_0⟩,
             ⟨S32x1x2048, noRow⟩, ⟨S32x1x2048, noRow⟩]
            concatenates_S32x1x2048_S32x1x2048_S32x1x2048_S32x1x2048_S32x4x2048_d1)
          shapeCasts_S32x4x2048_S128x2048)⟩]
    concatenates_S1x128x2048_S1x128x2048_S2x128x2048_d0

/-- The host computes the weights into the kernel's sixth operand. -/
theorem V_weights (c : Dev nD) : V m c main_v24 = weights (m ((c.tc : Thread nD τ).loc main_arg4)) := by
  show StableHlo.after _ _ _ = _
  simp only [hostOps0, hostOps0_1, hostOps0_2, hostOps0_3, List.flatten_cons, List.flatten_nil, List.append_nil, List.cons_append, List.nil_append]
  simp only [Idealize.ShloMosaic.StableHlo.after_cons, Idealize.ShloMosaic.StableHlo.after_nil]
  after_results_simp
  rfl

/-- The host computes the biases into the kernel's seventh operand. -/
theorem V_biases (c : Dev nD) : V m c main_v27 = biases (m ((c.tc : Thread nD τ).loc main_arg5)) := by
  show StableHlo.after _ _ _ = _
  simp only [hostOps0, hostOps0_1, hostOps0_2, hostOps0_3, List.flatten_cons, List.flatten_nil, List.append_nil, List.cons_append, List.nil_append]
  simp only [Idealize.ShloMosaic.StableHlo.after_cons, Idealize.ShloMosaic.StableHlo.after_nil]
  after_results_simp
  rfl

/-- The host computes the kept rows into the kernel's ninth operand. -/
theorem V_kept (c : Dev nD) : V m c main_v39 = kept (m ((c.tc : Thread nD τ).loc main_arg7)) := by
  show StableHlo.after _ _ _ = _
  simp only [hostOps0, hostOps0_1, hostOps0_2, hostOps0_3, List.flatten_cons, List.flatten_nil, List.append_nil, List.cons_append, List.nil_append]
  simp only [Idealize.ShloMosaic.StableHlo.after_cons, Idealize.ShloMosaic.StableHlo.after_nil]
  after_results_simp
  rfl

/-- An entry of the prompt's weights. -/
theorem weights_at0 (w) (h : Fin 8) (r s : Fin 128) :
    weights w (ix4 0 h r s) = if s.val ≤ r.val then (w (ix3 h r s) : EReal) else 0 := by
  pointwise [weights, lower]
  rw [Mixers.below, Mixers.select_bit]

set_option maxHeartbeats 4000000 in
/-- An entry of the sample's weights: rows of different sequences do not meet. -/
theorem weights_at1 (w) (h : Fin 8) (r s : Fin 128) :
    weights w (ix4 1 h r s) = if s.val % 4 ≤ r.val % 4 then
      (if r.val / 4 = s.val / 4 then (1 : EReal) else 0) * (w (ix3 h ⟨r.val % 4, by omega⟩ ⟨s.val % 4, by omega⟩) : EReal) else 0 := by
  have e := Mixers.below ⟨r.val % 4, by omega⟩ ⟨s.val % 4, by omega⟩
  have e' := Mixers.same ⟨r.val / 4, by omega⟩ ⟨s.val / 4, by omega⟩
  pointwise [weights, squares, lower4, eye]
  rw [e, e', Mixers.number_bit, Mixers.select_bit]

/-- An entry of the prompt's biases. -/
theorem biases_at0 (b) (h : Fin 8) (r : Fin 128) : biases b (ix3 0 r h) = b (ix2 h r) := by
  pointwise [biases]

/-- An entry of the sample's biases. -/
theorem biases_at1 (b) (h : Fin 8) (r : Fin 128) :
    biases b (ix3 1 r h) = b (ix2 h ⟨r.val % 4, by omega⟩) := by
  pointwise [biases]

/-- The row one before the first row of a sequence is the last kept one. -/
theorem kept_at0 (st) (r : Fin 128) (j : Fin 2048) (hr : r.val % 4 = 0) :
    kept st (ix3 0 r j) = st (ix3 ⟨r.val / 4, by omega⟩ 1 j) := by
  pointwise [kept, noRow]
  rw [dif_pos (by omega)]
  exact congrArg st (congrArg (fun q => ix3 _ q j) (Fin.ext (by show 1 + r.val % 4 = 1; omega)))

/-- The rows two before the first two rows of a sequence are the kept ones. -/
theorem kept_at1 (st) (r : Fin 128) (j : Fin 2048) (hr : r.val % 4 < 2) :
    kept st (ix3 1 r j) = st (ix3 ⟨r.val / 4, by omega⟩ ⟨r.val % 4, hr⟩ j) := by
  pointwise [kept, noRow]
  by_cases h : r.val % 4 < 1
  · rw [dif_pos h]
  · rw [dif_neg h, dif_pos (by omega)]
    exact congrArg st (congrArg (fun q => ix3 _ q j) (Fin.ext (by show 1 + (r.val % 4 - 1) = r.val % 4; omega)))

end Cert.Kernel7Ideal.RefValue
-- ==== Proof.MixPieces.lean ====
module
public import proofs.«01_k».proof.Proof.Gen.Kernel7Ideal.Value
public import Idealize.ShloMosaic.Lib.Pipeline.ValueKit
public import proofs.«01_k».proof.Proof.MixBits
public import Idealize.ShloMosaic.Lib.Pointwise
@[expose] public section

/-! The even layer's mixers: what each piece of a block of the result computes. -/

set_option maxRecDepth 16384
noncomputable section
open Idealize.ShloMosaic Idealize.ShloMosaic.TcCoe Idealize.SL.Sem
open Idealize.ShloMosaic.Pipeline (Dat)
namespace Cert.Kernel7Ideal.RefValue
open Cert.Kernel7Ideal Cert.Kernel7Ideal.Gen
variable (m : (ℓ : Loc nD τ sig) → Buf (Elt Ideal) ℓ)

/-- What a head's piece of a block computes: the gate times the weighed rows plus the bias. -/
def head (v : Vec Ideal S128x2048 .f32) (w : Vec Ideal S1x1x128x128 .bf16) (b : Vec Ideal S1x128x8 .f32)
    (u : Vec Ideal S128x256 .f32) (k : Fin 8) (r : Fin 128) (d : Fin 256) : EReal :=
  (u (ix2 r d) : EReal) * ((∑ x : Fin 128, (w (ix4 0 0 r x) : EReal) * v (ix2 x ⟨k.val * 256 + d.val, by omega⟩))
    + b (ix3 0 r k))

/-- Head 0's piece. -/
theorem piece0_at (v w b u) (r : Fin 128) (d : Fin 256) :
    k0_pay11 (F := Ideal) v w b u (ix2 r d) = head v w b u 0 r d := by
  pointwise [k0_pay11, k0_pay10, head]

/-- Head 1's piece. -/
theorem piece1_at (v w b u) (r : Fin 128) (d : Fin 256) :
    k0_pay12 (F := Ideal) v w b u (ix2 r d) = head v w b u 1 r d := by
  pointwise [k0_pay12, k0_pay10, head]

/-- Head 2's piece. -/
theorem piece2_at (v w b u) (r : Fin 128) (d : Fin 256) :
    k0_pay13 (F := Ideal) (k0_pay10 (F := Ideal) v) w b u (ix2 r d) = head v w b u 2 r d := by
  pointwise [k0_pay13, k0_pay10, head]

/-- Head 3's piece. -/
theorem piece3_at (v w b u) (r : Fin 128) (d : Fin 256) :
    k0_pay14 (F := Ideal) (k0_pay10 (F := Ideal) v) w b u (ix2 r d) = head v w b u 3 r d := by
  pointwise [k0_pay14, k0_pay10, head]

/-- Head 4's piece. -/
theorem piece4_at (v w b u) (r : Fin 128) (d : Fin 256) :
    k0_pay16 (F := Ideal) (k0_pay15 (F := Ideal) (k0_pay10 (F := Ideal) v) w) b u (ix2 r d) = head v w b u 4 r d := by
  pointwise [k0_pay15, k0_pay16, k0_pay10, head]

/-- Head 5's piece. -/
theorem piece5_at (v w b u) (r : Fin 128) (d : Fin 256) :
    k0_pay17 (F := Ideal) (k0_pay10 (F := Ideal) v) w b u (ix2 r d) = head v w b u 5 r d := by
  pointwise [k0_pay17, k0_pay10, head]

/-- Head 6's piece. -/
theorem piece6_at (v w b u) (r : Fin 128) (d : Fin 256) :
    k0_pay1 (F := Ideal) (k0_pay18 (F := Ideal) (k0_pay10 (F := Ideal) v) w b) u (ix2 r d) = head v w b u 6 r d := by
  pointwise [k0_pay1, k0_pay18, k0_pay10, head]

/-- Head 7's piece. -/
theorem piece7_at (v w b u) (r : Fin 128) (d : Fin 256) :
    k0_pay2 (F := Ideal) (k0_pay10 (F := Ideal) v) w b u (ix2 r d) = head v w b u 7 r d := by
  pointwise [k0_pay2, k0_pay10, head]

/-- Whether a block is not the first of its sequence, by the kernel's remainder. -/
def inside (i : BitVec 32) : BitVec 1 :=
  let d : BitVec 32 := Scalar.select (Scalar.cmpi CmpIPredicate.eq 16#32 0#32) 1#32 16#32
  Scalar.cmpi CmpIPredicate.ne
    (Scalar.select
      (Scalar.andi (Scalar.xori (Scalar.cmpi CmpIPredicate.slt (Scalar.remsi i d) 0#32) (Scalar.cmpi CmpIPredicate.slt d 0#32))
        (Scalar.cmpi CmpIPredicate.ne (Scalar.remsi i d) 0#32))
      (Scalar.addi (Scalar.remsi i d) d) (Scalar.remsi i d))
    0#32

/-- A block is not the first of its sequence unless its number is a multiple of 16. -/
theorem inside_at : ∀ n : Fin 64, inside (BitVec.ofNat 32 n.val) = Mixers.bit (n.val % 16 ≠ 0) := by decide +kernel

/-- The place of a row in its sequence of four, by the kernel's remainder. -/
def place (r : BitVec 32) : BitVec 32 :=
  let d : BitVec 32 := Scalar.select (Scalar.cmpi CmpIPredicate.eq 4#32 0#32) 1#32 4#32
  Scalar.select
    (IntOp.andi (IntOp.xori (IntOp.cmpi CmpIPredicate.slt (IntOp.remsi ArithUnit.vector r d) 0#32) (Scalar.cmpi CmpIPredicate.slt d 0#32))
      (IntOp.cmpi CmpIPredicate.ne (IntOp.remsi ArithUnit.vector r d) 0#32))
    (IntOp.addi (IntOp.remsi ArithUnit.vector r d) d) (IntOp.remsi ArithUnit.vector r d)

/-- A row of the sample's block has two rows before it in its sequence. -/
theorem place_two : ∀ r : Fin 128, IntOp.cmpi CmpIPredicate.sge (place (BitVec.ofNat 32 r.val)) 2#32
    = Mixers.bit (2 ≤ r.val % 4) := by decide +kernel

/-- A row of the sample's block has one row before it in its sequence. -/
theorem place_one : ∀ r : Fin 128, IntOp.cmpi CmpIPredicate.sge (place (BitVec.ofNat 32 r.val)) 1#32
    = Mixers.bit (1 ≤ r.val % 4) := by decide +kernel

set_option maxHeartbeats 4000000 in
/-- The convolution's piece of a block of the prompt: rows before the block come from the previous
one, or are zeros before a sequence. -/
theorem convA_at (n : Fin 64) (z cw g h1 h2) (r : Fin 128) (d : Fin 2048) :
    k0_pay5 (F := Ideal) z cw
      (k0_pay7 (F := Ideal) (BitVec.ofNat 32 n.val) (iota .tc S128x1 32 [0] iota_S128x1_d0_w32) (k0_pay4 (F := Ideal) z) cw h1 h2)
      (k0_pay8 (F := Ideal) (BitVec.ofNat 32 n.val) (iota .tc S128x1 32 [0] iota_S128x1_d0_w32) (k0_pay3 (F := Ideal) z) cw h1) g (ix2 r d)
    = (g (ix2 r d) : EReal) *
        ((cw (ix2 0 d) : EReal) * (if 2 ≤ r.val then (z (ix2 ⟨(r.val + 128 - 2) % 128, by omega⟩ d) : EReal)
            else if r.val = 1 then (if n.val % 16 ≠ 0 then (h1 (ix2 0 d) : EReal) else 0)
            else if n.val % 16 ≠ 0 then (h2 (ix2 0 d) : EReal) else 0)
          + (cw (ix2 1 d) : EReal) * (if 1 ≤ r.val then (z (ix2 ⟨(r.val + 128 - 1) % 128, by omega⟩ d) : EReal)
            else if n.val % 16 ≠ 0 then (h1 (ix2 0 d) : EReal) else 0)
          + (cw (ix2 2 d) : EReal) * z (ix2 r d)) := by
  simp only [← Mixers.select_bit, ← Mixers.two, ← Mixers.one, ← Mixers.second, ← inside_at]
  pointwise [k0_pay5, k0_pay7, k0_pay8, k0_pay6, k0_pay3, k0_pay4]
  rfl

set_option maxHeartbeats 4000000 in
/-- The convolution's piece of the sample's block: rows before a sequence are the kept ones. -/
theorem convB_at (z cw s1 s2 g) (r : Fin 128) (d : Fin 2048) :
    k0_pay9 (F := Ideal) z (iota .tc S128x1 32 [0] iota_S128x1_d0_w32) (k0_pay3 (F := Ideal) z) (k0_pay4 (F := Ideal) z) cw s1 s2 g (ix2 r d)
    = (g (ix2 r d) : EReal) *
        ((cw (ix2 0 d) : EReal) * (if 2 ≤ r.val % 4 then (z (ix2 ⟨(r.val + 128 - 2) % 128, by omega⟩ d) : EReal)
            else (s2 (ix3 0 r d) : EReal))
          + (cw (ix2 1 d) : EReal) * (if 1 ≤ r.val % 4 then (z (ix2 ⟨(r.val + 128 - 1) % 128, by omega⟩ d) : EReal)
            else (s1 (ix3 0 r d) : EReal))
          + (cw (ix2 2 d) : EReal) * z (ix2 r d)) := by
  simp only [← Mixers.select_bit, ← place_two, ← place_one]
  pointwise [k0_pay9, k0_pay3, k0_pay4]
  rfl

end Cert.Kernel7Ideal.RefValue
-- ==== Proof.Mix.lean ====
module
public import proofs.«01_k».proof.Proof.Gen.Kernel7Ideal.Value
public import Idealize.ShloMosaic.Lib.Pipeline.ValueKit
public import proofs.«01_k».proof.Proof.MixBits
public import proofs.«01_k».proof.Proof.RefMix
public import proofs.«01_k».proof.Proof.MixOps
public import proofs.«01_k».proof.Proof.MixPieces
public import Idealize.ShloMosaic.Lib.Pointwise
@[expose] public section

/-! The even layer's mixers: a point of the grid, and the value of the result. -/

set_option maxRecDepth 16384
noncomputable section
open Idealize.ShloMosaic Idealize.ShloMosaic.TcCoe Idealize.SL.Sem
open Idealize.ShloMosaic.Pipeline (Dat)
namespace Cert.Kernel7Ideal.RefValue
open Cert.Kernel7Ideal Cert.Kernel7Ideal.Gen
variable (m : (ℓ : Loc nD τ sig) → Buf (Elt Ideal) ℓ)

/-- The gate of the spatial mixing. -/
abbrev arg0 (c : Dev nD) : FVec Ideal S8320x2048 .f32 := m ((c.tc : Thread nD τ).loc main_arg0)
/-- The rows that the spatial gate mixes. -/
abbrev arg1 (c : Dev nD) : FVec Ideal S8320x2048 .f32 := m ((c.tc : Thread nD τ).loc main_arg1)
/-- The rows that the convolution reads. -/
abbrev arg2 (c : Dev nD) : FVec Ideal S8320x2048 .f32 := m ((c.tc : Thread nD τ).loc main_arg2)
/-- The gate of the convolution. -/
abbrev arg3 (c : Dev nD) : FVec Ideal S8320x2048 .f32 := m ((c.tc : Thread nD τ).loc main_arg3)
/-- The mixing weights. -/
abbrev arg4 (c : Dev nD) : FVec Ideal S8x128x128 .f32 := m ((c.tc : Thread nD τ).loc main_arg4)
/-- The mixing biases. -/
abbrev arg5 (c : Dev nD) : FVec Ideal S8x128 .f32 := m ((c.tc : Thread nD τ).loc main_arg5)
/-- The weights of the convolution. -/
abbrev arg6 (c : Dev nD) : FVec Ideal S3x2048 .f32 := m ((c.tc : Thread nD τ).loc main_arg6)
/-- The kept rows of the sample. -/
abbrev arg7 (c : Dev nD) : FVec Ideal S32x2x2048 .f32 := m ((c.tc : Thread nD τ).loc main_arg7)

/-- Where every window's block stands at every point. -/
theorem blocks_at : ∀ t : Fin cfg0.N, win0_0.index t = ![t.val, 0] ∧ win0_1.index t = ![t.val, 0] ∧ win0_2.index t = ![t.val, 0]
    ∧ win0_3.index t = ![t.val, 0] ∧ win0_4.index t = ![t.val * 16 - 1, 0] ∧ win0_5.index t = ![t.val / 64, 0, 0, 0]
    ∧ win0_6.index t = ![t.val / 64, 0, 0] ∧ win0_7.index t = ![0, 0] ∧ win0_8.index t = ![0, 0, 0] ∧ win0_9.index t = ![t.val, 0] :=
  (by decide +kernel : ∀ t : Fin grid0.N, _)

/-- The grid has 65 points. -/
theorem t_lt (t : Fin cfg0.N) : t.val < 65 := lt_of_lt_of_eq t.isLt (by decide +kernel)

/-- The coordinate of a point is its number. -/
theorem coord_at : ∀ t : Fin cfg0.N, ((grid0.coords t) 0).val = t.val := (by decide +kernel : ∀ t : Fin grid0.N, _)

/-- The gate's rows of a point. -/
theorem u_at (c : Dev nD) (t : Fin cfg0.N) (r : Fin 128) (j : Fin 2048) (n : Fin 65) (en : n.val = t.val) :
    iblk m c 0 t (ix2 r j) = arg0 m c (ix2 ⟨n.val * 128 + r.val, by omega⟩ j) := by
  rw [arg0, ← V_main_arg0 m c]
  blk_point [iblk, blocks_at t]

/-- The rows to be mixed of a point. -/
theorem v_at (c : Dev nD) (t : Fin cfg0.N) (r : Fin 128) (j : Fin 2048) (n : Fin 65) (en : n.val = t.val) :
    iblk m c 1 t (ix2 r j) = arg1 m c (ix2 ⟨n.val * 128 + r.val, by omega⟩ j) := by
  rw [arg1, ← V_main_arg1 m c]
  blk_point [iblk, blocks_at t]

/-- The convolution's rows of a point. -/
theorem z_at (c : Dev nD) (t : Fin cfg0.N) (r : Fin 128) (j : Fin 2048) (n : Fin 65) (en : n.val = t.val) :
    iblk m c 2 t (ix2 r j) = arg2 m c (ix2 ⟨n.val * 128 + r.val, by omega⟩ j) := by
  rw [arg2, ← V_main_arg2 m c]
  blk_point [iblk, blocks_at t]

/-- The convolution's gate of a point. -/
theorem g_at (c : Dev nD) (t : Fin cfg0.N) (r : Fin 128) (j : Fin 2048) (n : Fin 65) (en : n.val = t.val) :
    iblk m c 3 t (ix2 r j) = arg3 m c (ix2 ⟨n.val * 128 + r.val, by omega⟩ j) := by
  rw [arg3, ← V_main_arg3 m c]
  blk_point [iblk, blocks_at t]

/-- The eight rows before a point's block. -/
theorem halo_at (c : Dev nD) (t : Fin cfg0.N) (k : Fin 8) (j : Fin 2048) (n : Fin 65) (en : n.val = t.val) :
    iblk m c 4 t (ix2 k j) = arg2 m c (ix2 ⟨(n.val * 16 - 1) * 8 + k.val, by omega⟩ j) := by
  rw [arg2, ← V_main_arg2 m c]
  blk_point [iblk, blocks_at t]

/-- The weights of a point. -/
theorem w_at (c : Dev nD) (t : Fin cfg0.N) (k : Fin 8) (r s : Fin 128) (n : Fin 65) (en : n.val = t.val) :
    iblk m c 5 t (ix4 0 k r s) = V m c main_v24 (ix4 ⟨n.val / 64, by omega⟩ k r s) := by
  blk_point [iblk, blocks_at t]

/-- The biases of a point. -/
theorem b_at (c : Dev nD) (t : Fin cfg0.N) (k : Fin 8) (r : Fin 128) (n : Fin 65) (en : n.val = t.val) :
    iblk m c 6 t (ix3 0 r k) = V m c main_v27 (ix3 ⟨n.val / 64, by omega⟩ r k) := by
  blk_point [iblk, blocks_at t]

/-- The convolution's weights of a point. -/
theorem cw_at (c : Dev nD) (t : Fin cfg0.N) (k : Fin 3) (j : Fin 2048) :
    iblk m c 7 t (ix2 k j) = arg6 m c (ix2 k j) := by
  rw [arg6, ← V_main_arg6 m c]
  blk_point [iblk, blocks_at t]

/-- The kept rows of a point. -/
theorem s_at (c : Dev nD) (t : Fin cfg0.N) (k : Fin 2) (r : Fin 128) (j : Fin 2048) :
    iblk m c 8 t (ix3 k r j) = V m c main_v39 (ix3 k r j) := by
  blk_point [iblk, blocks_at t]

/-- The reference's mixers of the kernel's arguments. -/
def mixed (c : Dev nD) : FVec Ideal S8320x4096 .bf16 :=
  Cert.Reference7Ideal.Parts.mixers (arg0 m c) (arg1 m c)
    (arg2 m c) (arg3 m c) (arg4 m c)
    (arg5 m c) (arg6 m c) (arg7 m c)

/-- An index of two coordinates is made of them. -/
theorem coords_of {a b : ℕ} (x : (⟨2, ![a, b]⟩ : Shape).Idx) : ∃ (r : Fin a) (e : Fin b), x = ix2 r e := by
  refine ⟨x 0, x 1, ?_⟩
  funext k
  rcases (by decide : ∀ k : Fin 2, k = 0 ∨ k = 1) k with rfl | rfl <;> rfl

/-- The weights of a point of the prompt. -/
theorem w_prompt (c : Dev nD) (t : Fin cfg0.N) (k : Fin 8) (r s : Fin 128) (n : Fin 65) (en : n.val = t.val) (hn : n.val < 64) :
    iblk m c 5 t (ix4 0 k r s) = if s.val ≤ r.val then (arg4 m c (ix3 k r s) : EReal) else 0 := by
  rw [w_at m c t k r s n en, show (⟨n.val / 64, by omega⟩ : Fin 2) = 0 from Fin.ext (by show n.val / 64 = 0; omega), V_weights]
  exact weights_at0 _ _ _ _

/-- The weights of the sample's point. -/
theorem w_sample (c : Dev nD) (t : Fin cfg0.N) (k : Fin 8) (r s : Fin 128) (n : Fin 65) (en : n.val = t.val) (hn : ¬n.val < 64) :
    iblk m c 5 t (ix4 0 k r s) = if s.val % 4 ≤ r.val % 4 then
      (if r.val / 4 = s.val / 4 then (1 : EReal) else 0)
        * (arg4 m c (ix3 k ⟨r.val % 4, by omega⟩ ⟨s.val % 4, by omega⟩) : EReal) else 0 := by
  rw [w_at m c t k r s n en, show (⟨n.val / 64, by omega⟩ : Fin 2) = 1 from Fin.ext (by show n.val / 64 = 1; omega), V_weights]
  exact weights_at1 _ _ _ _

/-- The biases of a point of the prompt. -/
theorem b_prompt (c : Dev nD) (t : Fin cfg0.N) (k : Fin 8) (r : Fin 128) (n : Fin 65) (en : n.val = t.val) (hn : n.val < 64) :
    iblk m c 6 t (ix3 0 r k) = arg5 m c (ix2 k r) := by
  rw [b_at m c t k r n en, show (⟨n.val / 64, by omega⟩ : Fin 2) = 0 from Fin.ext (by show n.val / 64 = 0; omega), V_biases]
  exact biases_at0 _ _ _

/-- The biases of the sample's point. -/
theorem b_sample (c : Dev nD) (t : Fin cfg0.N) (k : Fin 8) (r : Fin 128) (n : Fin 65) (en : n.val = t.val) (hn : ¬n.val < 64) :
    iblk m c 6 t (ix3 0 r k) = arg5 m c (ix2 k ⟨r.val % 4, by omega⟩) := by
  rw [b_at m c t k r n en, show (⟨n.val / 64, by omega⟩ : Fin 2) = 1 from Fin.ext (by show n.val / 64 = 1; omega), V_biases]
  exact biases_at1 _ _ _

/-- The prompt's gate, at a row of a block and a column of a head. -/
theorem mixed_gate_prompt (c : Dev nD) (n : Fin 65) (hn : n.val < 64) (r : Fin 128) (k : Fin 8) (d : Fin 256) :
    mixed m c (ix2 ⟨n.val * 128 + r.val, by omega⟩ ⟨k.val * 256 + d.val, by omega⟩)
      = (arg0 m c (ix2 ⟨n.val * 128 + r.val, by omega⟩ ⟨k.val * 256 + d.val, by omega⟩) : EReal) *
        ((∑ x : Fin 128, if x.val ≤ r.val then
            (arg1 m c (ix2 ⟨n.val * 128 + x.val, by omega⟩ ⟨k.val * 256 + d.val, by omega⟩) : EReal)
              * arg4 m c (ix3 k r x) else 0)
          + arg5 m c (ix2 k r)) := by
  have ek : k = ⟨(k.val * 256 + d.val) / 256, by omega⟩ := Fin.ext (by show k.val = (k.val * 256 + d.val) / 256; omega)
  unfold mixed
  rw [Cert.Reference7Ideal.Parts.mixers_at, dif_pos (by show n.val * 128 + r.val < 8192; omega),
    dif_pos (by show k.val * 256 + d.val < 2048; omega)]
  refine (Cert.Reference7Ideal.Parts.gatePrompt_at _ _ _ _ ⟨n.val, hn⟩ r ⟨k.val * 256 + d.val, by omega⟩).trans ?_
  simp only [← ek]

/-- The sample's gate, at a row of its block and a column of a head. -/
theorem mixed_gate_sample (c : Dev nD) (n : Fin 65) (hn : ¬n.val < 64) (r : Fin 128) (k : Fin 8) (d : Fin 256) :
    mixed m c (ix2 ⟨n.val * 128 + r.val, by omega⟩ ⟨k.val * 256 + d.val, by omega⟩)
      = (arg0 m c (ix2 ⟨n.val * 128 + r.val, by omega⟩ ⟨k.val * 256 + d.val, by omega⟩) : EReal) *
        ((∑ x : Fin 4, if x.val ≤ r.val % 4 then
            (arg1 m c (ix2 ⟨n.val * 128 + (r.val / 4 * 4 + x.val), by omega⟩ ⟨k.val * 256 + d.val, by omega⟩) : EReal)
              * arg4 m c (ix3 k ⟨r.val % 4, by omega⟩ ⟨x.val, by omega⟩) else 0)
          + arg5 m c (ix2 k ⟨r.val % 4, by omega⟩)) := by
  have ek : k = ⟨(k.val * 256 + d.val) / 256, by omega⟩ := Fin.ext (by show k.val = (k.val * 256 + d.val) / 256; omega)
  have en : n.val = 64 := by omega
  have e1 : ∀ h, (⟨n.val * 128 + r.val - 8192, h⟩ : Fin 128) = ⟨r.val / 4 * 4 + r.val % 4, by omega⟩ :=
    fun h => Fin.ext (by show n.val * 128 + r.val - 8192 = r.val / 4 * 4 + r.val % 4; omega)
  have e2 : ∀ h, (⟨8192 + (r.val / 4 * 4 + r.val % 4), h⟩ : Fin 8320) = ⟨n.val * 128 + r.val, by omega⟩ :=
    fun h => Fin.ext (by show 8192 + (r.val / 4 * 4 + r.val % 4) = n.val * 128 + r.val; omega)
  have e3 : ∀ (x : Fin 4) h, (⟨8192 + (r.val / 4 * 4 + x.val), h⟩ : Fin 8320) = ⟨n.val * 128 + (r.val / 4 * 4 + x.val), by omega⟩ :=
    fun x h => Fin.ext (by show 8192 + (r.val / 4 * 4 + x.val) = n.val * 128 + (r.val / 4 * 4 + x.val); omega)
  unfold mixed
  rw [Cert.Reference7Ideal.Parts.mixers_at, dif_neg (by show ¬n.val * 128 + r.val < 8192; omega),
    dif_pos (by show k.val * 256 + d.val < 2048; omega)]
  simp only [e1]
  refine (Cert.Reference7Ideal.Parts.gateSample_at _ _ _ _ ⟨r.val / 4, by omega⟩ ⟨r.val % 4, by omega⟩ ⟨k.val * 256 + d.val, by omega⟩).trans ?_
  simp only [← ek, e2, e3]

/-- A head's piece of a point is the reference's gate at the same rows and columns. -/
theorem tile (c : Dev nD) (t : Fin cfg0.N) (n : Fin 65) (en : n.val = t.val) (k : Fin 8) (o : ℕ) (ho : o = k.val * 256)
    (r : Fin 128) (d : Fin 256) (y : S128x4096.Idx) (y0 : (y 0).val = r.val) (y1 : (y 1).val = o + d.val)
    (w : Vec Ideal S1x1x128x128 .bf16) (u : Vec Ideal S128x256 .f32)
    (hw : ∀ r s : Fin 128, w (ix4 0 0 r s) = iblk m c 5 t (ix4 0 k r s))
    (hu : ∀ (r : Fin 128) (d : Fin 256), u (ix2 r d) = iblk m c 0 t (ix2 r ⟨o + d.val, by omega⟩)) :
    head (iblk m c 1 t) w (iblk m c 6 t) u k r d
      = mixed m c (ix2 ⟨n.val * 128 + (y 0).val, by have : (y 0).val < 128 := (y 0).isLt; omega⟩ ⟨(y 1).val, by have : (y 1).val < 4096 := (y 1).isLt; exact this⟩) := by
  subst ho
  have ey : (ix2 (⟨n.val * 128 + (y 0).val, by omega⟩ : Fin 8320) (⟨(y 1).val, by omega⟩ : Fin 4096))
      = (ix2 (⟨n.val * 128 + r.val, by omega⟩ : Fin 8320) (⟨k.val * 256 + d.val, by omega⟩ : Fin 4096)) := by
    congr 1 <;> exact Fin.ext (by simp only []; omega)
  refine Eq.trans ?_ (congrArg _ ey.symm)
  unfold head
  rw [hu, u_at m c t _ _ n en]
  by_cases hn : n.val < 64
  · rw [mixed_gate_prompt m c n hn, b_prompt m c t k r n en hn]
    refine congrArg (fun q : EReal => _ * (q + _)) (Finset.sum_congr rfl fun x _ => ?_)
    rw [hw, w_prompt m c t k r x n en hn, v_at m c t _ _ n en]
    split_ifs
    · exact mul_comm (G := EReal) _ _
    · exact zero_mul (M₀ := EReal) _
  · rw [mixed_gate_sample m c n hn, b_sample m c t k r n en hn]
    refine congrArg (fun q : EReal => _ * (q + _)) ?_
    refine (Mixers.sum_four _ ⟨r.val / 4, by omega⟩ ?_).trans (Finset.sum_congr rfl fun x _ => ?_)
    · intro s hs
      rw [hw, w_sample m c t k r s n en hn, if_neg (fun e : r.val / 4 = s.val / 4 => hs e.symm)]
      split_ifs
      · rw [zero_mul (M₀ := EReal), zero_mul (M₀ := EReal)]
      · exact zero_mul (M₀ := EReal) _
    · rw [hw, w_sample m c t k r _ n en hn, v_at m c t _ _ n en]
      have f1 : (r.val / 4 * 4 + x.val) % 4 = x.val := by omega
      have f2 : r.val / 4 = (r.val / 4 * 4 + x.val) / 4 := by omega
      simp only [f1, if_pos f2]
      split_ifs
      · rw [one_mul (M := EReal)]
        exact mul_comm (G := EReal) _ _
      · exact zero_mul (M₀ := EReal) _

/-- Two rows back from a row of a block of the prompt, or zero before its sequence. -/
theorem back_two (Z : Fin 8320 → EReal) (n : Fin 65) (hn : n.val < 64) (r : Fin 128) :
    (if 2 ≤ r.val then Z ⟨n.val * 128 + (r.val + 128 - 2) % 128, by omega⟩
      else if r.val = 1 then (if n.val % 16 ≠ 0 then Z ⟨(n.val * 16 - 1) * 8 + 7, by omega⟩ else 0)
      else if n.val % 16 ≠ 0 then Z ⟨(n.val * 16 - 1) * 8 + 6, by omega⟩ else 0)
    = if h : 2 ≤ (n.val * 128 + r.val) % 2048 then Z ⟨n.val * 128 + r.val - 2, by omega⟩ else 0 := by
  split_ifs <;> first | rfl | (exfalso; omega) | exact congrArg Z (Fin.ext (by simp only []; omega))

/-- One row back from a row of a block of the prompt, or zero before its sequence. -/
theorem back_one (Z : Fin 8320 → EReal) (n : Fin 65) (hn : n.val < 64) (r : Fin 128) :
    (if 1 ≤ r.val then Z ⟨n.val * 128 + (r.val + 128 - 1) % 128, by omega⟩
      else if n.val % 16 ≠ 0 then Z ⟨(n.val * 16 - 1) * 8 + 7, by omega⟩ else 0)
    = if h : 1 ≤ (n.val * 128 + r.val) % 2048 then Z ⟨n.val * 128 + r.val - 1, by omega⟩ else 0 := by
  split_ifs <;> first | rfl | (exfalso; omega) | exact congrArg Z (Fin.ext (by simp only []; omega))

/-- The prompt's convolution, at a row of a block. -/
theorem mixed_conv_prompt (c : Dev nD) (n : Fin 65) (hn : n.val < 64) (r : Fin 128) (d : Fin 2048) :
    mixed m c (ix2 ⟨n.val * 128 + r.val, by omega⟩ ⟨2048 + d.val, by omega⟩)
      = (arg3 m c (ix2 ⟨n.val * 128 + r.val, by omega⟩ d) : EReal) *
        ((if h : 2 ≤ (n.val * 128 + r.val) % 2048 then (arg2 m c (ix2 ⟨n.val * 128 + r.val - 2, by omega⟩ d) : EReal) else 0) * arg6 m c (ix2 0 d)
          + (if h : 1 ≤ (n.val * 128 + r.val) % 2048 then (arg2 m c (ix2 ⟨n.val * 128 + r.val - 1, by omega⟩ d) : EReal) else 0) * arg6 m c (ix2 1 d)
          + (arg2 m c (ix2 ⟨n.val * 128 + r.val, by omega⟩ d) : EReal) * arg6 m c (ix2 2 d)) := by
  have ed : ∀ h, (⟨2048 + d.val - 2048, h⟩ : Fin 2048) = d := fun h => Fin.ext (by show 2048 + d.val - 2048 = d.val; omega)
  unfold mixed
  rw [Cert.Reference7Ideal.Parts.mixers_at, dif_pos (by show n.val * 128 + r.val < 8192; omega),
    dif_neg (by show ¬2048 + d.val < 2048; omega)]
  simp only [ed]
  exact Cert.Reference7Ideal.Parts.convPrompt_at _ _ _ ⟨n.val * 128 + r.val, by omega⟩ d

/-- The sample's convolution, at a row of its block. -/
theorem mixed_conv_sample (c : Dev nD) (n : Fin 65) (hn : ¬n.val < 64) (r : Fin 128) (d : Fin 2048) :
    mixed m c (ix2 ⟨n.val * 128 + r.val, by omega⟩ ⟨2048 + d.val, by omega⟩)
      = (arg3 m c (ix2 ⟨n.val * 128 + r.val, by omega⟩ d) : EReal) *
        ((if h : r.val % 4 < 2 then (arg7 m c (ix3 ⟨r.val / 4, by omega⟩ ⟨r.val % 4, h⟩ d) : EReal)
            else arg2 m c (ix2 ⟨8192 + (r.val / 4 * 4 + (r.val % 4 - 2)), by omega⟩ d)) * arg6 m c (ix2 0 d)
          + (if h : 1 + r.val % 4 < 2 then (arg7 m c (ix3 ⟨r.val / 4, by omega⟩ ⟨1 + r.val % 4, h⟩ d) : EReal)
            else arg2 m c (ix2 ⟨8192 + (r.val / 4 * 4 + (1 + r.val % 4 - 2)), by omega⟩ d)) * arg6 m c (ix2 1 d)
          + (arg2 m c (ix2 ⟨n.val * 128 + r.val, by omega⟩ d) : EReal) * arg6 m c (ix2 2 d)) := by
  have ed : ∀ h, (⟨2048 + d.val - 2048, h⟩ : Fin 2048) = d := fun h => Fin.ext (by show 2048 + d.val - 2048 = d.val; omega)
  have en : n.val = 64 := by omega
  have e1 : ∀ h, (⟨n.val * 128 + r.val - 8192, h⟩ : Fin 128) = ⟨r.val / 4 * 4 + r.val % 4, by omega⟩ :=
    fun h => Fin.ext (by show n.val * 128 + r.val - 8192 = r.val / 4 * 4 + r.val % 4; omega)
  have e2 : ∀ h, (⟨8192 + (r.val / 4 * 4 + r.val % 4), h⟩ : Fin 8320) = ⟨n.val * 128 + r.val, by omega⟩ :=
    fun h => Fin.ext (by show 8192 + (r.val / 4 * 4 + r.val % 4) = n.val * 128 + r.val; omega)
  unfold mixed
  rw [Cert.Reference7Ideal.Parts.mixers_at, dif_neg (by show ¬n.val * 128 + r.val < 8192; omega),
    dif_neg (by show ¬2048 + d.val < 2048; omega)]
  simp only [ed, e1]
  refine (Cert.Reference7Ideal.Parts.convSample_at _ _ _ _ ⟨r.val / 4, by omega⟩ ⟨r.val % 4, by omega⟩ d).trans ?_
  simp only [e2]

/-- The convolution's piece of a point of the prompt is the reference's. -/
theorem conv_prompt (c : Dev nD) (t : Fin cfg0.N) (n : Fin 65) (en : n.val = t.val) (hn : n.val < 64)
    (r : Fin 128) (d : Fin 2048) (y : S128x4096.Idx) (y0 : (y 0).val = r.val) (y1 : (y 1).val = 2048 + d.val)
    (h1 h2 : Vec Ideal S1x2048 .f32)
    (k1 : ∀ d : Fin 2048, h1 (ix2 0 d) = iblk m c 4 t (ix2 7 d)) (k2 : ∀ d : Fin 2048, h2 (ix2 0 d) = iblk m c 4 t (ix2 6 d)) :
    k0_pay5 (F := Ideal) (iblk m c 2 t) (iblk m c 7 t)
      (k0_pay7 (F := Ideal) (BitVec.ofNat 32 ((grid0.coords t) 0).val) (iota .tc S128x1 32 [0] iota_S128x1_d0_w32) (k0_pay4 (F := Ideal) (iblk m c 2 t)) (iblk m c 7 t) h1 h2)
      (k0_pay8 (F := Ideal) (BitVec.ofNat 32 ((grid0.coords t) 0).val) (iota .tc S128x1 32 [0] iota_S128x1_d0_w32) (k0_pay3 (F := Ideal) (iblk m c 2 t)) (iblk m c 7 t) h1)
      (iblk m c 3 t) (ix2 r d)
      = mixed m c (ix2 ⟨n.val * 128 + (y 0).val, by have : (y 0).val < 128 := (y 0).isLt; omega⟩ ⟨(y 1).val, by have : (y 1).val < 4096 := (y 1).isLt; exact this⟩) := by
  have ey : (ix2 (⟨n.val * 128 + (y 0).val, by omega⟩ : Fin 8320) (⟨(y 1).val, by omega⟩ : Fin 4096))
      = (ix2 (⟨n.val * 128 + r.val, by omega⟩ : Fin 8320) (⟨2048 + d.val, by omega⟩ : Fin 4096)) := by
    congr 1 <;> exact Fin.ext (by simp only []; omega)
  refine Eq.trans ?_ (congrArg _ ey.symm)
  have hc : ((grid0.coords t) 0).val = n.val := by rw [coord_at, en]
  rw [hc]
  refine (convA_at ⟨n.val, hn⟩ _ _ _ _ _ r d).trans ?_
  rw [mixed_conv_prompt m c n hn, ← back_two (fun i => arg2 m c (ix2 i d)) n hn r, ← back_one (fun i => arg2 m c (ix2 i d)) n hn r]
  rw [k1, k2, halo_at m c t _ _ n en, halo_at m c t _ _ n en, g_at m c t _ _ n en, z_at m c t _ _ n en, z_at m c t _ _ n en,
    z_at m c t _ _ n en, cw_at, cw_at, cw_at]
  simp only [mul_comm (G := EReal) (arg6 m c _)]
  rfl

/-- The convolution's piece of the sample's point is the reference's. -/
theorem conv_sample (c : Dev nD) (t : Fin cfg0.N) (n : Fin 65) (en : n.val = t.val) (hn : ¬n.val < 64)
    (r : Fin 128) (d : Fin 2048) (y : S128x4096.Idx) (y0 : (y 0).val = r.val) (y1 : (y 1).val = 2048 + d.val)
    (s1 s2 : Vec Ideal S1x128x2048 .f32)
    (k1 : ∀ (r : Fin 128) (d : Fin 2048), s1 (ix3 0 r d) = iblk m c 8 t (ix3 0 r d))
    (k2 : ∀ (r : Fin 128) (d : Fin 2048), s2 (ix3 0 r d) = iblk m c 8 t (ix3 1 r d)) :
    k0_pay9 (F := Ideal) (iblk m c 2 t) (iota .tc S128x1 32 [0] iota_S128x1_d0_w32) (k0_pay3 (F := Ideal) (iblk m c 2 t)) (k0_pay4 (F := Ideal) (iblk m c 2 t))
      (iblk m c 7 t) s1 s2 (iblk m c 3 t) (ix2 r d)
      = mixed m c (ix2 ⟨n.val * 128 + (y 0).val, by have : (y 0).val < 128 := (y 0).isLt; omega⟩ ⟨(y 1).val, by have : (y 1).val < 4096 := (y 1).isLt; exact this⟩) := by
  have ey : (ix2 (⟨n.val * 128 + (y 0).val, by omega⟩ : Fin 8320) (⟨(y 1).val, by omega⟩ : Fin 4096))
      = (ix2 (⟨n.val * 128 + r.val, by omega⟩ : Fin 8320) (⟨2048 + d.val, by omega⟩ : Fin 4096)) := by
    congr 1 <;> exact Fin.ext (by simp only []; omega)
  refine Eq.trans ?_ (congrArg _ ey.symm)
  refine (convB_at _ _ _ _ _ r d).trans ?_
  rw [mixed_conv_sample m c n hn]
  rw [k1, k2, s_at, s_at, V_kept, g_at m c t _ _ n en, z_at m c t _ _ n en, z_at m c t _ _ n en,
    z_at m c t _ _ n en, cw_at, cw_at, cw_at]
  simp only [mul_comm (G := EReal) (arg6 m c _)]
  have t2 : (if 2 ≤ r.val % 4 then (arg2 m c (ix2 ⟨n.val * 128 + (r.val + 128 - 2) % 128, by omega⟩ d) : EReal)
        else (kept (arg7 m c) (ix3 1 r d) : EReal))
      = if h : r.val % 4 < 2 then (arg7 m c (ix3 ⟨r.val / 4, by omega⟩ ⟨r.val % 4, h⟩ d) : EReal)
            else arg2 m c (ix2 ⟨8192 + (r.val / 4 * 4 + (r.val % 4 - 2)), by omega⟩ d) := by
    by_cases h : r.val % 4 < 2
    · rw [if_neg (by omega), dif_pos h]; exact kept_at1 _ r d h
    · rw [if_pos (by omega), dif_neg h]
      exact congrArg (fun q => arg2 m c (ix2 q d)) (Fin.ext (by simp only []; omega))
  have t1 : (if 1 ≤ r.val % 4 then (arg2 m c (ix2 ⟨n.val * 128 + (r.val + 128 - 1) % 128, by omega⟩ d) : EReal)
        else (kept (arg7 m c) (ix3 0 r d) : EReal))
      = if h : 1 + r.val % 4 < 2 then (arg7 m c (ix3 ⟨r.val / 4, by omega⟩ ⟨1 + r.val % 4, h⟩ d) : EReal)
            else arg2 m c (ix2 ⟨8192 + (r.val / 4 * 4 + (1 + r.val % 4 - 2)), by omega⟩ d) := by
    by_cases h : 1 + r.val % 4 < 2
    · rw [if_neg (by omega), dif_pos h]
      refine (kept_at0 _ r d (by omega)).trans ?_
      exact congrArg (fun q => arg7 m c (ix3 _ q d)) (Fin.ext (by show 1 = 1 + r.val % 4; omega))
    · rw [if_pos (by omega), dif_neg h]
      exact congrArg (fun q => arg2 m c (ix2 q d)) (Fin.ext (by simp only []; omega))
  rw [← t2, ← t1]
set_option maxHeartbeats 0 in
/-- A point of the grid stores the reference's mixers at the rows of its block. -/
theorem point (c : Dev nD) (t : Fin cfg0.N) (n : Fin 65) (en : n.val = t.val) (y : S128x4096.Idx) :
    (dats m 0 c).after 9 t y
      = mixed m c (ix2 ⟨n.val * 128 + (y 0).val, by have : (y 0).val < 128 := (y 0).isLt; omega⟩ ⟨(y 1).val, by have : (y 1).val < 4096 := (y 1).isLt; exact this⟩) := by
  by_cases hn : n.val < 64
  · rw [after0_9, outsAt0_A m c t (by omega) (by omega)]
    frame_out
    canon_tiles x h using (View.cover_of_tiledBy _ ![128, 256] (by sl_kernel_rfl) y)
    case piece0 =>
      obtain ⟨r, e, rfl⟩ := coords_of x
      refine conv_prompt m c t n en hn r e y h0 h1 _ _ ?_ ?_
      · intro d; pointwise
      · intro d; pointwise
    case piece1 =>
      obtain ⟨r, e, rfl⟩ := coords_of x
      refine (piece7_at _ _ _ _ r e).trans (tile m c t n en 7 1792 rfl r e y h0 h1 _ _ ?_ ?_)
      · intro r s; pointwise
      · intro r d; pointwise
    case piece2 =>
      obtain ⟨r, e, rfl⟩ := coords_of x
      refine (piece6_at _ _ _ _ r e).trans (tile m c t n en 6 1536 rfl r e y h0 h1 _ _ ?_ ?_)
      · intro r s; pointwise
      · intro r d; pointwise
    case piece3 =>
      obtain ⟨r, e, rfl⟩ := coords_of x
      refine (piece5_at _ _ _ _ r e).trans (tile m c t n en 5 1280 rfl r e y h0 h1 _ _ ?_ ?_)
      · intro r s; pointwise
      · intro r d; pointwise
    case piece4 =>
      obtain ⟨r, e, rfl⟩ := coords_of x
      refine (piece4_at _ _ _ _ r e).trans (tile m c t n en 4 1024 rfl r e y h0 h1 _ _ ?_ ?_)
      · intro r s; pointwise
      · intro r d; pointwise
    case piece5 =>
      obtain ⟨r, e, rfl⟩ := coords_of x
      refine (piece3_at _ _ _ _ r e).trans (tile m c t n en 3 768 rfl r e y h0 h1 _ _ ?_ ?_)
      · intro r s; pointwise
      · intro r d; pointwise
    case piece6 =>
      obtain ⟨r, e, rfl⟩ := coords_of x
      refine (piece2_at _ _ _ _ r e).trans (tile m c t n en 2 512 rfl r e y h0 h1 _ _ ?_ ?_)
      · intro r s; pointwise
      · intro r d; pointwise
    case piece7 =>
      obtain ⟨r, e, rfl⟩ := coords_of x
      refine (piece1_at _ _ _ _ r e).trans (tile m c t n en 1 256 rfl r e y h0 h1 _ _ ?_ ?_)
      · intro r s; pointwise
      · intro r d; pointwise
    case piece8 =>
      obtain ⟨r, e, rfl⟩ := coords_of x
      refine (piece0_at _ _ _ _ r e).trans (tile m c t n en 0 0 rfl r e y h0 (h1.trans (Nat.zero_add _).symm) _ _ ?_ ?_)
      · intro r s; pointwise
      · intro r d; pointwise
  · rw [after0_9, outsAt0_B m c t (by omega) (by omega)]
    frame_out
    canon_tiles x h using (View.cover_of_tiledBy _ ![128, 256] (by sl_kernel_rfl) y)
    case piece0 =>
      obtain ⟨r, e, rfl⟩ := coords_of x
      refine conv_sample m c t n en hn r e y h0 h1 _ _ ?_ ?_
      · intro r d; pointwise
      · intro r d; pointwise
    case piece1 =>
      obtain ⟨r, e, rfl⟩ := coords_of x
      refine (piece7_at _ _ _ _ r e).trans (tile m c t n en 7 1792 rfl r e y h0 h1 _ _ ?_ ?_)
      · intro r s; pointwise
      · intro r d; pointwise
    case piece2 =>
      obtain ⟨r, e, rfl⟩ := coords_of x
      refine (piece6_at _ _ _ _ r e).trans (tile m c t n en 6 1536 rfl r e y h0 h1 _ _ ?_ ?_)
      · intro r s; pointwise
      · intro r d; pointwise
    case piece3 =>
      obtain ⟨r, e, rfl⟩ := coords_of x
      refine (piece5_at _ _ _ _ r e).trans (tile m c t n en 5 1280 rfl r e y h0 h1 _ _ ?_ ?_)
      · intro r s; pointwise
      · intro r d; pointwise
    case piece4 =>
      obtain ⟨r, e, rfl⟩ := coords_of x
      refine (piece4_at _ _ _ _ r e).trans (tile m c t n en 4 1024 rfl r e y h0 h1 _ _ ?_ ?_)
      · intro r s; pointwise
      · intro r d; pointwise
    case piece5 =>
      obtain ⟨r, e, rfl⟩ := coords_of x
      refine (piece3_at _ _ _ _ r e).trans (tile m c t n en 3 768 rfl r e y h0 h1 _ _ ?_ ?_)
      · intro r s; pointwise
      · intro r d; pointwise
    case piece6 =>
      obtain ⟨r, e, rfl⟩ := coords_of x
      refine (piece2_at _ _ _ _ r e).trans (tile m c t n en 2 512 rfl r e y h0 h1 _ _ ?_ ?_)
      · intro r s; pointwise
      · intro r d; pointwise
    case piece7 =>
      obtain ⟨r, e, rfl⟩ := coords_of x
      refine (piece1_at _ _ _ _ r e).trans (tile m c t n en 1 256 rfl r e y h0 h1 _ _ ?_ ?_)
      · intro r s; pointwise
      · intro r d; pointwise
    case piece8 =>
      obtain ⟨r, e, rfl⟩ := coords_of x
      refine (piece0_at _ _ _ _ r e).trans (tile m c t n en 0 0 rfl r e y h0 (h1.trans (Nat.zero_add _).symm) _ _ ?_ ?_)
      · intro r s; pointwise
      · intro r d; pointwise

/-- At the end of the grid the result is the reference's mixers. -/
theorem final (c : Dev nD) : (dats m 0 c).arrAt 9 (cfgs 0).N = mixed m c := by
  refine (dats m 0 c).arrAt_eq_of_covers 9 _ (by decide +kernel) fun t hf y => ?_
  blk_simp
  refine (point m c t ⟨t.val, t_lt t⟩ rfl y).trans ?_
  blk_ext [blocks_at t]

/-- From the same arguments the reference ends with the kernel's result. -/
theorem result (m' : (ℓ : Loc Cert.Reference7Ideal.nD Cert.Reference7Ideal.τ Cert.Reference7Ideal.sig) → Buf (Elt Ideal) ℓ)
    (hagree : ∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7))
    (c : Dev nD) :
    Cert.Reference7Ideal.Value.res_out0 m' c = (dats m 0 c).arrAt 9 (cfgs 0).N := by
  obtain ⟨e0, e1, e2, e3, e4, e5, e6, e7⟩ := hagree c
  rw [final m c, Cert.Reference7Ideal.Parts.res_eq, mixed]
  simp only [arg0, arg1, arg2, arg3, arg4, arg5, arg6, arg7]
  rw [← e0, ← e1, ← e2, ← e3, ← e4, ← e5, ← e6, ← e7]

end Cert.Kernel7Ideal.RefValue
-- ==== Proof.lean ====
module

public import proofs.«01_k».proof.Defs
public import proofs.«01_k».proof.Proof.Gen.Kernel.Frame
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Easy
public import proofs.«01_k».proof.Proof.Attn
public import proofs.«01_k».proof.Proof.Sample
public import proofs.«01_k».proof.Proof.Mix
public import Idealize.ShloMosaic.Adequacy
public import Idealize.ShloMosaic.Init

@[expose] public section

noncomputable section

namespace Cert.Proof

open Idealize.ShloMosaic Idealize.SL.Sem

/-- The attention kernel and its reference end with equal results. -/
theorem algebraic : Cert.algebraic_KernelIdeal_ReferenceIdeal_pre_finite_prompt := by
  pair_intro
  · run_from Cert.KernelIdeal.Value.run_blocks m g
  · run_from Cert.ReferenceIdeal.Value.run m' g'
    · exact Cert.KernelIdeal.RefValue.result m m' hpre hagree c

/-- Kernel 6 and its reference end with equal results. -/
theorem algebraic6 : Cert.algebraic_Kernel6Ideal_Reference6Ideal_pre_finite_sample := by
  pair_intro
  · run_from Cert.Kernel6Ideal.Value.run_blocks m g
  · run_from Cert.Reference6Ideal.Value.run m' g'
    · exact Cert.Kernel6Ideal.RefValue.result m m' hpre hagree c

/-- Kernel 7 and its reference end with equal results. -/
theorem algebraic7 : Cert.algebraic_Kernel7Ideal_Reference7Ideal := by
  pair_intro
  · run_from Cert.Kernel7Ideal.Value.run_blocks m g
  · run_from Cert.Reference7Ideal.Value.run m' g'
    · exact Cert.Kernel7Ideal.RefValue.result m m' hagree c

/-- Reference ends with its arguments unchanged and every semaphore at zero. -/
theorem quiet_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Reference ends so from the inputs of its precondition too. -/
theorem quiet_reference_prompt : Cert.quiescent_ReferenceIdeal_pre_finite_prompt := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Reference2 ends with its arguments unchanged and every semaphore at zero. -/
theorem quiet_reference2 : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

/-- Reference3 ends with its arguments unchanged and every semaphore at zero. -/
theorem quiet_reference3 : Cert.quiescent_Reference3Ideal := fun m ρ _ =>
  (θ_run Cert.Reference3Ideal.defs _ _).mono
    (fun r h => ⟨fun c => (h c).2.2.2.2, sem_eq_zero_of_no_sems (by decide) r.2⟩)
    (Cert.Reference3Ideal.Value.run (F := Ideal) m ρ)

/-- Reference4 ends with its arguments unchanged and every semaphore at zero. -/
theorem quiet_reference4 : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

/-- Reference5 ends with its arguments unchanged and every semaphore at zero. -/
theorem quiet_reference5 : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run (F := Ideal) m ρ)

/-- Reference6 ends with its arguments unchanged and every semaphore at zero. -/
theorem quiet_reference6 : Cert.quiescent_Reference6Ideal := fun m ρ _ =>
  (θ_run Cert.Reference6Ideal.defs _ _).mono
    (fun r h => ⟨fun c => (h c).2, sem_eq_zero_of_no_sems (by decide) r.2⟩)
    (Cert.Reference6Ideal.Value.run (F := Ideal) m ρ)

/-- Reference6 ends so from the inputs of its precondition too. -/
theorem quiet_reference6_sample : Cert.quiescent_Reference6Ideal_pre_finite_sample := fun m ρ _ =>
  (θ_run Cert.Reference6Ideal.defs _ _).mono
    (fun r h => ⟨fun c => (h c).2, sem_eq_zero_of_no_sems (by decide) r.2⟩)
    (Cert.Reference6Ideal.Value.run (F := Ideal) m ρ)

/-- Reference7 ends with its arguments unchanged and every semaphore at zero. -/
theorem quiet_reference7 : Cert.quiescent_Reference7Ideal := fun m ρ _ =>
  (θ_run Cert.Reference7Ideal.defs _ _).mono
    (fun r h => ⟨fun c => (h c).2, sem_eq_zero_of_no_sems (by decide) r.2⟩)
    (Cert.Reference7Ideal.Value.run (F := Ideal) m ρ)

/-- Reference8 ends with its arguments unchanged and every semaphore at zero. -/
theorem quiet_reference8 : Cert.quiescent_Reference8Ideal := fun m ρ _ =>
  (θ_run Cert.Reference8Ideal.defs _ _).mono
    (fun r h => ⟨fun c => (h c).2, sem_eq_zero_of_no_sems (by decide) r.2⟩)
    (Cert.Reference8Ideal.Value.run (F := Ideal) m ρ)

/-- Reference9 ends with its arguments unchanged and every semaphore at zero. -/
theorem quiet_reference9 : Cert.quiescent_Reference9Ideal := fun m ρ _ =>
  (θ_run Cert.Reference9Ideal.defs _ _).mono
    (fun r h => ⟨fun c => (h c).2.2, sem_eq_zero_of_no_sems (by decide) r.2⟩)
    (Cert.Reference9Ideal.Value.run (F := Ideal) m ρ)

/-- Reference10 ends with its arguments unchanged and every semaphore at zero. -/
theorem quiet_reference10 : Cert.quiescent_Reference10Ideal := fun m ρ _ =>
  (θ_run Cert.Reference10Ideal.defs _ _).mono
    (fun r h => ⟨fun c => (h c).2, sem_eq_zero_of_no_sems (by decide) r.2⟩)
    (Cert.Reference10Ideal.Value.run (F := Ideal) m ρ)

/-- Every claim of the certificate. -/
theorem claim : Cert.Claim :=
  ⟨Cert.Kernel.Gen.facts, Cert.KernelIdeal.Gen.facts, Cert.ReferenceIdeal.Gen.facts,
   Cert.Kernel2.Gen.facts, Cert.Kernel2Ideal.Gen.facts, Cert.Reference2Ideal.Gen.facts,
   Cert.Kernel3.Gen.facts, Cert.Kernel3Ideal.Gen.facts, Cert.Reference3Ideal.Gen.facts,
   Cert.Kernel4.Gen.facts, Cert.Kernel4Ideal.Gen.facts, Cert.Reference4Ideal.Gen.facts,
   Cert.Kernel5.Gen.facts, Cert.Kernel5Ideal.Gen.facts, Cert.Reference5Ideal.Gen.facts,
   Cert.Kernel6.Gen.facts, Cert.Kernel6Ideal.Gen.facts, Cert.Reference6Ideal.Gen.facts,
   Cert.Kernel7.Gen.facts, Cert.Kernel7Ideal.Gen.facts, Cert.Reference7Ideal.Gen.facts,
   Cert.Kernel8.Gen.facts, Cert.Kernel8Ideal.Gen.facts, Cert.Reference8Ideal.Gen.facts,
   Cert.Kernel9.Gen.facts, Cert.Kernel9Ideal.Gen.facts, Cert.Reference9Ideal.Gen.facts,
   Cert.Kernel10.Gen.facts, Cert.Kernel10Ideal.Gen.facts, Cert.Reference10Ideal.Gen.facts,
   Cert.Pre_finite_prompt.shapes, Cert.Pre_finite_sample.shapes,
   fun m ρ _ => Cert.Kernel.Gen.frame m ρ, fun m ρ _ => Cert.KernelIdeal.Gen.frame m ρ, fun m ρ _ => Cert.KernelIdeal.Gen.frame m ρ, quiet_reference, quiet_reference_prompt,
   fun m ρ _ => Cert.Kernel2.Gen.frame m ρ, fun m ρ _ => Cert.Kernel2Ideal.Gen.frame m ρ, quiet_reference2,
   fun m ρ _ => Cert.Kernel3.Gen.frame m ρ, fun m ρ _ => Cert.Kernel3Ideal.Gen.frame m ρ, quiet_reference3,
   fun m ρ _ => Cert.Kernel4.Gen.frame m ρ, fun m ρ _ => Cert.Kernel4Ideal.Gen.frame m ρ, quiet_reference4,
   fun m ρ _ => Cert.Kernel5.Gen.frame m ρ, fun m ρ _ => Cert.Kernel5Ideal.Gen.frame m ρ, quiet_reference5,
   fun m ρ _ => Cert.Kernel6.Gen.frame m ρ, fun m ρ _ => Cert.Kernel6Ideal.Gen.frame m ρ, fun m ρ _ => Cert.Kernel6Ideal.Gen.frame m ρ, quiet_reference6, quiet_reference6_sample,
   fun m ρ _ => Cert.Kernel7.Gen.frame m ρ, fun m ρ _ => Cert.Kernel7Ideal.Gen.frame m ρ, quiet_reference7,
   fun m ρ _ => Cert.Kernel8.Gen.frame m ρ, fun m ρ _ => Cert.Kernel8Ideal.Gen.frame m ρ, quiet_reference8,
   fun m ρ _ => Cert.Kernel9.Gen.frame m ρ, fun m ρ _ => Cert.Kernel9Ideal.Gen.frame m ρ, quiet_reference9,
   fun m ρ _ => Cert.Kernel10.Gen.frame m ρ, fun m ρ _ => Cert.Kernel10Ideal.Gen.frame m ρ, quiet_reference10,
   IdealRules.named_const.statement Cert.KernelIdeal.κ "mask" .f32 0xF149F2CA#32 ⊥ rfl, algebraic,
   trivial, algebraic2,
   trivial, algebraic3,
   trivial, algebraic4,
   trivial, algebraic5,
   IdealRules.named_const.statement Cert.Kernel6Ideal.κ "mask" .f32 0xF149F2CA#32 ⊥ rfl, algebraic6,
   trivial, algebraic7,
   trivial, algebraic8,
   trivial, algebraic9,
   trivial, algebraic10⟩

end Cert.Proof
